-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 4096]⟩ ⟨2, ![8192, 4096]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x512 : Shape := ⟨2, ![8192, 512]⟩
abbrev S512x4096 : Shape := ⟨2, ![512, 4096]⟩
abbrev S16 : Shape := ⟨1, ![16]⟩
abbrev S_ : Shape := ⟨0, ![]⟩
abbrev S1 : Shape := ⟨1, ![1]⟩
abbrev S3 : Shape := ⟨1, ![3]⟩
abbrev S8192x4096 : Shape := ⟨2, ![8192, 4096]⟩
abbrev S4x256x4096 : Shape := ⟨3, ![4, 256, 4096]⟩
abbrev S256x4096 : Shape := ⟨2, ![256, 4096]⟩
abbrev S2x4 : Shape := ⟨2, ![2, 4]⟩
abbrev S15x4 : Shape := ⟨2, ![15, 4]⟩
abbrev S256x512 : Shape := ⟨2, ![256, 512]⟩
abbrev S1x256x4096 : Shape := ⟨3, ![1, 256, 4096]⟩
abbrev S1x1 : Shape := ⟨2, ![1, 1]⟩
abbrev S1x64x4096 : Shape := ⟨3, ![1, 64, 4096]⟩
abbrev S64x4096 : Shape := ⟨2, ![64, 4096]⟩

abbrev nBuf : Space → Nat
  | .hbm => 39
  | .vmem => 8
  | .smem => 1
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S16, .i32⟩
  | .hbm, ⟨3, _⟩ => ⟨S16, .i32⟩
  | .hbm, ⟨4, _⟩ => ⟨S16, .i32⟩
  | .hbm, ⟨5, _⟩ => ⟨S8192x512, .bf16⟩
  | .hbm, ⟨6, _⟩ => ⟨S512x4096, .bf16⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S1, .i32⟩
  | .hbm, ⟨36, _⟩ => ⟨S1, .i32⟩
  | .hbm, ⟨37, _⟩ => ⟨S3, .i32⟩
  | .hbm, ⟨38, _⟩ => ⟨S8192x4096, .f32⟩
  | .local _ .vmem, ⟨0, _⟩ => ⟨S8192x512, .bf16⟩
  | .local _ .vmem, ⟨1, _⟩ => ⟨S512x4096, .bf16⟩
  | .local _ .vmem, ⟨2, _⟩ => ⟨S4x256x4096, .bf16⟩
  | .local _ .vmem, ⟨3, _⟩ => ⟨S4x256x4096, .bf16⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .smem, ⟨0, _⟩ => ⟨S3, .i32⟩
  | _, _ => ⟨S8192x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 491 → Bool
  | ⟨i, _⟩ => dmaSemScopedAt i

abbrev sig : RefSig :=
  (ofTc nBuf bufTy 3 491 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_c_2 : Ref sig .tc := ⟨.hbm, 7, rfl⟩
abbrev main_c_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_4 : Ref sig .tc := ⟨.hbm, 13, rfl⟩
abbrev main_v7 : Ref sig .tc := ⟨.hbm, 14, rfl⟩
abbrev main_c_5 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_6 : Ref sig .tc := ⟨.hbm, 20, rfl⟩
abbrev main_v12 : Ref sig .tc := ⟨.hbm, 21, rfl⟩
abbrev main_c_7 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_8 : Ref sig .tc := ⟨.hbm, 27, rfl⟩
abbrev main_v17 : Ref sig .tc := ⟨.hbm, 28, rfl⟩
abbrev main_c_9 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 2

abbrev nD : Nat := 16
abbrev τ : Topo := Topo.v7x

variable {F : FTy → Type} [FloatOps F]

abbrev grid0 : Pipeline.Grid := .none

def k0_dev1 (v2 : BitVec 32) : Nat :=
  v2.toNat

def k0_dev2 (v1 : BitVec 32) : Nat :=
  v1.toNat

def k0_off1 (v0 : BitVec 32) (c0_i32 : BitVec 32) : Fin 2 → Nat :=
  let c512_i32 : BitVec 32 := 512#32
  let v4 : BitVec 32 := Scalar.muli v0 c512_i32
  let v5 : BitVec 32 := Scalar.addi v4 c0_i32
  let v6 : Index := Scalar.indexCast v5
  let c0_1 : Index := 0#32
  ![v6.toNat, 0]

def k0_dev3 (v1 : BitVec 32) : Nat :=
  v1.toNat
def k0_dev4 (v1 : BitVec 32) : Nat :=
  v1.toNat
def k0_dev5 (v1 : BitVec 32) : Nat :=
  v1.toNat
def k0_dev6 (v1 : BitVec 32) : Nat :=
  v1.toNat
def k0_dev7 (v2 : BitVec 32) : Nat :=
  v2.toNat
def k0_dev8 (v2 : BitVec 32) : Nat :=
  v2.toNat
def k0_dev9 (v2 : BitVec 32) : Nat :=
  v2.toNat
def k0_dev10 (v2 : BitVec 32) : Nat :=
  v2.toNat
def k0_off2 (v0 : BitVec 32) (c1_i32_93 : BitVec 32) : Fin 2 → Nat :=
  let v97 : BitVec 32 := Scalar.subi v0 c1_i32_93
  let c32_i32_94 : BitVec 32 := 32#32
  let v98 : BitVec 32 := Scalar.addi v97 c32_i32_94
  let c16_i32_95 : BitVec 32 := 16#32
  let v99 : BitVec 32 := Scalar.remsi v98 c16_i32_95
  let c512_i32_96 : BitVec 32 := 512#32
  let v100 : BitVec 32 := Scalar.muli v99 c512_i32_96
  let c0_i32_97 : BitVec 32 := 0#32
  let v101 : BitVec 32 := Scalar.addi v100 c0_i32_97
  let v102 : Index := Scalar.indexCast v101
  let c0_98 : Index := 0#32
  ![v102.toNat, 0]
def k0_off3 (v0 : BitVec 32) (c1_i32_104 : BitVec 32) : Fin 2 → Nat :=
  let v111 : BitVec 32 := Scalar.addi v0 c1_i32_104
  let c16_i32_105 : BitVec 32 := 16#32
  let v112 : BitVec 32 := Scalar.remsi v111 c16_i32_105
  let c512_i32_106 : BitVec 32 := 512#32
  let v113 : BitVec 32 := Scalar.muli v112 c512_i32_106
  let c256_i32_107 : BitVec 32 := 256#32
  let v114 : BitVec 32 := Scalar.addi v113 c256_i32_107
  let v115 : Index := Scalar.indexCast v114
  let c0_108 : Index := 0#32
  ![v115.toNat, 0]
def k0_dev11 (v1 : BitVec 32) : Nat :=
  v1.toNat
def k0_dev12 (v2 : BitVec 32) : Nat :=
  v2.toNat
def k0_dev13 (v1 : BitVec 32) : Nat :=
  v1.toNat
def k0_dev14 (v2 : BitVec 32) : Nat :=
  v2.toNat
def k0_dev15 (v1 : BitVec 32) : Nat :=
  v1.toNat
def k0_dev16 (v2 : BitVec 32) : Nat :=
  v2.toNat
def k0_dev17 (v1 : BitVec 32) : Nat :=
  v1.toNat
def k0_dev18 (v2 : BitVec 32) : Nat :=
  v2.toNat
def k0_dev19 (v2 : BitVec 32) : Nat :=
  v2.toNat
def k0_dev20 (v1 : BitVec 32) : Nat :=
  v1.toNat
def k0_dev21 (v2 : BitVec 32) : Nat :=
  v2.toNat
def k0_dev22 (v1 : BitVec 32) : Nat :=
  v1.toNat
def k0_dev23 (v2 : BitVec 32) : Nat :=
  v2.toNat
def k0_dev24 (v1 : BitVec 32) : Nat :=
  v1.toNat
def k0_dev25 (v2 : BitVec 32) : Nat :=
  v2.toNat
def k0_dev26 (v1 : BitVec 32) : Nat :=
  v1.toNat
def k0_dev27 (v1 : BitVec 32) : Nat :=
  v1.toNat
def k0_dev28 (v2 : BitVec 32) : Nat :=
  v2.toNat
def k0_dev29 (v1 : BitVec 32) : Nat :=
  v1.toNat
def k0_dev30 (v2 : BitVec 32) : Nat :=
  v2.toNat
def k0_dev31 (v1 : BitVec 32) : Nat :=
  v1.toNat
def k0_dev32 (v2 : BitVec 32) : Nat :=
  v2.toNat
def k0_dev33 (v1 : BitVec 32) : Nat :=
  v1.toNat
def k0_dev34 (v2 : BitVec 32) : Nat :=
  v2.toNat
def k0_dev35 (v2 : BitVec 32) : Nat :=
  v2.toNat
def k0_dev36 (v1 : BitVec 32) : Nat :=
  v1.toNat
def k0_dev37 (v2 : BitVec 32) : Nat :=
  v2.toNat
def k0_dev38 (v1 : BitVec 32) : Nat :=
  v1.toNat
def k0_dev39 (v2 : BitVec 32) : Nat :=
  v2.toNat
def k0_dev40 (v1 : BitVec 32) : Nat :=
  v1.toNat
def k0_dev41 (v2 : BitVec 32) : Nat :=
  v2.toNat
def k0_dev42 (v1 : BitVec 32) : Nat :=
  v1.toNat
def k0_dev43 (v1 : BitVec 32) : Nat :=
  v1.toNat
def k0_dev44 (v2 : BitVec 32) : Nat :=
  v2.toNat
def k0_dev45 (v1 : BitVec 32) : Nat :=
  v1.toNat
def k0_dev46 (v2 : BitVec 32) : Nat :=
  v2.toNat
def k0_dev47 (v1 : BitVec 32) : Nat :=
  v1.toNat
def k0_dev48 (v2 : BitVec 32) : Nat :=
  v2.toNat
def k0_dev49 (v1 : BitVec 32) : Nat :=
  v1.toNat
def k0_dev50 (v2 : BitVec 32) : Nat :=
  v2.toNat
def k0_dev51 (v2 : BitVec 32) : Nat :=
  v2.toNat
def k0_dev52 (v1 : BitVec 32) : Nat :=
  v1.toNat
def k0_dev53 (v2 : BitVec 32) : Nat :=
  v2.toNat
def k0_dev54 (v1 : BitVec 32) : Nat :=
  v1.toNat
def k0_dev55 (v2 : BitVec 32) : Nat :=
  v2.toNat
def k0_dev56 (v1 : BitVec 32) : Nat :=
  v1.toNat
def k0_dev57 (v2 : BitVec 32) : Nat :=
  v2.toNat
def k0_dev58 (v1 : BitVec 32) : Nat :=
  v1.toNat
def k0_dev59 (v1 : BitVec 32) : Nat :=
  v1.toNat
def k0_dev60 (v2 : BitVec 32) : Nat :=
  v2.toNat
def k0_dev61 (v1 : BitVec 32) : Nat :=
  v1.toNat
def k0_dev62 (v2 : BitVec 32) : Nat :=
  v2.toNat
def k0_dev63 (v1 : BitVec 32) : Nat :=
  v1.toNat
def k0_dev64 (v2 : BitVec 32) : Nat :=
  v2.toNat
def k0_dev65 (v1 : BitVec 32) : Nat :=
  v1.toNat
def k0_dev66 (v2 : BitVec 32) : Nat :=
  v2.toNat
def k0_dev67 (v2 : BitVec 32) : Nat :=
  v2.toNat
def k0_dev68 (v1 : BitVec 32) : Nat :=
  v1.toNat
def k0_dev69 (v2 : BitVec 32) : Nat :=
  v2.toNat
def k0_dev70 (v1 : BitVec 32) : Nat :=
  v1.toNat
def k0_dev71 (v2 : BitVec 32) : Nat :=
  v2.toNat
def k0_dev72 (v1 : BitVec 32) : Nat :=
  v1.toNat
def k0_dev73 (v2 : BitVec 32) : Nat :=
  v2.toNat
def k0_dev74 (v1 : BitVec 32) : Nat :=
  v1.toNat
def k0_dev75 (v1 : BitVec 32) : Nat :=
  v1.toNat
def k0_dev76 (v2 : BitVec 32) : Nat :=
  v2.toNat
def k0_dev77 (v1 : BitVec 32) : Nat :=
  v1.toNat
def k0_dev78 (v2 : BitVec 32) : Nat :=
  v2.toNat
def k0_dev79 (v1 : BitVec 32) : Nat :=
  v1.toNat
def k0_dev80 (v2 : BitVec 32) : Nat :=
  v2.toNat
def k0_dev81 (v1 : BitVec 32) : Nat :=
  v1.toNat
def k0_dev82 (v2 : BitVec 32) : Nat :=
  v2.toNat
def k0_dev83 (v2 : BitVec 32) : Nat :=
  v2.toNat
def k0_dev84 (v1 : BitVec 32) : Nat :=
  v1.toNat
def k0_dev85 (v2 : BitVec 32) : Nat :=
  v2.toNat
def k0_dev86 (v1 : BitVec 32) : Nat :=
  v1.toNat
def k0_dev87 (v2 : BitVec 32) : Nat :=
  v2.toNat
def k0_dev88 (v1 : BitVec 32) : Nat :=
  v1.toNat
def k0_dev89 (v2 : BitVec 32) : Nat :=
  v2.toNat
def k0_dev90 (v1 : BitVec 32) : Nat :=
  v1.toNat
def k0_dev91 (v1 : BitVec 32) : Nat :=
  v1.toNat
def k0_dev92 (v2 : BitVec 32) : Nat :=
  v2.toNat
def k0_dev93 (v1 : BitVec 32) : Nat :=
  v1.toNat
def k0_dev94 (v2 : BitVec 32) : Nat :=
  v2.toNat
def k0_dev95 (v1 : BitVec 32) : Nat :=
  v1.toNat
def k0_dev96 (v2 : BitVec 32) : Nat :=
  v2.toNat
def k0_dev97 (v1 : BitVec 32) : Nat :=
  v1.toNat
def k0_dev98 (v2 : BitVec 32) : Nat :=
  v2.toNat
def k0_dev99 (v2 : BitVec 32) : Nat :=
  v2.toNat
def k0_dev100 (v1 : BitVec 32) : Nat :=
  v1.toNat
def k0_dev101 (v2 : BitVec 32) : Nat :=
  v2.toNat
def k0_dev102 (v1 : BitVec 32) : Nat :=
  v1.toNat
def k0_dev103 (v2 : BitVec 32) : Nat :=
  v2.toNat
def k0_dev104 (v1 : BitVec 32) : Nat :=
  v1.toNat
def k0_dev105 (v2 : BitVec 32) : Nat :=
  v2.toNat
def k0_dev106 (v1 : BitVec 32) : Nat :=
  v1.toNat
def k0_dev107 (v1 : BitVec 32) : Nat :=
  v1.toNat
def k0_dev108 (v2 : BitVec 32) : Nat :=
  v2.toNat
def k0_dev109 (v1 : BitVec 32) : Nat :=
  v1.toNat
def k0_dev110 (v2 : BitVec 32) : Nat :=
  v2.toNat
def k0_dev111 (v1 : BitVec 32) : Nat :=
  v1.toNat
def k0_dev112 (v2 : BitVec 32) : Nat :=
  v2.toNat
def k0_dev113 (v1 : BitVec 32) : Nat :=
  v1.toNat
def k0_dev114 (v2 : BitVec 32) : Nat :=
  v2.toNat
def k0_dev115 (v2 : BitVec 32) : Nat :=
  v2.toNat
def k0_dev116 (v1 : BitVec 32) : Nat :=
  v1.toNat
def k0_dev117 (v2 : BitVec 32) : Nat :=
  v2.toNat
def k0_dev118 (v1 : BitVec 32) : Nat :=
  v1.toNat
def k0_dev119 (v2 : BitVec 32) : Nat :=
  v2.toNat
def k0_dev120 (v1 : BitVec 32) : Nat :=
  v1.toNat
def k0_dev121 (v2 : BitVec 32) : Nat :=
  v2.toNat
def k0_dev122 (v1 : BitVec 32) : Nat :=
  v1.toNat
def k0_dev123 (v1 : BitVec 32) : Nat :=
  v1.toNat
def k0_dev124 (v2 : BitVec 32) : Nat :=
  v2.toNat
def k0_dev125 (v1 : BitVec 32) : Nat :=
  v1.toNat
def k0_dev126 (v2 : BitVec 32) : Nat :=
  v2.toNat
def k0_dev127 (v1 : BitVec 32) : Nat :=
  v1.toNat
def k0_dev128 (v2 : BitVec 32) : Nat :=
  v2.toNat
def k0_dev129 (v1 : BitVec 32) : Nat :=
  v1.toNat
def k0_dev130 (v2 : BitVec 32) : Nat :=
  v2.toNat
def k0_dev131 (v2 : BitVec 32) : Nat :=
  v2.toNat
def k0_dev132 (v1 : BitVec 32) : Nat :=
  v1.toNat
def k0_dev133 (v2 : BitVec 32) : Nat :=
  v2.toNat
def k0_dev134 (v1 : BitVec 32) : Nat :=
  v1.toNat
def k0_dev135 (v2 : BitVec 32) : Nat :=
  v2.toNat
def k0_dev136 (v1 : BitVec 32) : Nat :=
  v1.toNat
def k0_dev137 (v2 : BitVec 32) : Nat :=
  v2.toNat
def k0_dev138 (v1 : BitVec 32) : Nat :=
  v1.toNat
def k0_dev139 (v1 : BitVec 32) : Nat :=
  v1.toNat
def k0_dev140 (v2 : BitVec 32) : Nat :=
  v2.toNat
def k0_dev141 (v1 : BitVec 32) : Nat :=
  v1.toNat
def k0_dev142 (v2 : BitVec 32) : Nat :=
  v2.toNat
def k0_dev143 (v1 : BitVec 32) : Nat :=
  v1.toNat
def k0_dev144 (v2 : BitVec 32) : Nat :=
  v2.toNat
def k0_dev145 (v1 : BitVec 32) : Nat :=
  v1.toNat
def k0_dev146 (v2 : BitVec 32) : Nat :=
  v2.toNat
def k0_dev147 (v2 : BitVec 32) : Nat :=
  v2.toNat
def k0_dev148 (v1 : BitVec 32) : Nat :=
  v1.toNat
def k0_dev149 (v2 : BitVec 32) : Nat :=
  v2.toNat
def k0_dev150 (v1 : BitVec 32) : Nat :=
  v1.toNat
def k0_dev151 (v2 : BitVec 32) : Nat :=
  v2.toNat
def k0_dev152 (v1 : BitVec 32) : Nat :=
  v1.toNat
def k0_dev153 (v2 : BitVec 32) : Nat :=
  v2.toNat
def k0_dev154 (v1 : BitVec 32) : Nat :=
  v1.toNat
def k0_dev155 (v1 : BitVec 32) : Nat :=
  v1.toNat
def k0_dev156 (v2 : BitVec 32) : Nat :=
  v2.toNat
def k0_dev157 (v1 : BitVec 32) : Nat :=
  v1.toNat
def k0_dev158 (v2 : BitVec 32) : Nat :=
  v2.toNat
def k0_dev159 (v1 : BitVec 32) : Nat :=
  v1.toNat
def k0_dev160 (v2 : BitVec 32) : Nat :=
  v2.toNat
def k0_dev161 (v1 : BitVec 32) : Nat :=
  v1.toNat
def k0_dev162 (v2 : BitVec 32) : Nat :=
  v2.toNat
def k0_dev163 (v2 : BitVec 32) : Nat :=
  v2.toNat
def k0_dev164 (v1 : BitVec 32) : Nat :=
  v1.toNat
def k0_dev165 (v2 : BitVec 32) : Nat :=
  v2.toNat
def k0_dev166 (v1 : BitVec 32) : Nat :=
  v1.toNat
def k0_dev167 (v2 : BitVec 32) : Nat :=
  v2.toNat
def k0_dev168 (v1 : BitVec 32) : Nat :=
  v1.toNat
def k0_dev169 (v2 : BitVec 32) : Nat :=
  v2.toNat
def k0_dev170 (v1 : BitVec 32) : Nat :=
  v1.toNat
def k0_dev171 (v1 : BitVec 32) : Nat :=
  v1.toNat
def k0_dev172 (v2 : BitVec 32) : Nat :=
  v2.toNat
def k0_dev173 (v1 : BitVec 32) : Nat :=
  v1.toNat
def k0_dev174 (v2 : BitVec 32) : Nat :=
  v2.toNat
def k0_dev175 (v1 : BitVec 32) : Nat :=
  v1.toNat
def k0_dev176 (v2 : BitVec 32) : Nat :=
  v2.toNat
def k0_dev177 (v1 : BitVec 32) : Nat :=
  v1.toNat
def k0_dev178 (v2 : BitVec 32) : Nat :=
  v2.toNat
def k0_dev179 (v2 : BitVec 32) : Nat :=
  v2.toNat
def k0_dev180 (v1 : BitVec 32) : Nat :=
  v1.toNat
def k0_dev181 (v2 : BitVec 32) : Nat :=
  v2.toNat
def k0_dev182 (v1 : BitVec 32) : Nat :=
  v1.toNat
def k0_dev183 (v2 : BitVec 32) : Nat :=
  v2.toNat
def k0_dev184 (v1 : BitVec 32) : Nat :=
  v1.toNat
def k0_dev185 (v2 : BitVec 32) : Nat :=
  v2.toNat
def k0_dev186 (v1 : BitVec 32) : Nat :=
  v1.toNat
def k0_dev187 (v1 : BitVec 32) : Nat :=
  v1.toNat
def k0_dev188 (v2 : BitVec 32) : Nat :=
  v2.toNat
def k0_dev189 (v1 : BitVec 32) : Nat :=
  v1.toNat
def k0_dev190 (v2 : BitVec 32) : Nat :=
  v2.toNat
def k0_dev191 (v1 : BitVec 32) : Nat :=
  v1.toNat
def k0_dev192 (v2 : BitVec 32) : Nat :=
  v2.toNat
def k0_dev193 (v1 : BitVec 32) : Nat :=
  v1.toNat
def k0_dev194 (v2 : BitVec 32) : Nat :=
  v2.toNat
def k0_dev195 (v2 : BitVec 32) : Nat :=
  v2.toNat
def k0_dev196 (v1 : BitVec 32) : Nat :=
  v1.toNat
def k0_dev197 (v2 : BitVec 32) : Nat :=
  v2.toNat
def k0_dev198 (v1 : BitVec 32) : Nat :=
  v1.toNat
def k0_dev199 (v2 : BitVec 32) : Nat :=
  v2.toNat
def k0_dev200 (v1 : BitVec 32) : Nat :=
  v1.toNat
def k0_dev201 (v2 : BitVec 32) : Nat :=
  v2.toNat
def k0_dev202 (v1 : BitVec 32) : Nat :=
  v1.toNat
def k0_dev203 (v1 : BitVec 32) : Nat :=
  v1.toNat
def k0_dev204 (v2 : BitVec 32) : Nat :=
  v2.toNat
def k0_dev205 (v1 : BitVec 32) : Nat :=
  v1.toNat
def k0_dev206 (v2 : BitVec 32) : Nat :=
  v2.toNat
def k0_dev207 (v1 : BitVec 32) : Nat :=
  v1.toNat
def k0_dev208 (v2 : BitVec 32) : Nat :=
  v2.toNat
def k0_dev209 (v1 : BitVec 32) : Nat :=
  v1.toNat
def k0_dev210 (v2 : BitVec 32) : Nat :=
  v2.toNat
def k0_dev211 (v1 : BitVec 32) : Nat :=
  v1.toNat
def k0_dev212 (v2 : BitVec 32) : Nat :=
  v2.toNat
def k0_dev213 (v1 : BitVec 32) : Nat :=
  v1.toNat
def k0_dev214 (v2 : BitVec 32) : Nat :=
  v2.toNat
def k0_dev215 (v1 : BitVec 32) : Nat :=
  v1.toNat
def k0_dev216 (v2 : BitVec 32) : Nat :=
  v2.toNat
def k0_dev217 (v1 : BitVec 32) : Nat :=
  v1.toNat
def k0_dev218 (v2 : BitVec 32) : Nat :=
  v2.toNat
def k0_off4 (v0 : BitVec 32) (c15_i32 : BitVec 32) (c0_i32_5068 : BitVec 32) : Fin 2 → Nat :=
  let v92 : BitVec 32 := Scalar.subi v0 c15_i32
  let c32_i32 : BitVec 32 := 32#32
  let v93 : BitVec 32 := Scalar.addi v92 c32_i32
  let c16_i32 : BitVec 32 := 16#32
  let v94 : BitVec 32 := Scalar.remsi v93 c16_i32
  let c512_i32_5067 : BitVec 32 := 512#32
  let v3766 : BitVec 32 := Scalar.muli v94 c512_i32_5067
  let v3767 : BitVec 32 := Scalar.addi v3766 c0_i32_5068
  let c0_i32_5073 : BitVec 32 := 0#32
  ![v3767.toNat, 0]
def k0_dev219 (v1 : BitVec 32) : Nat :=
  v1.toNat
def k0_off5 (v0 : BitVec 32) (c15_i32_91 : BitVec 32) (c0_i32_5096 : BitVec 32) : Fin 2 → Nat :=
  let v95 : BitVec 32 := Scalar.addi v0 c15_i32_91
  let c16_i32_92 : BitVec 32 := 16#32
  let v96 : BitVec 32 := Scalar.remsi v95 c16_i32_92
  let c512_i32_5094 : BitVec 32 := 512#32
  let v3790 : BitVec 32 := Scalar.muli v96 c512_i32_5094
  let c256_i32_5095 : BitVec 32 := 256#32
  let v3791 : BitVec 32 := Scalar.addi v3790 c256_i32_5095
  let v3792 : BitVec 32 := Scalar.addi v3791 c0_i32_5096
  let c0_i32_5101 : BitVec 32 := 0#32
  ![v3792.toNat, 0]

def k0_chk3 (v0 : BitVec 32) : Prop :=
  (∀ (r : Fin 2), ∀ a, (k0_off1 v0 (BitVec.ofNat 32 (256 * r.val))) a + S256x512.size a ≤ S8192x512.size a) ∧
  (∀ (r : Fin 15), ∀ a, (k0_off2 v0 (BitVec.ofNat 32 (1 + r.val))) a + S256x512.size a ≤ S8192x512.size a) ∧
  (∀ (r : Fin 15), ∀ a, (k0_off3 v0 (BitVec.ofNat 32 (1 + r.val))) a + S256x512.size a ≤ S8192x512.size a) ∧
  (∀ (r₁ : Fin 16) (r₂ : Fin 4), ∀ a, (k0_off4 v0 (BitVec.ofNat 32 r₁.val) (BitVec.ofNat 32 (64 * r₂.val))) a + S64x4096.size a ≤ S8192x4096.size a) ∧
  (∀ (r₁ : Fin 16) (r₂ : Fin 4), ∀ a, (k0_off5 v0 (BitVec.ofNat 32 r₁.val) (BitVec.ofNat 32 (64 * r₂.val))) a + S64x4096.size a ≤ S8192x4096.size a)
theorem k0_off1_inb : ∀ (v0 : BitVec 32) (k0_hw3 : k0_chk3 v0), ∀ (r : Fin 2), ∀ a, (k0_off1 v0 (BitVec.ofNat 32 (256 * r.val))) a + S256x512.size a ≤ S8192x512.size a := fun v0 k0_hw3 r => k0_hw3.1 r
theorem k0_off2_inb : ∀ (v0 : BitVec 32) (k0_hw3 : k0_chk3 v0), ∀ (r : Fin 15), ∀ a, (k0_off2 v0 (BitVec.ofNat 32 (1 + r.val))) a + S256x512.size a ≤ S8192x512.size a := fun v0 k0_hw3 r => k0_hw3.2.1 r
theorem k0_off3_inb : ∀ (v0 : BitVec 32) (k0_hw3 : k0_chk3 v0), ∀ (r : Fin 15), ∀ a, (k0_off3 v0 (BitVec.ofNat 32 (1 + r.val))) a + S256x512.size a ≤ S8192x512.size a := fun v0 k0_hw3 r => k0_hw3.2.2.1 r
theorem k0_off4_inb : ∀ (v0 : BitVec 32) (k0_hw3 : k0_chk3 v0), ∀ (r₁ : Fin 16) (r₂ : Fin 4), ∀ a, (k0_off4 v0 (BitVec.ofNat 32 r₁.val) (BitVec.ofNat 32 (64 * r₂.val))) a + S64x4096.size a ≤ S8192x4096.size a := fun v0 k0_hw3 r₁ r₂ => k0_hw3.2.2.2.1 r₁ r₂
theorem k0_off5_inb : ∀ (v0 : BitVec 32) (k0_hw3 : k0_chk3 v0), ∀ (r₁ : Fin 16) (r₂ : Fin 4), ∀ a, (k0_off5 v0 (BitVec.ofNat 32 r₁.val) (BitVec.ofNat 32 (64 * r₂.val))) a + S64x4096.size a ≤ S8192x4096.size a := fun v0 k0_hw3 r₁ r₂ => k0_hw3.2.2.2.2 r₁ r₂

def k0_dev220 (v2 : BitVec 32) : Nat :=
  v2.toNat
def k0_dev221 (v1 : BitVec 32) : Nat :=
  v1.toNat
def k0_dev222 (v2 : BitVec 32) : Nat :=
  v2.toNat
def k0_dev223 (v1 : BitVec 32) : Nat :=
  v1.toNat
def k0_dev224 (v2 : BitVec 32) : Nat :=
  v2.toNat
def k0_dev225 (v1 : BitVec 32) : Nat :=
  v1.toNat
def k0_dev226 (v2 : BitVec 32) : Nat :=
  v2.toNat
def k0_dev227 (v1 : BitVec 32) : Nat :=
  v1.toNat
def k0_dev228 (v2 : BitVec 32) : Nat :=
  v2.toNat
def k0_dev229 (v1 : BitVec 32) : Nat :=
  v1.toNat
def k0_dev230 (v2 : BitVec 32) : Nat :=
  v2.toNat
def k0_dev231 (v1 : BitVec 32) : Nat :=
  v1.toNat
def k0_dev232 (v2 : BitVec 32) : Nat :=
  v2.toNat
def k0_dev233 (v1 : BitVec 32) : Nat :=
  v1.toNat
def k0_dev234 (v2 : BitVec 32) : Nat :=
  v2.toNat
def k0_dev235 (v1 : BitVec 32) : Nat :=
  v1.toNat
def k0_dev236 (v2 : BitVec 32) : Nat :=
  v2.toNat
def k0_dev237 (v1 : BitVec 32) : Nat :=
  v1.toNat
def k0_dev238 (v2 : BitVec 32) : Nat :=
  v2.toNat
def k0_dev239 (v1 : BitVec 32) : Nat :=
  v1.toNat
def k0_dev240 (v2 : BitVec 32) : Nat :=
  v2.toNat
def k0_dev241 (v1 : BitVec 32) : Nat :=
  v1.toNat
def k0_dev242 (v2 : BitVec 32) : Nat :=
  v2.toNat
def k0_dev243 (v1 : BitVec 32) : Nat :=
  v1.toNat
def k0_dev244 (v2 : BitVec 32) : Nat :=
  v2.toNat
def k0_dev245 (v1 : BitVec 32) : Nat :=
  v1.toNat
def k0_dev246 (v2 : BitVec 32) : Nat :=
  v2.toNat
def k0_dev247 (v1 : BitVec 32) : Nat :=
  v1.toNat
def k0_dev248 (v2 : BitVec 32) : Nat :=
  v2.toNat
def k0_dev249 (v1 : BitVec 32) : Nat :=
  v1.toNat
def k0_dev250 (v2 : BitVec 32) : Nat :=
  v2.toNat
def k0_dev251 (v1 : BitVec 32) : Nat :=
  v1.toNat
def k0_dev252 (v2 : BitVec 32) : Nat :=
  v2.toNat
def k0_dev253 (v1 : BitVec 32) : Nat :=
  v1.toNat
def k0_dev254 (v2 : BitVec 32) : Nat :=
  v2.toNat
def k0_dev255 (v1 : BitVec 32) : Nat :=
  v1.toNat
def k0_dev256 (v2 : BitVec 32) : Nat :=
  v2.toNat
def k0_dev257 (v1 : BitVec 32) : Nat :=
  v1.toNat
def k0_dev258 (v2 : BitVec 32) : Nat :=
  v2.toNat
def k0_dev259 (v1 : BitVec 32) : Nat :=
  v1.toNat
def k0_dev260 (v2 : BitVec 32) : Nat :=
  v2.toNat
def k0_dev261 (v1 : BitVec 32) : Nat :=
  v1.toNat
def k0_dev262 (v2 : BitVec 32) : Nat :=
  v2.toNat
def k0_dev263 (v1 : BitVec 32) : Nat :=
  v1.toNat
def k0_dev264 (v2 : BitVec 32) : Nat :=
  v2.toNat
def k0_dev265 (v1 : BitVec 32) : Nat :=
  v1.toNat
def k0_dev266 (v2 : BitVec 32) : Nat :=
  v2.toNat
def k0_dev267 (v1 : BitVec 32) : Nat :=
  v1.toNat
def k0_dev268 (v2 : BitVec 32) : Nat :=
  v2.toNat
def k0_dev269 (v1 : BitVec 32) : Nat :=
  v1.toNat
def k0_dev270 (v2 : BitVec 32) : Nat :=
  v2.toNat
def k0_dev271 (v1 : BitVec 32) : Nat :=
  v1.toNat
def k0_dev272 (v2 : BitVec 32) : Nat :=
  v2.toNat
def k0_dev273 (v1 : BitVec 32) : Nat :=
  v1.toNat
def k0_dev274 (v2 : BitVec 32) : Nat :=
  v2.toNat
def k0_dev275 (v1 : BitVec 32) : Nat :=
  v1.toNat
def k0_dev276 (v2 : BitVec 32) : Nat :=
  v2.toNat
def k0_dev277 (v1 : BitVec 32) : Nat :=
  v1.toNat
def k0_dev278 (v2 : BitVec 32) : Nat :=
  v2.toNat
def k0_dev279 (v1 : BitVec 32) : Nat :=
  v1.toNat
def k0_dev280 (v2 : BitVec 32) : Nat :=
  v2.toNat
def k0_dev281 (v1 : BitVec 32) : Nat :=
  v1.toNat
def k0_dev282 (v2 : BitVec 32) : Nat :=
  v2.toNat
def k0_dev283 (v1 : BitVec 32) : Nat :=
  v1.toNat
def k0_dev284 (v2 : BitVec 32) : Nat :=
  v2.toNat
def k0_dev285 (v1 : BitVec 32) : Nat :=
  v1.toNat
def k0_dev286 (v2 : BitVec 32) : Nat :=
  v2.toNat
def k0_dev287 (v1 : BitVec 32) : Nat :=
  v1.toNat
def k0_dev288 (v2 : BitVec 32) : Nat :=
  v2.toNat
def k0_dev289 (v1 : BitVec 32) : Nat :=
  v1.toNat
def k0_dev290 (v2 : BitVec 32) : Nat :=
  v2.toNat
def k0_dev291 (v1 : BitVec 32) : Nat :=
  v1.toNat
def k0_dev292 (v2 : BitVec 32) : Nat :=
  v2.toNat
def k0_dev293 (v1 : BitVec 32) : Nat :=
  v1.toNat
def k0_dev294 (v2 : BitVec 32) : Nat :=
  v2.toNat
def k0_dev295 (v1 : BitVec 32) : Nat :=
  v1.toNat
def k0_dev296 (v2 : BitVec 32) : Nat :=
  v2.toNat
def k0_dev297 (v1 : BitVec 32) : Nat :=
  v1.toNat
def k0_dev298 (v2 : BitVec 32) : Nat :=
  v2.toNat
def k0_dev299 (v1 : BitVec 32) : Nat :=
  v1.toNat
def k0_dev300 (v2 : BitVec 32) : Nat :=
  v2.toNat
def k0_dev301 (v1 : BitVec 32) : Nat :=
  v1.toNat
def k0_dev302 (v2 : BitVec 32) : Nat :=
  v2.toNat
def k0_dev303 (v1 : BitVec 32) : Nat :=
  v1.toNat
def k0_dev304 (v2 : BitVec 32) : Nat :=
  v2.toNat
def k0_dev305 (v1 : BitVec 32) : Nat :=
  v1.toNat
def k0_dev306 (v2 : BitVec 32) : Nat :=
  v2.toNat
def k0_dev307 (v1 : BitVec 32) : Nat :=
  v1.toNat
def k0_dev308 (v2 : BitVec 32) : Nat :=
  v2.toNat
def k0_dev309 (v1 : BitVec 32) : Nat :=
  v1.toNat
def k0_dev310 (v2 : BitVec 32) : Nat :=
  v2.toNat
def k0_dev311 (v1 : BitVec 32) : Nat :=
  v1.toNat
def k0_dev312 (v2 : BitVec 32) : Nat :=
  v2.toNat
def k0_dev313 (v1 : BitVec 32) : Nat :=
  v1.toNat
def k0_dev314 (v2 : BitVec 32) : Nat :=
  v2.toNat
def k0_dev315 (v1 : BitVec 32) : Nat :=
  v1.toNat
def k0_dev316 (v2 : BitVec 32) : Nat :=
  v2.toNat
def k0_dev317 (v1 : BitVec 32) : Nat :=
  v1.toNat
def k0_dev318 (v2 : BitVec 32) : Nat :=
  v2.toNat
def k0_dev319 (v1 : BitVec 32) : Nat :=
  v1.toNat
def k0_dev320 (v2 : BitVec 32) : Nat :=
  v2.toNat
def k0_dev321 (v1 : BitVec 32) : Nat :=
  v1.toNat
def k0_dev322 (v2 : BitVec 32) : Nat :=
  v2.toNat
def k0_dev323 (v1 : BitVec 32) : Nat :=
  v1.toNat
def k0_dev324 (v2 : BitVec 32) : Nat :=
  v2.toNat
def k0_dev325 (v1 : BitVec 32) : Nat :=
  v1.toNat
def k0_dev326 (v2 : BitVec 32) : Nat :=
  v2.toNat
def k0_dev327 (v1 : BitVec 32) : Nat :=
  v1.toNat
def k0_dev328 (v2 : BitVec 32) : Nat :=
  v2.toNat
def k0_dev329 (v1 : BitVec 32) : Nat :=
  v1.toNat
def k0_dev330 (v2 : BitVec 32) : Nat :=
  v2.toNat
def k0_dev331 (v1 : BitVec 32) : Nat :=
  v1.toNat
def k0_dev332 (v2 : BitVec 32) : Nat :=
  v2.toNat
def k0_dev333 (v1 : BitVec 32) : Nat :=
  v1.toNat
def k0_dev334 (v2 : BitVec 32) : Nat :=
  v2.toNat
def k0_dev335 (v1 : BitVec 32) : Nat :=
  v1.toNat
def k0_dev336 (v2 : BitVec 32) : Nat :=
  v2.toNat
def k0_dev337 (v1 : BitVec 32) : Nat :=
  v1.toNat

def k0_chk2_0 (v1 : BitVec 32) : Prop :=
  ((k0_dev2 v1) < nD) ∧
  ((k0_dev3 v1) < nD) ∧
  ((k0_dev4 v1) < nD) ∧
  ((k0_dev5 v1) < nD) ∧
  ((k0_dev6 v1) < nD) ∧
  ((k0_dev11 v1) < nD) ∧
  ((k0_dev13 v1) < nD) ∧
  ((k0_dev15 v1) < nD) ∧
  ((k0_dev17 v1) < nD) ∧
  ((k0_dev20 v1) < nD) ∧
  ((k0_dev22 v1) < nD) ∧
  ((k0_dev24 v1) < nD) ∧
  ((k0_dev26 v1) < nD) ∧
  ((k0_dev27 v1) < nD) ∧
  ((k0_dev29 v1) < nD) ∧
  ((k0_dev31 v1) < nD) ∧
  ((k0_dev33 v1) < nD) ∧
  ((k0_dev36 v1) < nD) ∧
  ((k0_dev38 v1) < nD) ∧
  ((k0_dev40 v1) < nD) ∧
  ((k0_dev42 v1) < nD) ∧
  ((k0_dev43 v1) < nD) ∧
  ((k0_dev45 v1) < nD) ∧
  ((k0_dev47 v1) < nD) ∧
  ((k0_dev49 v1) < nD) ∧
  ((k0_dev52 v1) < nD) ∧
  ((k0_dev54 v1) < nD) ∧
  ((k0_dev56 v1) < nD) ∧
  ((k0_dev58 v1) < nD) ∧
  ((k0_dev59 v1) < nD) ∧
  ((k0_dev61 v1) < nD) ∧
  ((k0_dev63 v1) < nD)
def k0_chk2_1 (v1 : BitVec 32) : Prop :=
  ((k0_dev65 v1) < nD) ∧
  ((k0_dev68 v1) < nD) ∧
  ((k0_dev70 v1) < nD) ∧
  ((k0_dev72 v1) < nD) ∧
  ((k0_dev74 v1) < nD) ∧
  ((k0_dev75 v1) < nD) ∧
  ((k0_dev77 v1) < nD) ∧
  ((k0_dev79 v1) < nD) ∧
  ((k0_dev81 v1) < nD) ∧
  ((k0_dev84 v1) < nD) ∧
  ((k0_dev86 v1) < nD) ∧
  ((k0_dev88 v1) < nD) ∧
  ((k0_dev90 v1) < nD) ∧
  ((k0_dev91 v1) < nD) ∧
  ((k0_dev93 v1) < nD) ∧
  ((k0_dev95 v1) < nD) ∧
  ((k0_dev97 v1) < nD) ∧
  ((k0_dev100 v1) < nD) ∧
  ((k0_dev102 v1) < nD) ∧
  ((k0_dev104 v1) < nD) ∧
  ((k0_dev106 v1) < nD) ∧
  ((k0_dev107 v1) < nD) ∧
  ((k0_dev109 v1) < nD) ∧
  ((k0_dev111 v1) < nD) ∧
  ((k0_dev113 v1) < nD) ∧
  ((k0_dev116 v1) < nD) ∧
  ((k0_dev118 v1) < nD) ∧
  ((k0_dev120 v1) < nD) ∧
  ((k0_dev122 v1) < nD) ∧
  ((k0_dev123 v1) < nD) ∧
  ((k0_dev125 v1) < nD) ∧
  ((k0_dev127 v1) < nD)
def k0_chk2_2 (v1 : BitVec 32) : Prop :=
  ((k0_dev129 v1) < nD) ∧
  ((k0_dev132 v1) < nD) ∧
  ((k0_dev134 v1) < nD) ∧
  ((k0_dev136 v1) < nD) ∧
  ((k0_dev138 v1) < nD) ∧
  ((k0_dev139 v1) < nD) ∧
  ((k0_dev141 v1) < nD) ∧
  ((k0_dev143 v1) < nD) ∧
  ((k0_dev145 v1) < nD) ∧
  ((k0_dev148 v1) < nD) ∧
  ((k0_dev150 v1) < nD) ∧
  ((k0_dev152 v1) < nD) ∧
  ((k0_dev154 v1) < nD) ∧
  ((k0_dev155 v1) < nD) ∧
  ((k0_dev157 v1) < nD) ∧
  ((k0_dev159 v1) < nD) ∧
  ((k0_dev161 v1) < nD) ∧
  ((k0_dev164 v1) < nD) ∧
  ((k0_dev166 v1) < nD) ∧
  ((k0_dev168 v1) < nD) ∧
  ((k0_dev170 v1) < nD) ∧
  ((k0_dev171 v1) < nD) ∧
  ((k0_dev173 v1) < nD) ∧
  ((k0_dev175 v1) < nD) ∧
  ((k0_dev177 v1) < nD) ∧
  ((k0_dev180 v1) < nD) ∧
  ((k0_dev182 v1) < nD) ∧
  ((k0_dev184 v1) < nD) ∧
  ((k0_dev186 v1) < nD) ∧
  ((k0_dev187 v1) < nD) ∧
  ((k0_dev189 v1) < nD) ∧
  ((k0_dev191 v1) < nD)
def k0_chk2_3 (v1 : BitVec 32) : Prop :=
  ((k0_dev193 v1) < nD) ∧
  ((k0_dev196 v1) < nD) ∧
  ((k0_dev198 v1) < nD) ∧
  ((k0_dev200 v1) < nD) ∧
  ((k0_dev202 v1) < nD) ∧
  ((k0_dev203 v1) < nD) ∧
  ((k0_dev205 v1) < nD) ∧
  ((k0_dev207 v1) < nD) ∧
  ((k0_dev209 v1) < nD) ∧
  ((k0_dev211 v1) < nD) ∧
  ((k0_dev213 v1) < nD) ∧
  ((k0_dev215 v1) < nD) ∧
  ((k0_dev217 v1) < nD) ∧
  ((k0_dev219 v1) < nD) ∧
  ((k0_dev221 v1) < nD) ∧
  ((k0_dev223 v1) < nD) ∧
  ((k0_dev225 v1) < nD) ∧
  ((k0_dev227 v1) < nD) ∧
  ((k0_dev229 v1) < nD) ∧
  ((k0_dev231 v1) < nD) ∧
  ((k0_dev233 v1) < nD) ∧
  ((k0_dev235 v1) < nD) ∧
  ((k0_dev237 v1) < nD) ∧
  ((k0_dev239 v1) < nD) ∧
  ((k0_dev241 v1) < nD) ∧
  ((k0_dev243 v1) < nD) ∧
  ((k0_dev245 v1) < nD) ∧
  ((k0_dev247 v1) < nD) ∧
  ((k0_dev249 v1) < nD) ∧
  ((k0_dev251 v1) < nD) ∧
  ((k0_dev253 v1) < nD) ∧
  ((k0_dev255 v1) < nD)
def k0_chk2_4 (v1 : BitVec 32) : Prop :=
  ((k0_dev257 v1) < nD) ∧
  ((k0_dev259 v1) < nD) ∧
  ((k0_dev261 v1) < nD) ∧
  ((k0_dev263 v1) < nD) ∧
  ((k0_dev265 v1) < nD) ∧
  ((k0_dev267 v1) < nD) ∧
  ((k0_dev269 v1) < nD) ∧
  ((k0_dev271 v1) < nD) ∧
  ((k0_dev273 v1) < nD) ∧
  ((k0_dev275 v1) < nD) ∧
  ((k0_dev277 v1) < nD) ∧
  ((k0_dev279 v1) < nD) ∧
  ((k0_dev281 v1) < nD) ∧
  ((k0_dev283 v1) < nD) ∧
  ((k0_dev285 v1) < nD) ∧
  ((k0_dev287 v1) < nD) ∧
  ((k0_dev289 v1) < nD) ∧
  ((k0_dev291 v1) < nD) ∧
  ((k0_dev293 v1) < nD) ∧
  ((k0_dev295 v1) < nD) ∧
  ((k0_dev297 v1) < nD) ∧
  ((k0_dev299 v1) < nD) ∧
  ((k0_dev301 v1) < nD) ∧
  ((k0_dev303 v1) < nD) ∧
  ((k0_dev305 v1) < nD) ∧
  ((k0_dev307 v1) < nD) ∧
  ((k0_dev309 v1) < nD) ∧
  ((k0_dev311 v1) < nD) ∧
  ((k0_dev313 v1) < nD) ∧
  ((k0_dev315 v1) < nD) ∧
  ((k0_dev317 v1) < nD) ∧
  ((k0_dev319 v1) < nD)
def k0_chk2_5 (v1 : BitVec 32) : Prop :=
  ((k0_dev321 v1) < nD) ∧
  ((k0_dev323 v1) < nD) ∧
  ((k0_dev325 v1) < nD) ∧
  ((k0_dev327 v1) < nD) ∧
  ((k0_dev329 v1) < nD) ∧
  ((k0_dev331 v1) < nD) ∧
  ((k0_dev333 v1) < nD) ∧
  ((k0_dev335 v1) < nD) ∧
  ((k0_dev337 v1) < nD)
def k0_chk2 (v1 : BitVec 32) : Prop :=
  k0_chk2_0 v1 ∧
  k0_chk2_1 v1 ∧
  k0_chk2_2 v1 ∧
  k0_chk2_3 v1 ∧
  k0_chk2_4 v1 ∧
  k0_chk2_5 v1
theorem k0_dev2_lt : ∀ (v1 : BitVec 32) (k0_hw2 : k0_chk2 v1), (k0_dev2 v1) < nD := fun v1 k0_hw2 => k0_hw2.1.1
theorem k0_dev3_lt : ∀ (v1 : BitVec 32) (k0_hw2 : k0_chk2 v1), (k0_dev3 v1) < nD := fun v1 k0_hw2 => k0_hw2.1.2.1
theorem k0_dev4_lt : ∀ (v1 : BitVec 32) (k0_hw2 : k0_chk2 v1), (k0_dev4 v1) < nD := fun v1 k0_hw2 => k0_hw2.1.2.2.1
theorem k0_dev5_lt : ∀ (v1 : BitVec 32) (k0_hw2 : k0_chk2 v1), (k0_dev5 v1) < nD := fun v1 k0_hw2 => k0_hw2.1.2.2.2.1
theorem k0_dev6_lt : ∀ (v1 : BitVec 32) (k0_hw2 : k0_chk2 v1), (k0_dev6 v1) < nD := fun v1 k0_hw2 => k0_hw2.1.2.2.2.2.1
theorem k0_dev11_lt : ∀ (v1 : BitVec 32) (k0_hw2 : k0_chk2 v1), (k0_dev11 v1) < nD := fun v1 k0_hw2 => k0_hw2.1.2.2.2.2.2.1
theorem k0_dev13_lt : ∀ (v1 : BitVec 32) (k0_hw2 : k0_chk2 v1), (k0_dev13 v1) < nD := fun v1 k0_hw2 => k0_hw2.1.2.2.2.2.2.2.1
theorem k0_dev15_lt : ∀ (v1 : BitVec 32) (k0_hw2 : k0_chk2 v1), (k0_dev15 v1) < nD := fun v1 k0_hw2 => k0_hw2.1.2.2.2.2.2.2.2.1
theorem k0_dev17_lt : ∀ (v1 : BitVec 32) (k0_hw2 : k0_chk2 v1), (k0_dev17 v1) < nD := fun v1 k0_hw2 => k0_hw2.1.2.2.2.2.2.2.2.2.1
theorem k0_dev20_lt : ∀ (v1 : BitVec 32) (k0_hw2 : k0_chk2 v1), (k0_dev20 v1) < nD := fun v1 k0_hw2 => k0_hw2.1.2.2.2.2.2.2.2.2.2.1
theorem k0_dev22_lt : ∀ (v1 : BitVec 32) (k0_hw2 : k0_chk2 v1), (k0_dev22 v1) < nD := fun v1 k0_hw2 => k0_hw2.1.2.2.2.2.2.2.2.2.2.2.1
theorem k0_dev24_lt : ∀ (v1 : BitVec 32) (k0_hw2 : k0_chk2 v1), (k0_dev24 v1) < nD := fun v1 k0_hw2 => k0_hw2.1.2.2.2.2.2.2.2.2.2.2.2.1
theorem k0_dev26_lt : ∀ (v1 : BitVec 32) (k0_hw2 : k0_chk2 v1), (k0_dev26 v1) < nD := fun v1 k0_hw2 => k0_hw2.1.2.2.2.2.2.2.2.2.2.2.2.2.1
theorem k0_dev27_lt : ∀ (v1 : BitVec 32) (k0_hw2 : k0_chk2 v1), (k0_dev27 v1) < nD := fun v1 k0_hw2 => k0_hw2.1.2.2.2.2.2.2.2.2.2.2.2.2.2.1
theorem k0_dev29_lt : ∀ (v1 : BitVec 32) (k0_hw2 : k0_chk2 v1), (k0_dev29 v1) < nD := fun v1 k0_hw2 => k0_hw2.1.2.2.2.2.2.2.2.2.2.2.2.2.2.2.1
theorem k0_dev31_lt : ∀ (v1 : BitVec 32) (k0_hw2 : k0_chk2 v1), (k0_dev31 v1) < nD := fun v1 k0_hw2 => k0_hw2.1.2.2.2.2.2.2.2.2.2.2.2.2.2.2.2.1
theorem k0_dev33_lt : ∀ (v1 : BitVec 32) (k0_hw2 : k0_chk2 v1), (k0_dev33 v1) < nD := fun v1 k0_hw2 => k0_hw2.1.2.2.2.2.2.2.2.2.2.2.2.2.2.2.2.2.1
theorem k0_dev36_lt : ∀ (v1 : BitVec 32) (k0_hw2 : k0_chk2 v1), (k0_dev36 v1) < nD := fun v1 k0_hw2 => k0_hw2.1.2.2.2.2.2.2.2.2.2.2.2.2.2.2.2.2.2.1
theorem k0_dev38_lt : ∀ (v1 : BitVec 32) (k0_hw2 : k0_chk2 v1), (k0_dev38 v1) < nD := fun v1 k0_hw2 => k0_hw2.1.2.2.2.2.2.2.2.2.2.2.2.2.2.2.2.2.2.2.1
theorem k0_dev40_lt : ∀ (v1 : BitVec 32) (k0_hw2 : k0_chk2 v1), (k0_dev40 v1) < nD := fun v1 k0_hw2 => k0_hw2.1.2.2.2.2.2.2.2.2.2.2.2.2.2.2.2.2.2.2.2.1
theorem k0_dev42_lt : ∀ (v1 : BitVec 32) (k0_hw2 : k0_chk2 v1), (k0_dev42 v1) < nD := fun v1 k0_hw2 => k0_hw2.1.2.2.2.2.2.2.2.2.2.2.2.2.2.2.2.2.2.2.2.2.1
theorem k0_dev43_lt : ∀ (v1 : BitVec 32) (k0_hw2 : k0_chk2 v1), (k0_dev43 v1) < nD := fun v1 k0_hw2 => k0_hw2.1.2.2.2.2.2.2.2.2.2.2.2.2.2.2.2.2.2.2.2.2.2.1
theorem k0_dev45_lt : ∀ (v1 : BitVec 32) (k0_hw2 : k0_chk2 v1), (k0_dev45 v1) < nD := fun v1 k0_hw2 => k0_hw2.1.2.2.2.2.2.2.2.2.2.2.2.2.2.2.2.2.2.2.2.2.2.2.1
theorem k0_dev47_lt : ∀ (v1 : BitVec 32) (k0_hw2 : k0_chk2 v1), (k0_dev47 v1) < nD := fun v1 k0_hw2 => k0_hw2.1.2.2.2.2.2.2.2.2.2.2.2.2.2.2.2.2.2.2.2.2.2.2.2.1
theorem k0_dev49_lt : ∀ (v1 : BitVec 32) (k0_hw2 : k0_chk2 v1), (k0_dev49 v1) < nD := fun v1 k0_hw2 => k0_hw2.1.2.2.2.2.2.2.2.2.2.2.2.2.2.2.2.2.2.2.2.2.2.2.2.2.1
theorem k0_dev52_lt : ∀ (v1 : BitVec 32) (k0_hw2 : k0_chk2 v1), (k0_dev52 v1) < nD := fun v1 k0_hw2 => k0_hw2.1.2.2.2.2.2.2.2.2.2.2.2.2.2.2.2.2.2.2.2.2.2.2.2.2.2.1
theorem k0_dev54_lt : ∀ (v1 : BitVec 32) (k0_hw2 : k0_chk2 v1), (k0_dev54 v1) < nD := fun v1 k0_hw2 => k0_hw2.1.2.2.2.2.2.2.2.2.2.2.2.2.2.2.2.2.2.2.2.2.2.2.2.2.2.2.1
theorem k0_dev56_lt : ∀ (v1 : BitVec 32) (k0_hw2 : k0_chk2 v1), (k0_dev56 v1) < nD := fun v1 k0_hw2 => k0_hw2.1.2.2.2.2.2.2.2.2.2.2.2.2.2.2.2.2.2.2.2.2.2.2.2.2.2.2.2.1
theorem k0_dev58_lt : ∀ (v1 : BitVec 32) (k0_hw2 : k0_chk2 v1), (k0_dev58 v1) < nD := fun v1 k0_hw2 => k0_hw2.1.2.2.2.2.2.2.2.2.2.2.2.2.2.2.2.2.2.2.2.2.2.2.2.2.2.2.2.2.1
theorem k0_dev59_lt : ∀ (v1 : BitVec 32) (k0_hw2 : k0_chk2 v1), (k0_dev59 v1) < nD := fun v1 k0_hw2 => k0_hw2.1.2.2.2.2.2.2.2.2.2.2.2.2.2.2.2.2.2.2.2.2.2.2.2.2.2.2.2.2.2.1
theorem k0_dev61_lt : ∀ (v1 : BitVec 32) (k0_hw2 : k0_chk2 v1), (k0_dev61 v1) < nD := fun v1 k0_hw2 => k0_hw2.1.2.2.2.2.2.2.2.2.2.2.2.2.2.2.2.2.2.2.2.2.2.2.2.2.2.2.2.2.2.2.1
theorem k0_dev63_lt : ∀ (v1 : BitVec 32) (k0_hw2 : k0_chk2 v1), (k0_dev63 v1) < nD := fun v1 k0_hw2 => k0_hw2.1.2.2.2.2.2.2.2.2.2.2.2.2.2.2.2.2.2.2.2.2.2.2.2.2.2.2.2.2.2.2.2
theorem k0_dev65_lt : ∀ (v1 : BitVec 32) (k0_hw2 : k0_chk2 v1), (k0_dev65 v1) < nD := fun v1 k0_hw2 => k0_hw2.2.1.1
theorem k0_dev68_lt : ∀ (v1 : BitVec 32) (k0_hw2 : k0_chk2 v1), (k0_dev68 v1) < nD := fun v1 k0_hw2 => k0_hw2.2.1.2.1
theorem k0_dev70_lt : ∀ (v1 : BitVec 32) (k0_hw2 : k0_chk2 v1), (k0_dev70 v1) < nD := fun v1 k0_hw2 => k0_hw2.2.1.2.2.1
theorem k0_dev72_lt : ∀ (v1 : BitVec 32) (k0_hw2 : k0_chk2 v1), (k0_dev72 v1) < nD := fun v1 k0_hw2 => k0_hw2.2.1.2.2.2.1
theorem k0_dev74_lt : ∀ (v1 : BitVec 32) (k0_hw2 : k0_chk2 v1), (k0_dev74 v1) < nD := fun v1 k0_hw2 => k0_hw2.2.1.2.2.2.2.1
theorem k0_dev75_lt : ∀ (v1 : BitVec 32) (k0_hw2 : k0_chk2 v1), (k0_dev75 v1) < nD := fun v1 k0_hw2 => k0_hw2.2.1.2.2.2.2.2.1
theorem k0_dev77_lt : ∀ (v1 : BitVec 32) (k0_hw2 : k0_chk2 v1), (k0_dev77 v1) < nD := fun v1 k0_hw2 => k0_hw2.2.1.2.2.2.2.2.2.1
theorem k0_dev79_lt : ∀ (v1 : BitVec 32) (k0_hw2 : k0_chk2 v1), (k0_dev79 v1) < nD := fun v1 k0_hw2 => k0_hw2.2.1.2.2.2.2.2.2.2.1
theorem k0_dev81_lt : ∀ (v1 : BitVec 32) (k0_hw2 : k0_chk2 v1), (k0_dev81 v1) < nD := fun v1 k0_hw2 => k0_hw2.2.1.2.2.2.2.2.2.2.2.1
theorem k0_dev84_lt : ∀ (v1 : BitVec 32) (k0_hw2 : k0_chk2 v1), (k0_dev84 v1) < nD := fun v1 k0_hw2 => k0_hw2.2.1.2.2.2.2.2.2.2.2.2.1
theorem k0_dev86_lt : ∀ (v1 : BitVec 32) (k0_hw2 : k0_chk2 v1), (k0_dev86 v1) < nD := fun v1 k0_hw2 => k0_hw2.2.1.2.2.2.2.2.2.2.2.2.2.1
theorem k0_dev88_lt : ∀ (v1 : BitVec 32) (k0_hw2 : k0_chk2 v1), (k0_dev88 v1) < nD := fun v1 k0_hw2 => k0_hw2.2.1.2.2.2.2.2.2.2.2.2.2.2.1
theorem k0_dev90_lt : ∀ (v1 : BitVec 32) (k0_hw2 : k0_chk2 v1), (k0_dev90 v1) < nD := fun v1 k0_hw2 => k0_hw2.2.1.2.2.2.2.2.2.2.2.2.2.2.2.1
theorem k0_dev91_lt : ∀ (v1 : BitVec 32) (k0_hw2 : k0_chk2 v1), (k0_dev91 v1) < nD := fun v1 k0_hw2 => k0_hw2.2.1.2.2.2.2.2.2.2.2.2.2.2.2.2.1
theorem k0_dev93_lt : ∀ (v1 : BitVec 32) (k0_hw2 : k0_chk2 v1), (k0_dev93 v1) < nD := fun v1 k0_hw2 => k0_hw2.2.1.2.2.2.2.2.2.2.2.2.2.2.2.2.2.1
theorem k0_dev95_lt : ∀ (v1 : BitVec 32) (k0_hw2 : k0_chk2 v1), (k0_dev95 v1) < nD := fun v1 k0_hw2 => k0_hw2.2.1.2.2.2.2.2.2.2.2.2.2.2.2.2.2.2.1
theorem k0_dev97_lt : ∀ (v1 : BitVec 32) (k0_hw2 : k0_chk2 v1), (k0_dev97 v1) < nD := fun v1 k0_hw2 => k0_hw2.2.1.2.2.2.2.2.2.2.2.2.2.2.2.2.2.2.2.1
theorem k0_dev100_lt : ∀ (v1 : BitVec 32) (k0_hw2 : k0_chk2 v1), (k0_dev100 v1) < nD := fun v1 k0_hw2 => k0_hw2.2.1.2.2.2.2.2.2.2.2.2.2.2.2.2.2.2.2.2.1
theorem k0_dev102_lt : ∀ (v1 : BitVec 32) (k0_hw2 : k0_chk2 v1), (k0_dev102 v1) < nD := fun v1 k0_hw2 => k0_hw2.2.1.2.2.2.2.2.2.2.2.2.2.2.2.2.2.2.2.2.2.1
theorem k0_dev104_lt : ∀ (v1 : BitVec 32) (k0_hw2 : k0_chk2 v1), (k0_dev104 v1) < nD := fun v1 k0_hw2 => k0_hw2.2.1.2.2.2.2.2.2.2.2.2.2.2.2.2.2.2.2.2.2.2.1
theorem k0_dev106_lt : ∀ (v1 : BitVec 32) (k0_hw2 : k0_chk2 v1), (k0_dev106 v1) < nD := fun v1 k0_hw2 => k0_hw2.2.1.2.2.2.2.2.2.2.2.2.2.2.2.2.2.2.2.2.2.2.2.1
theorem k0_dev107_lt : ∀ (v1 : BitVec 32) (k0_hw2 : k0_chk2 v1), (k0_dev107 v1) < nD := fun v1 k0_hw2 => k0_hw2.2.1.2.2.2.2.2.2.2.2.2.2.2.2.2.2.2.2.2.2.2.2.2.1
theorem k0_dev109_lt : ∀ (v1 : BitVec 32) (k0_hw2 : k0_chk2 v1), (k0_dev109 v1) < nD := fun v1 k0_hw2 => k0_hw2.2.1.2.2.2.2.2.2.2.2.2.2.2.2.2.2.2.2.2.2.2.2.2.2.1
theorem k0_dev111_lt : ∀ (v1 : BitVec 32) (k0_hw2 : k0_chk2 v1), (k0_dev111 v1) < nD := fun v1 k0_hw2 => k0_hw2.2.1.2.2.2.2.2.2.2.2.2.2.2.2.2.2.2.2.2.2.2.2.2.2.2.1
theorem k0_dev113_lt : ∀ (v1 : BitVec 32) (k0_hw2 : k0_chk2 v1), (k0_dev113 v1) < nD := fun v1 k0_hw2 => k0_hw2.2.1.2.2.2.2.2.2.2.2.2.2.2.2.2.2.2.2.2.2.2.2.2.2.2.2.1
theorem k0_dev116_lt : ∀ (v1 : BitVec 32) (k0_hw2 : k0_chk2 v1), (k0_dev116 v1) < nD := fun v1 k0_hw2 => k0_hw2.2.1.2.2.2.2.2.2.2.2.2.2.2.2.2.2.2.2.2.2.2.2.2.2.2.2.2.1
theorem k0_dev118_lt : ∀ (v1 : BitVec 32) (k0_hw2 : k0_chk2 v1), (k0_dev118 v1) < nD := fun v1 k0_hw2 => k0_hw2.2.1.2.2.2.2.2.2.2.2.2.2.2.2.2.2.2.2.2.2.2.2.2.2.2.2.2.2.1
theorem k0_dev120_lt : ∀ (v1 : BitVec 32) (k0_hw2 : k0_chk2 v1), (k0_dev120 v1) < nD := fun v1 k0_hw2 => k0_hw2.2.1.2.2.2.2.2.2.2.2.2.2.2.2.2.2.2.2.2.2.2.2.2.2.2.2.2.2.2.1
theorem k0_dev122_lt : ∀ (v1 : BitVec 32) (k0_hw2 : k0_chk2 v1), (k0_dev122 v1) < nD := fun v1 k0_hw2 => k0_hw2.2.1.2.2.2.2.2.2.2.2.2.2.2.2.2.2.2.2.2.2.2.2.2.2.2.2.2.2.2.2.1
theorem k0_dev123_lt : ∀ (v1 : BitVec 32) (k0_hw2 : k0_chk2 v1), (k0_dev123 v1) < nD := fun v1 k0_hw2 => k0_hw2.2.1.2.2.2.2.2.2.2.2.2.2.2.2.2.2.2.2.2.2.2.2.2.2.2.2.2.2.2.2.2.1
theorem k0_dev125_lt : ∀ (v1 : BitVec 32) (k0_hw2 : k0_chk2 v1), (k0_dev125 v1) < nD := fun v1 k0_hw2 => k0_hw2.2.1.2.2.2.2.2.2.2.2.2.2.2.2.2.2.2.2.2.2.2.2.2.2.2.2.2.2.2.2.2.2.1
theorem k0_dev127_lt : ∀ (v1 : BitVec 32) (k0_hw2 : k0_chk2 v1), (k0_dev127 v1) < nD := fun v1 k0_hw2 => k0_hw2.2.1.2.2.2.2.2.2.2.2.2.2.2.2.2.2.2.2.2.2.2.2.2.2.2.2.2.2.2.2.2.2.2
theorem k0_dev129_lt : ∀ (v1 : BitVec 32) (k0_hw2 : k0_chk2 v1), (k0_dev129 v1) < nD := fun v1 k0_hw2 => k0_hw2.2.2.1.1
theorem k0_dev132_lt : ∀ (v1 : BitVec 32) (k0_hw2 : k0_chk2 v1), (k0_dev132 v1) < nD := fun v1 k0_hw2 => k0_hw2.2.2.1.2.1
theorem k0_dev134_lt : ∀ (v1 : BitVec 32) (k0_hw2 : k0_chk2 v1), (k0_dev134 v1) < nD := fun v1 k0_hw2 => k0_hw2.2.2.1.2.2.1
theorem k0_dev136_lt : ∀ (v1 : BitVec 32) (k0_hw2 : k0_chk2 v1), (k0_dev136 v1) < nD := fun v1 k0_hw2 => k0_hw2.2.2.1.2.2.2.1
theorem k0_dev138_lt : ∀ (v1 : BitVec 32) (k0_hw2 : k0_chk2 v1), (k0_dev138 v1) < nD := fun v1 k0_hw2 => k0_hw2.2.2.1.2.2.2.2.1
theorem k0_dev139_lt : ∀ (v1 : BitVec 32) (k0_hw2 : k0_chk2 v1), (k0_dev139 v1) < nD := fun v1 k0_hw2 => k0_hw2.2.2.1.2.2.2.2.2.1
theorem k0_dev141_lt : ∀ (v1 : BitVec 32) (k0_hw2 : k0_chk2 v1), (k0_dev141 v1) < nD := fun v1 k0_hw2 => k0_hw2.2.2.1.2.2.2.2.2.2.1
theorem k0_dev143_lt : ∀ (v1 : BitVec 32) (k0_hw2 : k0_chk2 v1), (k0_dev143 v1) < nD := fun v1 k0_hw2 => k0_hw2.2.2.1.2.2.2.2.2.2.2.1
theorem k0_dev145_lt : ∀ (v1 : BitVec 32) (k0_hw2 : k0_chk2 v1), (k0_dev145 v1) < nD := fun v1 k0_hw2 => k0_hw2.2.2.1.2.2.2.2.2.2.2.2.1
theorem k0_dev148_lt : ∀ (v1 : BitVec 32) (k0_hw2 : k0_chk2 v1), (k0_dev148 v1) < nD := fun v1 k0_hw2 => k0_hw2.2.2.1.2.2.2.2.2.2.2.2.2.1
theorem k0_dev150_lt : ∀ (v1 : BitVec 32) (k0_hw2 : k0_chk2 v1), (k0_dev150 v1) < nD := fun v1 k0_hw2 => k0_hw2.2.2.1.2.2.2.2.2.2.2.2.2.2.1
theorem k0_dev152_lt : ∀ (v1 : BitVec 32) (k0_hw2 : k0_chk2 v1), (k0_dev152 v1) < nD := fun v1 k0_hw2 => k0_hw2.2.2.1.2.2.2.2.2.2.2.2.2.2.2.1
theorem k0_dev154_lt : ∀ (v1 : BitVec 32) (k0_hw2 : k0_chk2 v1), (k0_dev154 v1) < nD := fun v1 k0_hw2 => k0_hw2.2.2.1.2.2.2.2.2.2.2.2.2.2.2.2.1
theorem k0_dev155_lt : ∀ (v1 : BitVec 32) (k0_hw2 : k0_chk2 v1), (k0_dev155 v1) < nD := fun v1 k0_hw2 => k0_hw2.2.2.1.2.2.2.2.2.2.2.2.2.2.2.2.2.1
theorem k0_dev157_lt : ∀ (v1 : BitVec 32) (k0_hw2 : k0_chk2 v1), (k0_dev157 v1) < nD := fun v1 k0_hw2 => k0_hw2.2.2.1.2.2.2.2.2.2.2.2.2.2.2.2.2.2.1
theorem k0_dev159_lt : ∀ (v1 : BitVec 32) (k0_hw2 : k0_chk2 v1), (k0_dev159 v1) < nD := fun v1 k0_hw2 => k0_hw2.2.2.1.2.2.2.2.2.2.2.2.2.2.2.2.2.2.2.1
theorem k0_dev161_lt : ∀ (v1 : BitVec 32) (k0_hw2 : k0_chk2 v1), (k0_dev161 v1) < nD := fun v1 k0_hw2 => k0_hw2.2.2.1.2.2.2.2.2.2.2.2.2.2.2.2.2.2.2.2.1
theorem k0_dev164_lt : ∀ (v1 : BitVec 32) (k0_hw2 : k0_chk2 v1), (k0_dev164 v1) < nD := fun v1 k0_hw2 => k0_hw2.2.2.1.2.2.2.2.2.2.2.2.2.2.2.2.2.2.2.2.2.1
theorem k0_dev166_lt : ∀ (v1 : BitVec 32) (k0_hw2 : k0_chk2 v1), (k0_dev166 v1) < nD := fun v1 k0_hw2 => k0_hw2.2.2.1.2.2.2.2.2.2.2.2.2.2.2.2.2.2.2.2.2.2.1
theorem k0_dev168_lt : ∀ (v1 : BitVec 32) (k0_hw2 : k0_chk2 v1), (k0_dev168 v1) < nD := fun v1 k0_hw2 => k0_hw2.2.2.1.2.2.2.2.2.2.2.2.2.2.2.2.2.2.2.2.2.2.2.1
theorem k0_dev170_lt : ∀ (v1 : BitVec 32) (k0_hw2 : k0_chk2 v1), (k0_dev170 v1) < nD := fun v1 k0_hw2 => k0_hw2.2.2.1.2.2.2.2.2.2.2.2.2.2.2.2.2.2.2.2.2.2.2.2.1
theorem k0_dev171_lt : ∀ (v1 : BitVec 32) (k0_hw2 : k0_chk2 v1), (k0_dev171 v1) < nD := fun v1 k0_hw2 => k0_hw2.2.2.1.2.2.2.2.2.2.2.2.2.2.2.2.2.2.2.2.2.2.2.2.2.1
theorem k0_dev173_lt : ∀ (v1 : BitVec 32) (k0_hw2 : k0_chk2 v1), (k0_dev173 v1) < nD := fun v1 k0_hw2 => k0_hw2.2.2.1.2.2.2.2.2.2.2.2.2.2.2.2.2.2.2.2.2.2.2.2.2.2.1
theorem k0_dev175_lt : ∀ (v1 : BitVec 32) (k0_hw2 : k0_chk2 v1), (k0_dev175 v1) < nD := fun v1 k0_hw2 => k0_hw2.2.2.1.2.2.2.2.2.2.2.2.2.2.2.2.2.2.2.2.2.2.2.2.2.2.2.1
theorem k0_dev177_lt : ∀ (v1 : BitVec 32) (k0_hw2 : k0_chk2 v1), (k0_dev177 v1) < nD := fun v1 k0_hw2 => k0_hw2.2.2.1.2.2.2.2.2.2.2.2.2.2.2.2.2.2.2.2.2.2.2.2.2.2.2.2.1
theorem k0_dev180_lt : ∀ (v1 : BitVec 32) (k0_hw2 : k0_chk2 v1), (k0_dev180 v1) < nD := fun v1 k0_hw2 => k0_hw2.2.2.1.2.2.2.2.2.2.2.2.2.2.2.2.2.2.2.2.2.2.2.2.2.2.2.2.2.1
theorem k0_dev182_lt : ∀ (v1 : BitVec 32) (k0_hw2 : k0_chk2 v1), (k0_dev182 v1) < nD := fun v1 k0_hw2 => k0_hw2.2.2.1.2.2.2.2.2.2.2.2.2.2.2.2.2.2.2.2.2.2.2.2.2.2.2.2.2.2.1
theorem k0_dev184_lt : ∀ (v1 : BitVec 32) (k0_hw2 : k0_chk2 v1), (k0_dev184 v1) < nD := fun v1 k0_hw2 => k0_hw2.2.2.1.2.2.2.2.2.2.2.2.2.2.2.2.2.2.2.2.2.2.2.2.2.2.2.2.2.2.2.1
theorem k0_dev186_lt : ∀ (v1 : BitVec 32) (k0_hw2 : k0_chk2 v1), (k0_dev186 v1) < nD := fun v1 k0_hw2 => k0_hw2.2.2.1.2.2.2.2.2.2.2.2.2.2.2.2.2.2.2.2.2.2.2.2.2.2.2.2.2.2.2.2.1
theorem k0_dev187_lt : ∀ (v1 : BitVec 32) (k0_hw2 : k0_chk2 v1), (k0_dev187 v1) < nD := fun v1 k0_hw2 => k0_hw2.2.2.1.2.2.2.2.2.2.2.2.2.2.2.2.2.2.2.2.2.2.2.2.2.2.2.2.2.2.2.2.2.1
theorem k0_dev189_lt : ∀ (v1 : BitVec 32) (k0_hw2 : k0_chk2 v1), (k0_dev189 v1) < nD := fun v1 k0_hw2 => k0_hw2.2.2.1.2.2.2.2.2.2.2.2.2.2.2.2.2.2.2.2.2.2.2.2.2.2.2.2.2.2.2.2.2.2.1
theorem k0_dev191_lt : ∀ (v1 : BitVec 32) (k0_hw2 : k0_chk2 v1), (k0_dev191 v1) < nD := fun v1 k0_hw2 => k0_hw2.2.2.1.2.2.2.2.2.2.2.2.2.2.2.2.2.2.2.2.2.2.2.2.2.2.2.2.2.2.2.2.2.2.2
theorem k0_dev193_lt : ∀ (v1 : BitVec 32) (k0_hw2 : k0_chk2 v1), (k0_dev193 v1) < nD := fun v1 k0_hw2 => k0_hw2.2.2.2.1.1
theorem k0_dev196_lt : ∀ (v1 : BitVec 32) (k0_hw2 : k0_chk2 v1), (k0_dev196 v1) < nD := fun v1 k0_hw2 => k0_hw2.2.2.2.1.2.1
theorem k0_dev198_lt : ∀ (v1 : BitVec 32) (k0_hw2 : k0_chk2 v1), (k0_dev198 v1) < nD := fun v1 k0_hw2 => k0_hw2.2.2.2.1.2.2.1
theorem k0_dev200_lt : ∀ (v1 : BitVec 32) (k0_hw2 : k0_chk2 v1), (k0_dev200 v1) < nD := fun v1 k0_hw2 => k0_hw2.2.2.2.1.2.2.2.1
theorem k0_dev202_lt : ∀ (v1 : BitVec 32) (k0_hw2 : k0_chk2 v1), (k0_dev202 v1) < nD := fun v1 k0_hw2 => k0_hw2.2.2.2.1.2.2.2.2.1
theorem k0_dev203_lt : ∀ (v1 : BitVec 32) (k0_hw2 : k0_chk2 v1), (k0_dev203 v1) < nD := fun v1 k0_hw2 => k0_hw2.2.2.2.1.2.2.2.2.2.1
theorem k0_dev205_lt : ∀ (v1 : BitVec 32) (k0_hw2 : k0_chk2 v1), (k0_dev205 v1) < nD := fun v1 k0_hw2 => k0_hw2.2.2.2.1.2.2.2.2.2.2.1
theorem k0_dev207_lt : ∀ (v1 : BitVec 32) (k0_hw2 : k0_chk2 v1), (k0_dev207 v1) < nD := fun v1 k0_hw2 => k0_hw2.2.2.2.1.2.2.2.2.2.2.2.1
theorem k0_dev209_lt : ∀ (v1 : BitVec 32) (k0_hw2 : k0_chk2 v1), (k0_dev209 v1) < nD := fun v1 k0_hw2 => k0_hw2.2.2.2.1.2.2.2.2.2.2.2.2.1
theorem k0_dev211_lt : ∀ (v1 : BitVec 32) (k0_hw2 : k0_chk2 v1), (k0_dev211 v1) < nD := fun v1 k0_hw2 => k0_hw2.2.2.2.1.2.2.2.2.2.2.2.2.2.1
theorem k0_dev213_lt : ∀ (v1 : BitVec 32) (k0_hw2 : k0_chk2 v1), (k0_dev213 v1) < nD := fun v1 k0_hw2 => k0_hw2.2.2.2.1.2.2.2.2.2.2.2.2.2.2.1
theorem k0_dev215_lt : ∀ (v1 : BitVec 32) (k0_hw2 : k0_chk2 v1), (k0_dev215 v1) < nD := fun v1 k0_hw2 => k0_hw2.2.2.2.1.2.2.2.2.2.2.2.2.2.2.2.1
theorem k0_dev217_lt : ∀ (v1 : BitVec 32) (k0_hw2 : k0_chk2 v1), (k0_dev217 v1) < nD := fun v1 k0_hw2 => k0_hw2.2.2.2.1.2.2.2.2.2.2.2.2.2.2.2.2.1
theorem k0_dev219_lt : ∀ (v1 : BitVec 32) (k0_hw2 : k0_chk2 v1), (k0_dev219 v1) < nD := fun v1 k0_hw2 => k0_hw2.2.2.2.1.2.2.2.2.2.2.2.2.2.2.2.2.2.1
theorem k0_dev221_lt : ∀ (v1 : BitVec 32) (k0_hw2 : k0_chk2 v1), (k0_dev221 v1) < nD := fun v1 k0_hw2 => k0_hw2.2.2.2.1.2.2.2.2.2.2.2.2.2.2.2.2.2.2.1
theorem k0_dev223_lt : ∀ (v1 : BitVec 32) (k0_hw2 : k0_chk2 v1), (k0_dev223 v1) < nD := fun v1 k0_hw2 => k0_hw2.2.2.2.1.2.2.2.2.2.2.2.2.2.2.2.2.2.2.2.1
theorem k0_dev225_lt : ∀ (v1 : BitVec 32) (k0_hw2 : k0_chk2 v1), (k0_dev225 v1) < nD := fun v1 k0_hw2 => k0_hw2.2.2.2.1.2.2.2.2.2.2.2.2.2.2.2.2.2.2.2.2.1
theorem k0_dev227_lt : ∀ (v1 : BitVec 32) (k0_hw2 : k0_chk2 v1), (k0_dev227 v1) < nD := fun v1 k0_hw2 => k0_hw2.2.2.2.1.2.2.2.2.2.2.2.2.2.2.2.2.2.2.2.2.2.1
theorem k0_dev229_lt : ∀ (v1 : BitVec 32) (k0_hw2 : k0_chk2 v1), (k0_dev229 v1) < nD := fun v1 k0_hw2 => k0_hw2.2.2.2.1.2.2.2.2.2.2.2.2.2.2.2.2.2.2.2.2.2.2.1
theorem k0_dev231_lt : ∀ (v1 : BitVec 32) (k0_hw2 : k0_chk2 v1), (k0_dev231 v1) < nD := fun v1 k0_hw2 => k0_hw2.2.2.2.1.2.2.2.2.2.2.2.2.2.2.2.2.2.2.2.2.2.2.2.1
theorem k0_dev233_lt : ∀ (v1 : BitVec 32) (k0_hw2 : k0_chk2 v1), (k0_dev233 v1) < nD := fun v1 k0_hw2 => k0_hw2.2.2.2.1.2.2.2.2.2.2.2.2.2.2.2.2.2.2.2.2.2.2.2.2.1
theorem k0_dev235_lt : ∀ (v1 : BitVec 32) (k0_hw2 : k0_chk2 v1), (k0_dev235 v1) < nD := fun v1 k0_hw2 => k0_hw2.2.2.2.1.2.2.2.2.2.2.2.2.2.2.2.2.2.2.2.2.2.2.2.2.2.1
theorem k0_dev237_lt : ∀ (v1 : BitVec 32) (k0_hw2 : k0_chk2 v1), (k0_dev237 v1) < nD := fun v1 k0_hw2 => k0_hw2.2.2.2.1.2.2.2.2.2.2.2.2.2.2.2.2.2.2.2.2.2.2.2.2.2.2.1
theorem k0_dev239_lt : ∀ (v1 : BitVec 32) (k0_hw2 : k0_chk2 v1), (k0_dev239 v1) < nD := fun v1 k0_hw2 => k0_hw2.2.2.2.1.2.2.2.2.2.2.2.2.2.2.2.2.2.2.2.2.2.2.2.2.2.2.2.1
theorem k0_dev241_lt : ∀ (v1 : BitVec 32) (k0_hw2 : k0_chk2 v1), (k0_dev241 v1) < nD := fun v1 k0_hw2 => k0_hw2.2.2.2.1.2.2.2.2.2.2.2.2.2.2.2.2.2.2.2.2.2.2.2.2.2.2.2.2.1
theorem k0_dev243_lt : ∀ (v1 : BitVec 32) (k0_hw2 : k0_chk2 v1), (k0_dev243 v1) < nD := fun v1 k0_hw2 => k0_hw2.2.2.2.1.2.2.2.2.2.2.2.2.2.2.2.2.2.2.2.2.2.2.2.2.2.2.2.2.2.1
theorem k0_dev245_lt : ∀ (v1 : BitVec 32) (k0_hw2 : k0_chk2 v1), (k0_dev245 v1) < nD := fun v1 k0_hw2 => k0_hw2.2.2.2.1.2.2.2.2.2.2.2.2.2.2.2.2.2.2.2.2.2.2.2.2.2.2.2.2.2.2.1
theorem k0_dev247_lt : ∀ (v1 : BitVec 32) (k0_hw2 : k0_chk2 v1), (k0_dev247 v1) < nD := fun v1 k0_hw2 => k0_hw2.2.2.2.1.2.2.2.2.2.2.2.2.2.2.2.2.2.2.2.2.2.2.2.2.2.2.2.2.2.2.2.1
theorem k0_dev249_lt : ∀ (v1 : BitVec 32) (k0_hw2 : k0_chk2 v1), (k0_dev249 v1) < nD := fun v1 k0_hw2 => k0_hw2.2.2.2.1.2.2.2.2.2.2.2.2.2.2.2.2.2.2.2.2.2.2.2.2.2.2.2.2.2.2.2.2.1
theorem k0_dev251_lt : ∀ (v1 : BitVec 32) (k0_hw2 : k0_chk2 v1), (k0_dev251 v1) < nD := fun v1 k0_hw2 => k0_hw2.2.2.2.1.2.2.2.2.2.2.2.2.2.2.2.2.2.2.2.2.2.2.2.2.2.2.2.2.2.2.2.2.2.1
theorem k0_dev253_lt : ∀ (v1 : BitVec 32) (k0_hw2 : k0_chk2 v1), (k0_dev253 v1) < nD := fun v1 k0_hw2 => k0_hw2.2.2.2.1.2.2.2.2.2.2.2.2.2.2.2.2.2.2.2.2.2.2.2.2.2.2.2.2.2.2.2.2.2.2.1
theorem k0_dev255_lt : ∀ (v1 : BitVec 32) (k0_hw2 : k0_chk2 v1), (k0_dev255 v1) < nD := fun v1 k0_hw2 => k0_hw2.2.2.2.1.2.2.2.2.2.2.2.2.2.2.2.2.2.2.2.2.2.2.2.2.2.2.2.2.2.2.2.2.2.2.2
theorem k0_dev257_lt : ∀ (v1 : BitVec 32) (k0_hw2 : k0_chk2 v1), (k0_dev257 v1) < nD := fun v1 k0_hw2 => k0_hw2.2.2.2.2.1.1
theorem k0_dev259_lt : ∀ (v1 : BitVec 32) (k0_hw2 : k0_chk2 v1), (k0_dev259 v1) < nD := fun v1 k0_hw2 => k0_hw2.2.2.2.2.1.2.1
theorem k0_dev261_lt : ∀ (v1 : BitVec 32) (k0_hw2 : k0_chk2 v1), (k0_dev261 v1) < nD := fun v1 k0_hw2 => k0_hw2.2.2.2.2.1.2.2.1
theorem k0_dev263_lt : ∀ (v1 : BitVec 32) (k0_hw2 : k0_chk2 v1), (k0_dev263 v1) < nD := fun v1 k0_hw2 => k0_hw2.2.2.2.2.1.2.2.2.1
theorem k0_dev265_lt : ∀ (v1 : BitVec 32) (k0_hw2 : k0_chk2 v1), (k0_dev265 v1) < nD := fun v1 k0_hw2 => k0_hw2.2.2.2.2.1.2.2.2.2.1
theorem k0_dev267_lt : ∀ (v1 : BitVec 32) (k0_hw2 : k0_chk2 v1), (k0_dev267 v1) < nD := fun v1 k0_hw2 => k0_hw2.2.2.2.2.1.2.2.2.2.2.1
theorem k0_dev269_lt : ∀ (v1 : BitVec 32) (k0_hw2 : k0_chk2 v1), (k0_dev269 v1) < nD := fun v1 k0_hw2 => k0_hw2.2.2.2.2.1.2.2.2.2.2.2.1
theorem k0_dev271_lt : ∀ (v1 : BitVec 32) (k0_hw2 : k0_chk2 v1), (k0_dev271 v1) < nD := fun v1 k0_hw2 => k0_hw2.2.2.2.2.1.2.2.2.2.2.2.2.1
theorem k0_dev273_lt : ∀ (v1 : BitVec 32) (k0_hw2 : k0_chk2 v1), (k0_dev273 v1) < nD := fun v1 k0_hw2 => k0_hw2.2.2.2.2.1.2.2.2.2.2.2.2.2.1
theorem k0_dev275_lt : ∀ (v1 : BitVec 32) (k0_hw2 : k0_chk2 v1), (k0_dev275 v1) < nD := fun v1 k0_hw2 => k0_hw2.2.2.2.2.1.2.2.2.2.2.2.2.2.2.1
theorem k0_dev277_lt : ∀ (v1 : BitVec 32) (k0_hw2 : k0_chk2 v1), (k0_dev277 v1) < nD := fun v1 k0_hw2 => k0_hw2.2.2.2.2.1.2.2.2.2.2.2.2.2.2.2.1
theorem k0_dev279_lt : ∀ (v1 : BitVec 32) (k0_hw2 : k0_chk2 v1), (k0_dev279 v1) < nD := fun v1 k0_hw2 => k0_hw2.2.2.2.2.1.2.2.2.2.2.2.2.2.2.2.2.1
theorem k0_dev281_lt : ∀ (v1 : BitVec 32) (k0_hw2 : k0_chk2 v1), (k0_dev281 v1) < nD := fun v1 k0_hw2 => k0_hw2.2.2.2.2.1.2.2.2.2.2.2.2.2.2.2.2.2.1
theorem k0_dev283_lt : ∀ (v1 : BitVec 32) (k0_hw2 : k0_chk2 v1), (k0_dev283 v1) < nD := fun v1 k0_hw2 => k0_hw2.2.2.2.2.1.2.2.2.2.2.2.2.2.2.2.2.2.2.1
theorem k0_dev285_lt : ∀ (v1 : BitVec 32) (k0_hw2 : k0_chk2 v1), (k0_dev285 v1) < nD := fun v1 k0_hw2 => k0_hw2.2.2.2.2.1.2.2.2.2.2.2.2.2.2.2.2.2.2.2.1
theorem k0_dev287_lt : ∀ (v1 : BitVec 32) (k0_hw2 : k0_chk2 v1), (k0_dev287 v1) < nD := fun v1 k0_hw2 => k0_hw2.2.2.2.2.1.2.2.2.2.2.2.2.2.2.2.2.2.2.2.2.1
theorem k0_dev289_lt : ∀ (v1 : BitVec 32) (k0_hw2 : k0_chk2 v1), (k0_dev289 v1) < nD := fun v1 k0_hw2 => k0_hw2.2.2.2.2.1.2.2.2.2.2.2.2.2.2.2.2.2.2.2.2.2.1
theorem k0_dev291_lt : ∀ (v1 : BitVec 32) (k0_hw2 : k0_chk2 v1), (k0_dev291 v1) < nD := fun v1 k0_hw2 => k0_hw2.2.2.2.2.1.2.2.2.2.2.2.2.2.2.2.2.2.2.2.2.2.2.1
theorem k0_dev293_lt : ∀ (v1 : BitVec 32) (k0_hw2 : k0_chk2 v1), (k0_dev293 v1) < nD := fun v1 k0_hw2 => k0_hw2.2.2.2.2.1.2.2.2.2.2.2.2.2.2.2.2.2.2.2.2.2.2.2.1
theorem k0_dev295_lt : ∀ (v1 : BitVec 32) (k0_hw2 : k0_chk2 v1), (k0_dev295 v1) < nD := fun v1 k0_hw2 => k0_hw2.2.2.2.2.1.2.2.2.2.2.2.2.2.2.2.2.2.2.2.2.2.2.2.2.1
theorem k0_dev297_lt : ∀ (v1 : BitVec 32) (k0_hw2 : k0_chk2 v1), (k0_dev297 v1) < nD := fun v1 k0_hw2 => k0_hw2.2.2.2.2.1.2.2.2.2.2.2.2.2.2.2.2.2.2.2.2.2.2.2.2.2.1
theorem k0_dev299_lt : ∀ (v1 : BitVec 32) (k0_hw2 : k0_chk2 v1), (k0_dev299 v1) < nD := fun v1 k0_hw2 => k0_hw2.2.2.2.2.1.2.2.2.2.2.2.2.2.2.2.2.2.2.2.2.2.2.2.2.2.2.1
theorem k0_dev301_lt : ∀ (v1 : BitVec 32) (k0_hw2 : k0_chk2 v1), (k0_dev301 v1) < nD := fun v1 k0_hw2 => k0_hw2.2.2.2.2.1.2.2.2.2.2.2.2.2.2.2.2.2.2.2.2.2.2.2.2.2.2.2.1
theorem k0_dev303_lt : ∀ (v1 : BitVec 32) (k0_hw2 : k0_chk2 v1), (k0_dev303 v1) < nD := fun v1 k0_hw2 => k0_hw2.2.2.2.2.1.2.2.2.2.2.2.2.2.2.2.2.2.2.2.2.2.2.2.2.2.2.2.2.1
theorem k0_dev305_lt : ∀ (v1 : BitVec 32) (k0_hw2 : k0_chk2 v1), (k0_dev305 v1) < nD := fun v1 k0_hw2 => k0_hw2.2.2.2.2.1.2.2.2.2.2.2.2.2.2.2.2.2.2.2.2.2.2.2.2.2.2.2.2.2.1
theorem k0_dev307_lt : ∀ (v1 : BitVec 32) (k0_hw2 : k0_chk2 v1), (k0_dev307 v1) < nD := fun v1 k0_hw2 => k0_hw2.2.2.2.2.1.2.2.2.2.2.2.2.2.2.2.2.2.2.2.2.2.2.2.2.2.2.2.2.2.2.1
theorem k0_dev309_lt : ∀ (v1 : BitVec 32) (k0_hw2 : k0_chk2 v1), (k0_dev309 v1) < nD := fun v1 k0_hw2 => k0_hw2.2.2.2.2.1.2.2.2.2.2.2.2.2.2.2.2.2.2.2.2.2.2.2.2.2.2.2.2.2.2.2.1
theorem k0_dev311_lt : ∀ (v1 : BitVec 32) (k0_hw2 : k0_chk2 v1), (k0_dev311 v1) < nD := fun v1 k0_hw2 => k0_hw2.2.2.2.2.1.2.2.2.2.2.2.2.2.2.2.2.2.2.2.2.2.2.2.2.2.2.2.2.2.2.2.2.1
theorem k0_dev313_lt : ∀ (v1 : BitVec 32) (k0_hw2 : k0_chk2 v1), (k0_dev313 v1) < nD := fun v1 k0_hw2 => k0_hw2.2.2.2.2.1.2.2.2.2.2.2.2.2.2.2.2.2.2.2.2.2.2.2.2.2.2.2.2.2.2.2.2.2.1
theorem k0_dev315_lt : ∀ (v1 : BitVec 32) (k0_hw2 : k0_chk2 v1), (k0_dev315 v1) < nD := fun v1 k0_hw2 => k0_hw2.2.2.2.2.1.2.2.2.2.2.2.2.2.2.2.2.2.2.2.2.2.2.2.2.2.2.2.2.2.2.2.2.2.2.1
theorem k0_dev317_lt : ∀ (v1 : BitVec 32) (k0_hw2 : k0_chk2 v1), (k0_dev317 v1) < nD := fun v1 k0_hw2 => k0_hw2.2.2.2.2.1.2.2.2.2.2.2.2.2.2.2.2.2.2.2.2.2.2.2.2.2.2.2.2.2.2.2.2.2.2.2.1
theorem k0_dev319_lt : ∀ (v1 : BitVec 32) (k0_hw2 : k0_chk2 v1), (k0_dev319 v1) < nD := fun v1 k0_hw2 => k0_hw2.2.2.2.2.1.2.2.2.2.2.2.2.2.2.2.2.2.2.2.2.2.2.2.2.2.2.2.2.2.2.2.2.2.2.2.2
theorem k0_dev321_lt : ∀ (v1 : BitVec 32) (k0_hw2 : k0_chk2 v1), (k0_dev321 v1) < nD := fun v1 k0_hw2 => k0_hw2.2.2.2.2.2.1
theorem k0_dev323_lt : ∀ (v1 : BitVec 32) (k0_hw2 : k0_chk2 v1), (k0_dev323 v1) < nD := fun v1 k0_hw2 => k0_hw2.2.2.2.2.2.2.1
theorem k0_dev325_lt : ∀ (v1 : BitVec 32) (k0_hw2 : k0_chk2 v1), (k0_dev325 v1) < nD := fun v1 k0_hw2 => k0_hw2.2.2.2.2.2.2.2.1
theorem k0_dev327_lt : ∀ (v1 : BitVec 32) (k0_hw2 : k0_chk2 v1), (k0_dev327 v1) < nD := fun v1 k0_hw2 => k0_hw2.2.2.2.2.2.2.2.2.1
theorem k0_dev329_lt : ∀ (v1 : BitVec 32) (k0_hw2 : k0_chk2 v1), (k0_dev329 v1) < nD := fun v1 k0_hw2 => k0_hw2.2.2.2.2.2.2.2.2.2.1
theorem k0_dev331_lt : ∀ (v1 : BitVec 32) (k0_hw2 : k0_chk2 v1), (k0_dev331 v1) < nD := fun v1 k0_hw2 => k0_hw2.2.2.2.2.2.2.2.2.2.2.1
theorem k0_dev333_lt : ∀ (v1 : BitVec 32) (k0_hw2 : k0_chk2 v1), (k0_dev333 v1) < nD := fun v1 k0_hw2 => k0_hw2.2.2.2.2.2.2.2.2.2.2.2.1
theorem k0_dev335_lt : ∀ (v1 : BitVec 32) (k0_hw2 : k0_chk2 v1), (k0_dev335 v1) < nD := fun v1 k0_hw2 => k0_hw2.2.2.2.2.2.2.2.2.2.2.2.2.1
theorem k0_dev337_lt : ∀ (v1 : BitVec 32) (k0_hw2 : k0_chk2 v1), (k0_dev337 v1) < nD := fun v1 k0_hw2 => k0_hw2.2.2.2.2.2.2.2.2.2.2.2.2.2

def k0_dev338 (v2 : BitVec 32) : Nat :=
  v2.toNat

def k0_chk1_0 (v2 : BitVec 32) : Prop :=
  ((k0_dev1 v2) < nD) ∧
  ((k0_dev7 v2) < nD) ∧
  ((k0_dev8 v2) < nD) ∧
  ((k0_dev9 v2) < nD) ∧
  ((k0_dev10 v2) < nD) ∧
  ((k0_dev12 v2) < nD) ∧
  ((k0_dev14 v2) < nD) ∧
  ((k0_dev16 v2) < nD) ∧
  ((k0_dev18 v2) < nD) ∧
  ((k0_dev19 v2) < nD) ∧
  ((k0_dev21 v2) < nD) ∧
  ((k0_dev23 v2) < nD) ∧
  ((k0_dev25 v2) < nD) ∧
  ((k0_dev28 v2) < nD) ∧
  ((k0_dev30 v2) < nD) ∧
  ((k0_dev32 v2) < nD) ∧
  ((k0_dev34 v2) < nD) ∧
  ((k0_dev35 v2) < nD) ∧
  ((k0_dev37 v2) < nD) ∧
  ((k0_dev39 v2) < nD) ∧
  ((k0_dev41 v2) < nD) ∧
  ((k0_dev44 v2) < nD) ∧
  ((k0_dev46 v2) < nD) ∧
  ((k0_dev48 v2) < nD) ∧
  ((k0_dev50 v2) < nD) ∧
  ((k0_dev51 v2) < nD) ∧
  ((k0_dev53 v2) < nD) ∧
  ((k0_dev55 v2) < nD) ∧
  ((k0_dev57 v2) < nD) ∧
  ((k0_dev60 v2) < nD) ∧
  ((k0_dev62 v2) < nD) ∧
  ((k0_dev64 v2) < nD)
def k0_chk1_1 (v2 : BitVec 32) : Prop :=
  ((k0_dev66 v2) < nD) ∧
  ((k0_dev67 v2) < nD) ∧
  ((k0_dev69 v2) < nD) ∧
  ((k0_dev71 v2) < nD) ∧
  ((k0_dev73 v2) < nD) ∧
  ((k0_dev76 v2) < nD) ∧
  ((k0_dev78 v2) < nD) ∧
  ((k0_dev80 v2) < nD) ∧
  ((k0_dev82 v2) < nD) ∧
  ((k0_dev83 v2) < nD) ∧
  ((k0_dev85 v2) < nD) ∧
  ((k0_dev87 v2) < nD) ∧
  ((k0_dev89 v2) < nD) ∧
  ((k0_dev92 v2) < nD) ∧
  ((k0_dev94 v2) < nD) ∧
  ((k0_dev96 v2) < nD) ∧
  ((k0_dev98 v2) < nD) ∧
  ((k0_dev99 v2) < nD) ∧
  ((k0_dev101 v2) < nD) ∧
  ((k0_dev103 v2) < nD) ∧
  ((k0_dev105 v2) < nD) ∧
  ((k0_dev108 v2) < nD) ∧
  ((k0_dev110 v2) < nD) ∧
  ((k0_dev112 v2) < nD) ∧
  ((k0_dev114 v2) < nD) ∧
  ((k0_dev115 v2) < nD) ∧
  ((k0_dev117 v2) < nD) ∧
  ((k0_dev119 v2) < nD) ∧
  ((k0_dev121 v2) < nD) ∧
  ((k0_dev124 v2) < nD) ∧
  ((k0_dev126 v2) < nD) ∧
  ((k0_dev128 v2) < nD)
def k0_chk1_2 (v2 : BitVec 32) : Prop :=
  ((k0_dev130 v2) < nD) ∧
  ((k0_dev131 v2) < nD) ∧
  ((k0_dev133 v2) < nD) ∧
  ((k0_dev135 v2) < nD) ∧
  ((k0_dev137 v2) < nD) ∧
  ((k0_dev140 v2) < nD) ∧
  ((k0_dev142 v2) < nD) ∧
  ((k0_dev144 v2) < nD) ∧
  ((k0_dev146 v2) < nD) ∧
  ((k0_dev147 v2) < nD) ∧
  ((k0_dev149 v2) < nD) ∧
  ((k0_dev151 v2) < nD) ∧
  ((k0_dev153 v2) < nD) ∧
  ((k0_dev156 v2) < nD) ∧
  ((k0_dev158 v2) < nD) ∧
  ((k0_dev160 v2) < nD) ∧
  ((k0_dev162 v2) < nD) ∧
  ((k0_dev163 v2) < nD) ∧
  ((k0_dev165 v2) < nD) ∧
  ((k0_dev167 v2) < nD) ∧
  ((k0_dev169 v2) < nD) ∧
  ((k0_dev172 v2) < nD) ∧
  ((k0_dev174 v2) < nD) ∧
  ((k0_dev176 v2) < nD) ∧
  ((k0_dev178 v2) < nD) ∧
  ((k0_dev179 v2) < nD) ∧
  ((k0_dev181 v2) < nD) ∧
  ((k0_dev183 v2) < nD) ∧
  ((k0_dev185 v2) < nD) ∧
  ((k0_dev188 v2) < nD) ∧
  ((k0_dev190 v2) < nD) ∧
  ((k0_dev192 v2) < nD)
def k0_chk1_3 (v2 : BitVec 32) : Prop :=
  ((k0_dev194 v2) < nD) ∧
  ((k0_dev195 v2) < nD) ∧
  ((k0_dev197 v2) < nD) ∧
  ((k0_dev199 v2) < nD) ∧
  ((k0_dev201 v2) < nD) ∧
  ((k0_dev204 v2) < nD) ∧
  ((k0_dev206 v2) < nD) ∧
  ((k0_dev208 v2) < nD) ∧
  ((k0_dev210 v2) < nD) ∧
  ((k0_dev212 v2) < nD) ∧
  ((k0_dev214 v2) < nD) ∧
  ((k0_dev216 v2) < nD) ∧
  ((k0_dev218 v2) < nD) ∧
  ((k0_dev220 v2) < nD) ∧
  ((k0_dev222 v2) < nD) ∧
  ((k0_dev224 v2) < nD) ∧
  ((k0_dev226 v2) < nD) ∧
  ((k0_dev228 v2) < nD) ∧
  ((k0_dev230 v2) < nD) ∧
  ((k0_dev232 v2) < nD) ∧
  ((k0_dev234 v2) < nD) ∧
  ((k0_dev236 v2) < nD) ∧
  ((k0_dev238 v2) < nD) ∧
  ((k0_dev240 v2) < nD) ∧
  ((k0_dev242 v2) < nD) ∧
  ((k0_dev244 v2) < nD) ∧
  ((k0_dev246 v2) < nD) ∧
  ((k0_dev248 v2) < nD) ∧
  ((k0_dev250 v2) < nD) ∧
  ((k0_dev252 v2) < nD) ∧
  ((k0_dev254 v2) < nD) ∧
  ((k0_dev256 v2) < nD)
def k0_chk1_4 (v2 : BitVec 32) : Prop :=
  ((k0_dev258 v2) < nD) ∧
  ((k0_dev260 v2) < nD) ∧
  ((k0_dev262 v2) < nD) ∧
  ((k0_dev264 v2) < nD) ∧
  ((k0_dev266 v2) < nD) ∧
  ((k0_dev268 v2) < nD) ∧
  ((k0_dev270 v2) < nD) ∧
  ((k0_dev272 v2) < nD) ∧
  ((k0_dev274 v2) < nD) ∧
  ((k0_dev276 v2) < nD) ∧
  ((k0_dev278 v2) < nD) ∧
  ((k0_dev280 v2) < nD) ∧
  ((k0_dev282 v2) < nD) ∧
  ((k0_dev284 v2) < nD) ∧
  ((k0_dev286 v2) < nD) ∧
  ((k0_dev288 v2) < nD) ∧
  ((k0_dev290 v2) < nD) ∧
  ((k0_dev292 v2) < nD) ∧
  ((k0_dev294 v2) < nD) ∧
  ((k0_dev296 v2) < nD) ∧
  ((k0_dev298 v2) < nD) ∧
  ((k0_dev300 v2) < nD) ∧
  ((k0_dev302 v2) < nD) ∧
  ((k0_dev304 v2) < nD) ∧
  ((k0_dev306 v2) < nD) ∧
  ((k0_dev308 v2) < nD) ∧
  ((k0_dev310 v2) < nD) ∧
  ((k0_dev312 v2) < nD) ∧
  ((k0_dev314 v2) < nD) ∧
  ((k0_dev316 v2) < nD) ∧
  ((k0_dev318 v2) < nD) ∧
  ((k0_dev320 v2) < nD)
def k0_chk1_5 (v2 : BitVec 32) : Prop :=
  ((k0_dev322 v2) < nD) ∧
  ((k0_dev324 v2) < nD) ∧
  ((k0_dev326 v2) < nD) ∧
  ((k0_dev328 v2) < nD) ∧
  ((k0_dev330 v2) < nD) ∧
  ((k0_dev332 v2) < nD) ∧
  ((k0_dev334 v2) < nD) ∧
  ((k0_dev336 v2) < nD) ∧
  ((k0_dev338 v2) < nD)
def k0_chk1 (v2 : BitVec 32) : Prop :=
  k0_chk1_0 v2 ∧
  k0_chk1_1 v2 ∧
  k0_chk1_2 v2 ∧
  k0_chk1_3 v2 ∧
  k0_chk1_4 v2 ∧
  k0_chk1_5 v2
theorem k0_dev1_lt : ∀ (v2 : BitVec 32) (k0_hw1 : k0_chk1 v2), (k0_dev1 v2) < nD := fun v2 k0_hw1 => k0_hw1.1.1
theorem k0_dev7_lt : ∀ (v2 : BitVec 32) (k0_hw1 : k0_chk1 v2), (k0_dev7 v2) < nD := fun v2 k0_hw1 => k0_hw1.1.2.1
theorem k0_dev8_lt : ∀ (v2 : BitVec 32) (k0_hw1 : k0_chk1 v2), (k0_dev8 v2) < nD := fun v2 k0_hw1 => k0_hw1.1.2.2.1
theorem k0_dev9_lt : ∀ (v2 : BitVec 32) (k0_hw1 : k0_chk1 v2), (k0_dev9 v2) < nD := fun v2 k0_hw1 => k0_hw1.1.2.2.2.1
theorem k0_dev10_lt : ∀ (v2 : BitVec 32) (k0_hw1 : k0_chk1 v2), (k0_dev10 v2) < nD := fun v2 k0_hw1 => k0_hw1.1.2.2.2.2.1
theorem k0_dev12_lt : ∀ (v2 : BitVec 32) (k0_hw1 : k0_chk1 v2), (k0_dev12 v2) < nD := fun v2 k0_hw1 => k0_hw1.1.2.2.2.2.2.1
theorem k0_dev14_lt : ∀ (v2 : BitVec 32) (k0_hw1 : k0_chk1 v2), (k0_dev14 v2) < nD := fun v2 k0_hw1 => k0_hw1.1.2.2.2.2.2.2.1
theorem k0_dev16_lt : ∀ (v2 : BitVec 32) (k0_hw1 : k0_chk1 v2), (k0_dev16 v2) < nD := fun v2 k0_hw1 => k0_hw1.1.2.2.2.2.2.2.2.1
theorem k0_dev18_lt : ∀ (v2 : BitVec 32) (k0_hw1 : k0_chk1 v2), (k0_dev18 v2) < nD := fun v2 k0_hw1 => k0_hw1.1.2.2.2.2.2.2.2.2.1
theorem k0_dev19_lt : ∀ (v2 : BitVec 32) (k0_hw1 : k0_chk1 v2), (k0_dev19 v2) < nD := fun v2 k0_hw1 => k0_hw1.1.2.2.2.2.2.2.2.2.2.1
theorem k0_dev21_lt : ∀ (v2 : BitVec 32) (k0_hw1 : k0_chk1 v2), (k0_dev21 v2) < nD := fun v2 k0_hw1 => k0_hw1.1.2.2.2.2.2.2.2.2.2.2.1
theorem k0_dev23_lt : ∀ (v2 : BitVec 32) (k0_hw1 : k0_chk1 v2), (k0_dev23 v2) < nD := fun v2 k0_hw1 => k0_hw1.1.2.2.2.2.2.2.2.2.2.2.2.1
theorem k0_dev25_lt : ∀ (v2 : BitVec 32) (k0_hw1 : k0_chk1 v2), (k0_dev25 v2) < nD := fun v2 k0_hw1 => k0_hw1.1.2.2.2.2.2.2.2.2.2.2.2.2.1
theorem k0_dev28_lt : ∀ (v2 : BitVec 32) (k0_hw1 : k0_chk1 v2), (k0_dev28 v2) < nD := fun v2 k0_hw1 => k0_hw1.1.2.2.2.2.2.2.2.2.2.2.2.2.2.1
theorem k0_dev30_lt : ∀ (v2 : BitVec 32) (k0_hw1 : k0_chk1 v2), (k0_dev30 v2) < nD := fun v2 k0_hw1 => k0_hw1.1.2.2.2.2.2.2.2.2.2.2.2.2.2.2.1
theorem k0_dev32_lt : ∀ (v2 : BitVec 32) (k0_hw1 : k0_chk1 v2), (k0_dev32 v2) < nD := fun v2 k0_hw1 => k0_hw1.1.2.2.2.2.2.2.2.2.2.2.2.2.2.2.2.1
theorem k0_dev34_lt : ∀ (v2 : BitVec 32) (k0_hw1 : k0_chk1 v2), (k0_dev34 v2) < nD := fun v2 k0_hw1 => k0_hw1.1.2.2.2.2.2.2.2.2.2.2.2.2.2.2.2.2.1
theorem k0_dev35_lt : ∀ (v2 : BitVec 32) (k0_hw1 : k0_chk1 v2), (k0_dev35 v2) < nD := fun v2 k0_hw1 => k0_hw1.1.2.2.2.2.2.2.2.2.2.2.2.2.2.2.2.2.2.1
theorem k0_dev37_lt : ∀ (v2 : BitVec 32) (k0_hw1 : k0_chk1 v2), (k0_dev37 v2) < nD := fun v2 k0_hw1 => k0_hw1.1.2.2.2.2.2.2.2.2.2.2.2.2.2.2.2.2.2.2.1
theorem k0_dev39_lt : ∀ (v2 : BitVec 32) (k0_hw1 : k0_chk1 v2), (k0_dev39 v2) < nD := fun v2 k0_hw1 => k0_hw1.1.2.2.2.2.2.2.2.2.2.2.2.2.2.2.2.2.2.2.2.1
theorem k0_dev41_lt : ∀ (v2 : BitVec 32) (k0_hw1 : k0_chk1 v2), (k0_dev41 v2) < nD := fun v2 k0_hw1 => k0_hw1.1.2.2.2.2.2.2.2.2.2.2.2.2.2.2.2.2.2.2.2.2.1
theorem k0_dev44_lt : ∀ (v2 : BitVec 32) (k0_hw1 : k0_chk1 v2), (k0_dev44 v2) < nD := fun v2 k0_hw1 => k0_hw1.1.2.2.2.2.2.2.2.2.2.2.2.2.2.2.2.2.2.2.2.2.2.1
theorem k0_dev46_lt : ∀ (v2 : BitVec 32) (k0_hw1 : k0_chk1 v2), (k0_dev46 v2) < nD := fun v2 k0_hw1 => k0_hw1.1.2.2.2.2.2.2.2.2.2.2.2.2.2.2.2.2.2.2.2.2.2.2.1
theorem k0_dev48_lt : ∀ (v2 : BitVec 32) (k0_hw1 : k0_chk1 v2), (k0_dev48 v2) < nD := fun v2 k0_hw1 => k0_hw1.1.2.2.2.2.2.2.2.2.2.2.2.2.2.2.2.2.2.2.2.2.2.2.2.1
theorem k0_dev50_lt : ∀ (v2 : BitVec 32) (k0_hw1 : k0_chk1 v2), (k0_dev50 v2) < nD := fun v2 k0_hw1 => k0_hw1.1.2.2.2.2.2.2.2.2.2.2.2.2.2.2.2.2.2.2.2.2.2.2.2.2.1
theorem k0_dev51_lt : ∀ (v2 : BitVec 32) (k0_hw1 : k0_chk1 v2), (k0_dev51 v2) < nD := fun v2 k0_hw1 => k0_hw1.1.2.2.2.2.2.2.2.2.2.2.2.2.2.2.2.2.2.2.2.2.2.2.2.2.2.1
theorem k0_dev53_lt : ∀ (v2 : BitVec 32) (k0_hw1 : k0_chk1 v2), (k0_dev53 v2) < nD := fun v2 k0_hw1 => k0_hw1.1.2.2.2.2.2.2.2.2.2.2.2.2.2.2.2.2.2.2.2.2.2.2.2.2.2.2.1
theorem k0_dev55_lt : ∀ (v2 : BitVec 32) (k0_hw1 : k0_chk1 v2), (k0_dev55 v2) < nD := fun v2 k0_hw1 => k0_hw1.1.2.2.2.2.2.2.2.2.2.2.2.2.2.2.2.2.2.2.2.2.2.2.2.2.2.2.2.1
theorem k0_dev57_lt : ∀ (v2 : BitVec 32) (k0_hw1 : k0_chk1 v2), (k0_dev57 v2) < nD := fun v2 k0_hw1 => k0_hw1.1.2.2.2.2.2.2.2.2.2.2.2.2.2.2.2.2.2.2.2.2.2.2.2.2.2.2.2.2.1
theorem k0_dev60_lt : ∀ (v2 : BitVec 32) (k0_hw1 : k0_chk1 v2), (k0_dev60 v2) < nD := fun v2 k0_hw1 => k0_hw1.1.2.2.2.2.2.2.2.2.2.2.2.2.2.2.2.2.2.2.2.2.2.2.2.2.2.2.2.2.2.1
theorem k0_dev62_lt : ∀ (v2 : BitVec 32) (k0_hw1 : k0_chk1 v2), (k0_dev62 v2) < nD := fun v2 k0_hw1 => k0_hw1.1.2.2.2.2.2.2.2.2.2.2.2.2.2.2.2.2.2.2.2.2.2.2.2.2.2.2.2.2.2.2.1
theorem k0_dev64_lt : ∀ (v2 : BitVec 32) (k0_hw1 : k0_chk1 v2), (k0_dev64 v2) < nD := fun v2 k0_hw1 => k0_hw1.1.2.2.2.2.2.2.2.2.2.2.2.2.2.2.2.2.2.2.2.2.2.2.2.2.2.2.2.2.2.2.2
theorem k0_dev66_lt : ∀ (v2 : BitVec 32) (k0_hw1 : k0_chk1 v2), (k0_dev66 v2) < nD := fun v2 k0_hw1 => k0_hw1.2.1.1
theorem k0_dev67_lt : ∀ (v2 : BitVec 32) (k0_hw1 : k0_chk1 v2), (k0_dev67 v2) < nD := fun v2 k0_hw1 => k0_hw1.2.1.2.1
theorem k0_dev69_lt : ∀ (v2 : BitVec 32) (k0_hw1 : k0_chk1 v2), (k0_dev69 v2) < nD := fun v2 k0_hw1 => k0_hw1.2.1.2.2.1
theorem k0_dev71_lt : ∀ (v2 : BitVec 32) (k0_hw1 : k0_chk1 v2), (k0_dev71 v2) < nD := fun v2 k0_hw1 => k0_hw1.2.1.2.2.2.1
theorem k0_dev73_lt : ∀ (v2 : BitVec 32) (k0_hw1 : k0_chk1 v2), (k0_dev73 v2) < nD := fun v2 k0_hw1 => k0_hw1.2.1.2.2.2.2.1
theorem k0_dev76_lt : ∀ (v2 : BitVec 32) (k0_hw1 : k0_chk1 v2), (k0_dev76 v2) < nD := fun v2 k0_hw1 => k0_hw1.2.1.2.2.2.2.2.1
theorem k0_dev78_lt : ∀ (v2 : BitVec 32) (k0_hw1 : k0_chk1 v2), (k0_dev78 v2) < nD := fun v2 k0_hw1 => k0_hw1.2.1.2.2.2.2.2.2.1
theorem k0_dev80_lt : ∀ (v2 : BitVec 32) (k0_hw1 : k0_chk1 v2), (k0_dev80 v2) < nD := fun v2 k0_hw1 => k0_hw1.2.1.2.2.2.2.2.2.2.1
theorem k0_dev82_lt : ∀ (v2 : BitVec 32) (k0_hw1 : k0_chk1 v2), (k0_dev82 v2) < nD := fun v2 k0_hw1 => k0_hw1.2.1.2.2.2.2.2.2.2.2.1
theorem k0_dev83_lt : ∀ (v2 : BitVec 32) (k0_hw1 : k0_chk1 v2), (k0_dev83 v2) < nD := fun v2 k0_hw1 => k0_hw1.2.1.2.2.2.2.2.2.2.2.2.1
theorem k0_dev85_lt : ∀ (v2 : BitVec 32) (k0_hw1 : k0_chk1 v2), (k0_dev85 v2) < nD := fun v2 k0_hw1 => k0_hw1.2.1.2.2.2.2.2.2.2.2.2.2.1
theorem k0_dev87_lt : ∀ (v2 : BitVec 32) (k0_hw1 : k0_chk1 v2), (k0_dev87 v2) < nD := fun v2 k0_hw1 => k0_hw1.2.1.2.2.2.2.2.2.2.2.2.2.2.1
theorem k0_dev89_lt : ∀ (v2 : BitVec 32) (k0_hw1 : k0_chk1 v2), (k0_dev89 v2) < nD := fun v2 k0_hw1 => k0_hw1.2.1.2.2.2.2.2.2.2.2.2.2.2.2.1
theorem k0_dev92_lt : ∀ (v2 : BitVec 32) (k0_hw1 : k0_chk1 v2), (k0_dev92 v2) < nD := fun v2 k0_hw1 => k0_hw1.2.1.2.2.2.2.2.2.2.2.2.2.2.2.2.1
theorem k0_dev94_lt : ∀ (v2 : BitVec 32) (k0_hw1 : k0_chk1 v2), (k0_dev94 v2) < nD := fun v2 k0_hw1 => k0_hw1.2.1.2.2.2.2.2.2.2.2.2.2.2.2.2.2.1
theorem k0_dev96_lt : ∀ (v2 : BitVec 32) (k0_hw1 : k0_chk1 v2), (k0_dev96 v2) < nD := fun v2 k0_hw1 => k0_hw1.2.1.2.2.2.2.2.2.2.2.2.2.2.2.2.2.2.1
theorem k0_dev98_lt : ∀ (v2 : BitVec 32) (k0_hw1 : k0_chk1 v2), (k0_dev98 v2) < nD := fun v2 k0_hw1 => k0_hw1.2.1.2.2.2.2.2.2.2.2.2.2.2.2.2.2.2.2.1
theorem k0_dev99_lt : ∀ (v2 : BitVec 32) (k0_hw1 : k0_chk1 v2), (k0_dev99 v2) < nD := fun v2 k0_hw1 => k0_hw1.2.1.2.2.2.2.2.2.2.2.2.2.2.2.2.2.2.2.2.1
theorem k0_dev101_lt : ∀ (v2 : BitVec 32) (k0_hw1 : k0_chk1 v2), (k0_dev101 v2) < nD := fun v2 k0_hw1 => k0_hw1.2.1.2.2.2.2.2.2.2.2.2.2.2.2.2.2.2.2.2.2.1
theorem k0_dev103_lt : ∀ (v2 : BitVec 32) (k0_hw1 : k0_chk1 v2), (k0_dev103 v2) < nD := fun v2 k0_hw1 => k0_hw1.2.1.2.2.2.2.2.2.2.2.2.2.2.2.2.2.2.2.2.2.2.1
theorem k0_dev105_lt : ∀ (v2 : BitVec 32) (k0_hw1 : k0_chk1 v2), (k0_dev105 v2) < nD := fun v2 k0_hw1 => k0_hw1.2.1.2.2.2.2.2.2.2.2.2.2.2.2.2.2.2.2.2.2.2.2.1
theorem k0_dev108_lt : ∀ (v2 : BitVec 32) (k0_hw1 : k0_chk1 v2), (k0_dev108 v2) < nD := fun v2 k0_hw1 => k0_hw1.2.1.2.2.2.2.2.2.2.2.2.2.2.2.2.2.2.2.2.2.2.2.2.1
theorem k0_dev110_lt : ∀ (v2 : BitVec 32) (k0_hw1 : k0_chk1 v2), (k0_dev110 v2) < nD := fun v2 k0_hw1 => k0_hw1.2.1.2.2.2.2.2.2.2.2.2.2.2.2.2.2.2.2.2.2.2.2.2.2.1
theorem k0_dev112_lt : ∀ (v2 : BitVec 32) (k0_hw1 : k0_chk1 v2), (k0_dev112 v2) < nD := fun v2 k0_hw1 => k0_hw1.2.1.2.2.2.2.2.2.2.2.2.2.2.2.2.2.2.2.2.2.2.2.2.2.2.1
theorem k0_dev114_lt : ∀ (v2 : BitVec 32) (k0_hw1 : k0_chk1 v2), (k0_dev114 v2) < nD := fun v2 k0_hw1 => k0_hw1.2.1.2.2.2.2.2.2.2.2.2.2.2.2.2.2.2.2.2.2.2.2.2.2.2.2.1
theorem k0_dev115_lt : ∀ (v2 : BitVec 32) (k0_hw1 : k0_chk1 v2), (k0_dev115 v2) < nD := fun v2 k0_hw1 => k0_hw1.2.1.2.2.2.2.2.2.2.2.2.2.2.2.2.2.2.2.2.2.2.2.2.2.2.2.2.1
theorem k0_dev117_lt : ∀ (v2 : BitVec 32) (k0_hw1 : k0_chk1 v2), (k0_dev117 v2) < nD := fun v2 k0_hw1 => k0_hw1.2.1.2.2.2.2.2.2.2.2.2.2.2.2.2.2.2.2.2.2.2.2.2.2.2.2.2.2.1
theorem k0_dev119_lt : ∀ (v2 : BitVec 32) (k0_hw1 : k0_chk1 v2), (k0_dev119 v2) < nD := fun v2 k0_hw1 => k0_hw1.2.1.2.2.2.2.2.2.2.2.2.2.2.2.2.2.2.2.2.2.2.2.2.2.2.2.2.2.2.1
theorem k0_dev121_lt : ∀ (v2 : BitVec 32) (k0_hw1 : k0_chk1 v2), (k0_dev121 v2) < nD := fun v2 k0_hw1 => k0_hw1.2.1.2.2.2.2.2.2.2.2.2.2.2.2.2.2.2.2.2.2.2.2.2.2.2.2.2.2.2.2.1
theorem k0_dev124_lt : ∀ (v2 : BitVec 32) (k0_hw1 : k0_chk1 v2), (k0_dev124 v2) < nD := fun v2 k0_hw1 => k0_hw1.2.1.2.2.2.2.2.2.2.2.2.2.2.2.2.2.2.2.2.2.2.2.2.2.2.2.2.2.2.2.2.1
theorem k0_dev126_lt : ∀ (v2 : BitVec 32) (k0_hw1 : k0_chk1 v2), (k0_dev126 v2) < nD := fun v2 k0_hw1 => k0_hw1.2.1.2.2.2.2.2.2.2.2.2.2.2.2.2.2.2.2.2.2.2.2.2.2.2.2.2.2.2.2.2.2.1
theorem k0_dev128_lt : ∀ (v2 : BitVec 32) (k0_hw1 : k0_chk1 v2), (k0_dev128 v2) < nD := fun v2 k0_hw1 => k0_hw1.2.1.2.2.2.2.2.2.2.2.2.2.2.2.2.2.2.2.2.2.2.2.2.2.2.2.2.2.2.2.2.2.2
theorem k0_dev130_lt : ∀ (v2 : BitVec 32) (k0_hw1 : k0_chk1 v2), (k0_dev130 v2) < nD := fun v2 k0_hw1 => k0_hw1.2.2.1.1
theorem k0_dev131_lt : ∀ (v2 : BitVec 32) (k0_hw1 : k0_chk1 v2), (k0_dev131 v2) < nD := fun v2 k0_hw1 => k0_hw1.2.2.1.2.1
theorem k0_dev133_lt : ∀ (v2 : BitVec 32) (k0_hw1 : k0_chk1 v2), (k0_dev133 v2) < nD := fun v2 k0_hw1 => k0_hw1.2.2.1.2.2.1
theorem k0_dev135_lt : ∀ (v2 : BitVec 32) (k0_hw1 : k0_chk1 v2), (k0_dev135 v2) < nD := fun v2 k0_hw1 => k0_hw1.2.2.1.2.2.2.1
theorem k0_dev137_lt : ∀ (v2 : BitVec 32) (k0_hw1 : k0_chk1 v2), (k0_dev137 v2) < nD := fun v2 k0_hw1 => k0_hw1.2.2.1.2.2.2.2.1
theorem k0_dev140_lt : ∀ (v2 : BitVec 32) (k0_hw1 : k0_chk1 v2), (k0_dev140 v2) < nD := fun v2 k0_hw1 => k0_hw1.2.2.1.2.2.2.2.2.1
theorem k0_dev142_lt : ∀ (v2 : BitVec 32) (k0_hw1 : k0_chk1 v2), (k0_dev142 v2) < nD := fun v2 k0_hw1 => k0_hw1.2.2.1.2.2.2.2.2.2.1
theorem k0_dev144_lt : ∀ (v2 : BitVec 32) (k0_hw1 : k0_chk1 v2), (k0_dev144 v2) < nD := fun v2 k0_hw1 => k0_hw1.2.2.1.2.2.2.2.2.2.2.1
theorem k0_dev146_lt : ∀ (v2 : BitVec 32) (k0_hw1 : k0_chk1 v2), (k0_dev146 v2) < nD := fun v2 k0_hw1 => k0_hw1.2.2.1.2.2.2.2.2.2.2.2.1
theorem k0_dev147_lt : ∀ (v2 : BitVec 32) (k0_hw1 : k0_chk1 v2), (k0_dev147 v2) < nD := fun v2 k0_hw1 => k0_hw1.2.2.1.2.2.2.2.2.2.2.2.2.1
theorem k0_dev149_lt : ∀ (v2 : BitVec 32) (k0_hw1 : k0_chk1 v2), (k0_dev149 v2) < nD := fun v2 k0_hw1 => k0_hw1.2.2.1.2.2.2.2.2.2.2.2.2.2.1
theorem k0_dev151_lt : ∀ (v2 : BitVec 32) (k0_hw1 : k0_chk1 v2), (k0_dev151 v2) < nD := fun v2 k0_hw1 => k0_hw1.2.2.1.2.2.2.2.2.2.2.2.2.2.2.1
theorem k0_dev153_lt : ∀ (v2 : BitVec 32) (k0_hw1 : k0_chk1 v2), (k0_dev153 v2) < nD := fun v2 k0_hw1 => k0_hw1.2.2.1.2.2.2.2.2.2.2.2.2.2.2.2.1
theorem k0_dev156_lt : ∀ (v2 : BitVec 32) (k0_hw1 : k0_chk1 v2), (k0_dev156 v2) < nD := fun v2 k0_hw1 => k0_hw1.2.2.1.2.2.2.2.2.2.2.2.2.2.2.2.2.1
theorem k0_dev158_lt : ∀ (v2 : BitVec 32) (k0_hw1 : k0_chk1 v2), (k0_dev158 v2) < nD := fun v2 k0_hw1 => k0_hw1.2.2.1.2.2.2.2.2.2.2.2.2.2.2.2.2.2.1
theorem k0_dev160_lt : ∀ (v2 : BitVec 32) (k0_hw1 : k0_chk1 v2), (k0_dev160 v2) < nD := fun v2 k0_hw1 => k0_hw1.2.2.1.2.2.2.2.2.2.2.2.2.2.2.2.2.2.2.1
theorem k0_dev162_lt : ∀ (v2 : BitVec 32) (k0_hw1 : k0_chk1 v2), (k0_dev162 v2) < nD := fun v2 k0_hw1 => k0_hw1.2.2.1.2.2.2.2.2.2.2.2.2.2.2.2.2.2.2.2.1
theorem k0_dev163_lt : ∀ (v2 : BitVec 32) (k0_hw1 : k0_chk1 v2), (k0_dev163 v2) < nD := fun v2 k0_hw1 => k0_hw1.2.2.1.2.2.2.2.2.2.2.2.2.2.2.2.2.2.2.2.2.1
theorem k0_dev165_lt : ∀ (v2 : BitVec 32) (k0_hw1 : k0_chk1 v2), (k0_dev165 v2) < nD := fun v2 k0_hw1 => k0_hw1.2.2.1.2.2.2.2.2.2.2.2.2.2.2.2.2.2.2.2.2.2.1
theorem k0_dev167_lt : ∀ (v2 : BitVec 32) (k0_hw1 : k0_chk1 v2), (k0_dev167 v2) < nD := fun v2 k0_hw1 => k0_hw1.2.2.1.2.2.2.2.2.2.2.2.2.2.2.2.2.2.2.2.2.2.2.1
theorem k0_dev169_lt : ∀ (v2 : BitVec 32) (k0_hw1 : k0_chk1 v2), (k0_dev169 v2) < nD := fun v2 k0_hw1 => k0_hw1.2.2.1.2.2.2.2.2.2.2.2.2.2.2.2.2.2.2.2.2.2.2.2.1
theorem k0_dev172_lt : ∀ (v2 : BitVec 32) (k0_hw1 : k0_chk1 v2), (k0_dev172 v2) < nD := fun v2 k0_hw1 => k0_hw1.2.2.1.2.2.2.2.2.2.2.2.2.2.2.2.2.2.2.2.2.2.2.2.2.1
theorem k0_dev174_lt : ∀ (v2 : BitVec 32) (k0_hw1 : k0_chk1 v2), (k0_dev174 v2) < nD := fun v2 k0_hw1 => k0_hw1.2.2.1.2.2.2.2.2.2.2.2.2.2.2.2.2.2.2.2.2.2.2.2.2.2.1
theorem k0_dev176_lt : ∀ (v2 : BitVec 32) (k0_hw1 : k0_chk1 v2), (k0_dev176 v2) < nD := fun v2 k0_hw1 => k0_hw1.2.2.1.2.2.2.2.2.2.2.2.2.2.2.2.2.2.2.2.2.2.2.2.2.2.2.1
theorem k0_dev178_lt : ∀ (v2 : BitVec 32) (k0_hw1 : k0_chk1 v2), (k0_dev178 v2) < nD := fun v2 k0_hw1 => k0_hw1.2.2.1.2.2.2.2.2.2.2.2.2.2.2.2.2.2.2.2.2.2.2.2.2.2.2.2.1
theorem k0_dev179_lt : ∀ (v2 : BitVec 32) (k0_hw1 : k0_chk1 v2), (k0_dev179 v2) < nD := fun v2 k0_hw1 => k0_hw1.2.2.1.2.2.2.2.2.2.2.2.2.2.2.2.2.2.2.2.2.2.2.2.2.2.2.2.2.1
theorem k0_dev181_lt : ∀ (v2 : BitVec 32) (k0_hw1 : k0_chk1 v2), (k0_dev181 v2) < nD := fun v2 k0_hw1 => k0_hw1.2.2.1.2.2.2.2.2.2.2.2.2.2.2.2.2.2.2.2.2.2.2.2.2.2.2.2.2.2.1
theorem k0_dev183_lt : ∀ (v2 : BitVec 32) (k0_hw1 : k0_chk1 v2), (k0_dev183 v2) < nD := fun v2 k0_hw1 => k0_hw1.2.2.1.2.2.2.2.2.2.2.2.2.2.2.2.2.2.2.2.2.2.2.2.2.2.2.2.2.2.2.1
theorem k0_dev185_lt : ∀ (v2 : BitVec 32) (k0_hw1 : k0_chk1 v2), (k0_dev185 v2) < nD := fun v2 k0_hw1 => k0_hw1.2.2.1.2.2.2.2.2.2.2.2.2.2.2.2.2.2.2.2.2.2.2.2.2.2.2.2.2.2.2.2.1
theorem k0_dev188_lt : ∀ (v2 : BitVec 32) (k0_hw1 : k0_chk1 v2), (k0_dev188 v2) < nD := fun v2 k0_hw1 => k0_hw1.2.2.1.2.2.2.2.2.2.2.2.2.2.2.2.2.2.2.2.2.2.2.2.2.2.2.2.2.2.2.2.2.1
theorem k0_dev190_lt : ∀ (v2 : BitVec 32) (k0_hw1 : k0_chk1 v2), (k0_dev190 v2) < nD := fun v2 k0_hw1 => k0_hw1.2.2.1.2.2.2.2.2.2.2.2.2.2.2.2.2.2.2.2.2.2.2.2.2.2.2.2.2.2.2.2.2.2.1
theorem k0_dev192_lt : ∀ (v2 : BitVec 32) (k0_hw1 : k0_chk1 v2), (k0_dev192 v2) < nD := fun v2 k0_hw1 => k0_hw1.2.2.1.2.2.2.2.2.2.2.2.2.2.2.2.2.2.2.2.2.2.2.2.2.2.2.2.2.2.2.2.2.2.2
theorem k0_dev194_lt : ∀ (v2 : BitVec 32) (k0_hw1 : k0_chk1 v2), (k0_dev194 v2) < nD := fun v2 k0_hw1 => k0_hw1.2.2.2.1.1
theorem k0_dev195_lt : ∀ (v2 : BitVec 32) (k0_hw1 : k0_chk1 v2), (k0_dev195 v2) < nD := fun v2 k0_hw1 => k0_hw1.2.2.2.1.2.1
theorem k0_dev197_lt : ∀ (v2 : BitVec 32) (k0_hw1 : k0_chk1 v2), (k0_dev197 v2) < nD := fun v2 k0_hw1 => k0_hw1.2.2.2.1.2.2.1
theorem k0_dev199_lt : ∀ (v2 : BitVec 32) (k0_hw1 : k0_chk1 v2), (k0_dev199 v2) < nD := fun v2 k0_hw1 => k0_hw1.2.2.2.1.2.2.2.1
theorem k0_dev201_lt : ∀ (v2 : BitVec 32) (k0_hw1 : k0_chk1 v2), (k0_dev201 v2) < nD := fun v2 k0_hw1 => k0_hw1.2.2.2.1.2.2.2.2.1
theorem k0_dev204_lt : ∀ (v2 : BitVec 32) (k0_hw1 : k0_chk1 v2), (k0_dev204 v2) < nD := fun v2 k0_hw1 => k0_hw1.2.2.2.1.2.2.2.2.2.1
theorem k0_dev206_lt : ∀ (v2 : BitVec 32) (k0_hw1 : k0_chk1 v2), (k0_dev206 v2) < nD := fun v2 k0_hw1 => k0_hw1.2.2.2.1.2.2.2.2.2.2.1
theorem k0_dev208_lt : ∀ (v2 : BitVec 32) (k0_hw1 : k0_chk1 v2), (k0_dev208 v2) < nD := fun v2 k0_hw1 => k0_hw1.2.2.2.1.2.2.2.2.2.2.2.1
theorem k0_dev210_lt : ∀ (v2 : BitVec 32) (k0_hw1 : k0_chk1 v2), (k0_dev210 v2) < nD := fun v2 k0_hw1 => k0_hw1.2.2.2.1.2.2.2.2.2.2.2.2.1
theorem k0_dev212_lt : ∀ (v2 : BitVec 32) (k0_hw1 : k0_chk1 v2), (k0_dev212 v2) < nD := fun v2 k0_hw1 => k0_hw1.2.2.2.1.2.2.2.2.2.2.2.2.2.1
theorem k0_dev214_lt : ∀ (v2 : BitVec 32) (k0_hw1 : k0_chk1 v2), (k0_dev214 v2) < nD := fun v2 k0_hw1 => k0_hw1.2.2.2.1.2.2.2.2.2.2.2.2.2.2.1
theorem k0_dev216_lt : ∀ (v2 : BitVec 32) (k0_hw1 : k0_chk1 v2), (k0_dev216 v2) < nD := fun v2 k0_hw1 => k0_hw1.2.2.2.1.2.2.2.2.2.2.2.2.2.2.2.1
theorem k0_dev218_lt : ∀ (v2 : BitVec 32) (k0_hw1 : k0_chk1 v2), (k0_dev218 v2) < nD := fun v2 k0_hw1 => k0_hw1.2.2.2.1.2.2.2.2.2.2.2.2.2.2.2.2.1
theorem k0_dev220_lt : ∀ (v2 : BitVec 32) (k0_hw1 : k0_chk1 v2), (k0_dev220 v2) < nD := fun v2 k0_hw1 => k0_hw1.2.2.2.1.2.2.2.2.2.2.2.2.2.2.2.2.2.1
theorem k0_dev222_lt : ∀ (v2 : BitVec 32) (k0_hw1 : k0_chk1 v2), (k0_dev222 v2) < nD := fun v2 k0_hw1 => k0_hw1.2.2.2.1.2.2.2.2.2.2.2.2.2.2.2.2.2.2.1
theorem k0_dev224_lt : ∀ (v2 : BitVec 32) (k0_hw1 : k0_chk1 v2), (k0_dev224 v2) < nD := fun v2 k0_hw1 => k0_hw1.2.2.2.1.2.2.2.2.2.2.2.2.2.2.2.2.2.2.2.1
theorem k0_dev226_lt : ∀ (v2 : BitVec 32) (k0_hw1 : k0_chk1 v2), (k0_dev226 v2) < nD := fun v2 k0_hw1 => k0_hw1.2.2.2.1.2.2.2.2.2.2.2.2.2.2.2.2.2.2.2.2.1
theorem k0_dev228_lt : ∀ (v2 : BitVec 32) (k0_hw1 : k0_chk1 v2), (k0_dev228 v2) < nD := fun v2 k0_hw1 => k0_hw1.2.2.2.1.2.2.2.2.2.2.2.2.2.2.2.2.2.2.2.2.2.1
theorem k0_dev230_lt : ∀ (v2 : BitVec 32) (k0_hw1 : k0_chk1 v2), (k0_dev230 v2) < nD := fun v2 k0_hw1 => k0_hw1.2.2.2.1.2.2.2.2.2.2.2.2.2.2.2.2.2.2.2.2.2.2.1
theorem k0_dev232_lt : ∀ (v2 : BitVec 32) (k0_hw1 : k0_chk1 v2), (k0_dev232 v2) < nD := fun v2 k0_hw1 => k0_hw1.2.2.2.1.2.2.2.2.2.2.2.2.2.2.2.2.2.2.2.2.2.2.2.1
theorem k0_dev234_lt : ∀ (v2 : BitVec 32) (k0_hw1 : k0_chk1 v2), (k0_dev234 v2) < nD := fun v2 k0_hw1 => k0_hw1.2.2.2.1.2.2.2.2.2.2.2.2.2.2.2.2.2.2.2.2.2.2.2.2.1
theorem k0_dev236_lt : ∀ (v2 : BitVec 32) (k0_hw1 : k0_chk1 v2), (k0_dev236 v2) < nD := fun v2 k0_hw1 => k0_hw1.2.2.2.1.2.2.2.2.2.2.2.2.2.2.2.2.2.2.2.2.2.2.2.2.2.1
theorem k0_dev238_lt : ∀ (v2 : BitVec 32) (k0_hw1 : k0_chk1 v2), (k0_dev238 v2) < nD := fun v2 k0_hw1 => k0_hw1.2.2.2.1.2.2.2.2.2.2.2.2.2.2.2.2.2.2.2.2.2.2.2.2.2.2.1
theorem k0_dev240_lt : ∀ (v2 : BitVec 32) (k0_hw1 : k0_chk1 v2), (k0_dev240 v2) < nD := fun v2 k0_hw1 => k0_hw1.2.2.2.1.2.2.2.2.2.2.2.2.2.2.2.2.2.2.2.2.2.2.2.2.2.2.2.1
theorem k0_dev242_lt : ∀ (v2 : BitVec 32) (k0_hw1 : k0_chk1 v2), (k0_dev242 v2) < nD := fun v2 k0_hw1 => k0_hw1.2.2.2.1.2.2.2.2.2.2.2.2.2.2.2.2.2.2.2.2.2.2.2.2.2.2.2.2.1
theorem k0_dev244_lt : ∀ (v2 : BitVec 32) (k0_hw1 : k0_chk1 v2), (k0_dev244 v2) < nD := fun v2 k0_hw1 => k0_hw1.2.2.2.1.2.2.2.2.2.2.2.2.2.2.2.2.2.2.2.2.2.2.2.2.2.2.2.2.2.1
theorem k0_dev246_lt : ∀ (v2 : BitVec 32) (k0_hw1 : k0_chk1 v2), (k0_dev246 v2) < nD := fun v2 k0_hw1 => k0_hw1.2.2.2.1.2.2.2.2.2.2.2.2.2.2.2.2.2.2.2.2.2.2.2.2.2.2.2.2.2.2.1
theorem k0_dev248_lt : ∀ (v2 : BitVec 32) (k0_hw1 : k0_chk1 v2), (k0_dev248 v2) < nD := fun v2 k0_hw1 => k0_hw1.2.2.2.1.2.2.2.2.2.2.2.2.2.2.2.2.2.2.2.2.2.2.2.2.2.2.2.2.2.2.2.1
theorem k0_dev250_lt : ∀ (v2 : BitVec 32) (k0_hw1 : k0_chk1 v2), (k0_dev250 v2) < nD := fun v2 k0_hw1 => k0_hw1.2.2.2.1.2.2.2.2.2.2.2.2.2.2.2.2.2.2.2.2.2.2.2.2.2.2.2.2.2.2.2.2.1
theorem k0_dev252_lt : ∀ (v2 : BitVec 32) (k0_hw1 : k0_chk1 v2), (k0_dev252 v2) < nD := fun v2 k0_hw1 => k0_hw1.2.2.2.1.2.2.2.2.2.2.2.2.2.2.2.2.2.2.2.2.2.2.2.2.2.2.2.2.2.2.2.2.2.1
theorem k0_dev254_lt : ∀ (v2 : BitVec 32) (k0_hw1 : k0_chk1 v2), (k0_dev254 v2) < nD := fun v2 k0_hw1 => k0_hw1.2.2.2.1.2.2.2.2.2.2.2.2.2.2.2.2.2.2.2.2.2.2.2.2.2.2.2.2.2.2.2.2.2.2.1
theorem k0_dev256_lt : ∀ (v2 : BitVec 32) (k0_hw1 : k0_chk1 v2), (k0_dev256 v2) < nD := fun v2 k0_hw1 => k0_hw1.2.2.2.1.2.2.2.2.2.2.2.2.2.2.2.2.2.2.2.2.2.2.2.2.2.2.2.2.2.2.2.2.2.2.2
theorem k0_dev258_lt : ∀ (v2 : BitVec 32) (k0_hw1 : k0_chk1 v2), (k0_dev258 v2) < nD := fun v2 k0_hw1 => k0_hw1.2.2.2.2.1.1
theorem k0_dev260_lt : ∀ (v2 : BitVec 32) (k0_hw1 : k0_chk1 v2), (k0_dev260 v2) < nD := fun v2 k0_hw1 => k0_hw1.2.2.2.2.1.2.1
theorem k0_dev262_lt : ∀ (v2 : BitVec 32) (k0_hw1 : k0_chk1 v2), (k0_dev262 v2) < nD := fun v2 k0_hw1 => k0_hw1.2.2.2.2.1.2.2.1
theorem k0_dev264_lt : ∀ (v2 : BitVec 32) (k0_hw1 : k0_chk1 v2), (k0_dev264 v2) < nD := fun v2 k0_hw1 => k0_hw1.2.2.2.2.1.2.2.2.1
theorem k0_dev266_lt : ∀ (v2 : BitVec 32) (k0_hw1 : k0_chk1 v2), (k0_dev266 v2) < nD := fun v2 k0_hw1 => k0_hw1.2.2.2.2.1.2.2.2.2.1
theorem k0_dev268_lt : ∀ (v2 : BitVec 32) (k0_hw1 : k0_chk1 v2), (k0_dev268 v2) < nD := fun v2 k0_hw1 => k0_hw1.2.2.2.2.1.2.2.2.2.2.1
theorem k0_dev270_lt : ∀ (v2 : BitVec 32) (k0_hw1 : k0_chk1 v2), (k0_dev270 v2) < nD := fun v2 k0_hw1 => k0_hw1.2.2.2.2.1.2.2.2.2.2.2.1
theorem k0_dev272_lt : ∀ (v2 : BitVec 32) (k0_hw1 : k0_chk1 v2), (k0_dev272 v2) < nD := fun v2 k0_hw1 => k0_hw1.2.2.2.2.1.2.2.2.2.2.2.2.1
theorem k0_dev274_lt : ∀ (v2 : BitVec 32) (k0_hw1 : k0_chk1 v2), (k0_dev274 v2) < nD := fun v2 k0_hw1 => k0_hw1.2.2.2.2.1.2.2.2.2.2.2.2.2.1
theorem k0_dev276_lt : ∀ (v2 : BitVec 32) (k0_hw1 : k0_chk1 v2), (k0_dev276 v2) < nD := fun v2 k0_hw1 => k0_hw1.2.2.2.2.1.2.2.2.2.2.2.2.2.2.1
theorem k0_dev278_lt : ∀ (v2 : BitVec 32) (k0_hw1 : k0_chk1 v2), (k0_dev278 v2) < nD := fun v2 k0_hw1 => k0_hw1.2.2.2.2.1.2.2.2.2.2.2.2.2.2.2.1
theorem k0_dev280_lt : ∀ (v2 : BitVec 32) (k0_hw1 : k0_chk1 v2), (k0_dev280 v2) < nD := fun v2 k0_hw1 => k0_hw1.2.2.2.2.1.2.2.2.2.2.2.2.2.2.2.2.1
theorem k0_dev282_lt : ∀ (v2 : BitVec 32) (k0_hw1 : k0_chk1 v2), (k0_dev282 v2) < nD := fun v2 k0_hw1 => k0_hw1.2.2.2.2.1.2.2.2.2.2.2.2.2.2.2.2.2.1
theorem k0_dev284_lt : ∀ (v2 : BitVec 32) (k0_hw1 : k0_chk1 v2), (k0_dev284 v2) < nD := fun v2 k0_hw1 => k0_hw1.2.2.2.2.1.2.2.2.2.2.2.2.2.2.2.2.2.2.1
theorem k0_dev286_lt : ∀ (v2 : BitVec 32) (k0_hw1 : k0_chk1 v2), (k0_dev286 v2) < nD := fun v2 k0_hw1 => k0_hw1.2.2.2.2.1.2.2.2.2.2.2.2.2.2.2.2.2.2.2.1
theorem k0_dev288_lt : ∀ (v2 : BitVec 32) (k0_hw1 : k0_chk1 v2), (k0_dev288 v2) < nD := fun v2 k0_hw1 => k0_hw1.2.2.2.2.1.2.2.2.2.2.2.2.2.2.2.2.2.2.2.2.1
theorem k0_dev290_lt : ∀ (v2 : BitVec 32) (k0_hw1 : k0_chk1 v2), (k0_dev290 v2) < nD := fun v2 k0_hw1 => k0_hw1.2.2.2.2.1.2.2.2.2.2.2.2.2.2.2.2.2.2.2.2.2.1
theorem k0_dev292_lt : ∀ (v2 : BitVec 32) (k0_hw1 : k0_chk1 v2), (k0_dev292 v2) < nD := fun v2 k0_hw1 => k0_hw1.2.2.2.2.1.2.2.2.2.2.2.2.2.2.2.2.2.2.2.2.2.2.1
theorem k0_dev294_lt : ∀ (v2 : BitVec 32) (k0_hw1 : k0_chk1 v2), (k0_dev294 v2) < nD := fun v2 k0_hw1 => k0_hw1.2.2.2.2.1.2.2.2.2.2.2.2.2.2.2.2.2.2.2.2.2.2.2.1
theorem k0_dev296_lt : ∀ (v2 : BitVec 32) (k0_hw1 : k0_chk1 v2), (k0_dev296 v2) < nD := fun v2 k0_hw1 => k0_hw1.2.2.2.2.1.2.2.2.2.2.2.2.2.2.2.2.2.2.2.2.2.2.2.2.1
theorem k0_dev298_lt : ∀ (v2 : BitVec 32) (k0_hw1 : k0_chk1 v2), (k0_dev298 v2) < nD := fun v2 k0_hw1 => k0_hw1.2.2.2.2.1.2.2.2.2.2.2.2.2.2.2.2.2.2.2.2.2.2.2.2.2.1
theorem k0_dev300_lt : ∀ (v2 : BitVec 32) (k0_hw1 : k0_chk1 v2), (k0_dev300 v2) < nD := fun v2 k0_hw1 => k0_hw1.2.2.2.2.1.2.2.2.2.2.2.2.2.2.2.2.2.2.2.2.2.2.2.2.2.2.1
theorem k0_dev302_lt : ∀ (v2 : BitVec 32) (k0_hw1 : k0_chk1 v2), (k0_dev302 v2) < nD := fun v2 k0_hw1 => k0_hw1.2.2.2.2.1.2.2.2.2.2.2.2.2.2.2.2.2.2.2.2.2.2.2.2.2.2.2.1
theorem k0_dev304_lt : ∀ (v2 : BitVec 32) (k0_hw1 : k0_chk1 v2), (k0_dev304 v2) < nD := fun v2 k0_hw1 => k0_hw1.2.2.2.2.1.2.2.2.2.2.2.2.2.2.2.2.2.2.2.2.2.2.2.2.2.2.2.2.1
theorem k0_dev306_lt : ∀ (v2 : BitVec 32) (k0_hw1 : k0_chk1 v2), (k0_dev306 v2) < nD := fun v2 k0_hw1 => k0_hw1.2.2.2.2.1.2.2.2.2.2.2.2.2.2.2.2.2.2.2.2.2.2.2.2.2.2.2.2.2.1
theorem k0_dev308_lt : ∀ (v2 : BitVec 32) (k0_hw1 : k0_chk1 v2), (k0_dev308 v2) < nD := fun v2 k0_hw1 => k0_hw1.2.2.2.2.1.2.2.2.2.2.2.2.2.2.2.2.2.2.2.2.2.2.2.2.2.2.2.2.2.2.1
theorem k0_dev310_lt : ∀ (v2 : BitVec 32) (k0_hw1 : k0_chk1 v2), (k0_dev310 v2) < nD := fun v2 k0_hw1 => k0_hw1.2.2.2.2.1.2.2.2.2.2.2.2.2.2.2.2.2.2.2.2.2.2.2.2.2.2.2.2.2.2.2.1
theorem k0_dev312_lt : ∀ (v2 : BitVec 32) (k0_hw1 : k0_chk1 v2), (k0_dev312 v2) < nD := fun v2 k0_hw1 => k0_hw1.2.2.2.2.1.2.2.2.2.2.2.2.2.2.2.2.2.2.2.2.2.2.2.2.2.2.2.2.2.2.2.2.1
theorem k0_dev314_lt : ∀ (v2 : BitVec 32) (k0_hw1 : k0_chk1 v2), (k0_dev314 v2) < nD := fun v2 k0_hw1 => k0_hw1.2.2.2.2.1.2.2.2.2.2.2.2.2.2.2.2.2.2.2.2.2.2.2.2.2.2.2.2.2.2.2.2.2.1
theorem k0_dev316_lt : ∀ (v2 : BitVec 32) (k0_hw1 : k0_chk1 v2), (k0_dev316 v2) < nD := fun v2 k0_hw1 => k0_hw1.2.2.2.2.1.2.2.2.2.2.2.2.2.2.2.2.2.2.2.2.2.2.2.2.2.2.2.2.2.2.2.2.2.2.1
theorem k0_dev318_lt : ∀ (v2 : BitVec 32) (k0_hw1 : k0_chk1 v2), (k0_dev318 v2) < nD := fun v2 k0_hw1 => k0_hw1.2.2.2.2.1.2.2.2.2.2.2.2.2.2.2.2.2.2.2.2.2.2.2.2.2.2.2.2.2.2.2.2.2.2.2.1
theorem k0_dev320_lt : ∀ (v2 : BitVec 32) (k0_hw1 : k0_chk1 v2), (k0_dev320 v2) < nD := fun v2 k0_hw1 => k0_hw1.2.2.2.2.1.2.2.2.2.2.2.2.2.2.2.2.2.2.2.2.2.2.2.2.2.2.2.2.2.2.2.2.2.2.2.2
theorem k0_dev322_lt : ∀ (v2 : BitVec 32) (k0_hw1 : k0_chk1 v2), (k0_dev322 v2) < nD := fun v2 k0_hw1 => k0_hw1.2.2.2.2.2.1
theorem k0_dev324_lt : ∀ (v2 : BitVec 32) (k0_hw1 : k0_chk1 v2), (k0_dev324 v2) < nD := fun v2 k0_hw1 => k0_hw1.2.2.2.2.2.2.1
theorem k0_dev326_lt : ∀ (v2 : BitVec 32) (k0_hw1 : k0_chk1 v2), (k0_dev326 v2) < nD := fun v2 k0_hw1 => k0_hw1.2.2.2.2.2.2.2.1
theorem k0_dev328_lt : ∀ (v2 : BitVec 32) (k0_hw1 : k0_chk1 v2), (k0_dev328 v2) < nD := fun v2 k0_hw1 => k0_hw1.2.2.2.2.2.2.2.2.1
theorem k0_dev330_lt : ∀ (v2 : BitVec 32) (k0_hw1 : k0_chk1 v2), (k0_dev330 v2) < nD := fun v2 k0_hw1 => k0_hw1.2.2.2.2.2.2.2.2.2.1
theorem k0_dev332_lt : ∀ (v2 : BitVec 32) (k0_hw1 : k0_chk1 v2), (k0_dev332 v2) < nD := fun v2 k0_hw1 => k0_hw1.2.2.2.2.2.2.2.2.2.2.1
theorem k0_dev334_lt : ∀ (v2 : BitVec 32) (k0_hw1 : k0_chk1 v2), (k0_dev334 v2) < nD := fun v2 k0_hw1 => k0_hw1.2.2.2.2.2.2.2.2.2.2.2.1
theorem k0_dev336_lt : ∀ (v2 : BitVec 32) (k0_hw1 : k0_chk1 v2), (k0_dev336 v2) < nD := fun v2 k0_hw1 => k0_hw1.2.2.2.2.2.2.2.2.2.2.2.2.1
theorem k0_dev338_lt : ∀ (v2 : BitVec 32) (k0_hw1 : k0_chk1 v2), (k0_dev338 v2) < nD := fun v2 k0_hw1 => k0_hw1.2.2.2.2.2.2.2.2.2.2.2.2.2

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Shape.lean ====
/- The kernel's body written once more with its two directions, its ring steps and its four
   quarters as parameters, and the theorem that the printed body IS this program. Everything
   later is proved of the parametric text. -/
module

public import proofs.«01_k».proof.Proof.Gen.KernelIdeal.Skeleton

@[expose] public section

set_option synthInstance.maxSize 4096

noncomputable section

namespace Cert.Ring

open Idealize.ShloMosaic Idealize.SL.Sem Cert.KernelIdeal Cert.KernelIdeal.Gen

variable {F : FTy → Type} [FloatOps F]

attribute [local instance] Cert.KernelIdeal.Gen.facts

variable (F) in
/-- The programs a processor of the kernel runs. -/
abbrev PU : Type _ := Prog (TpuEff nD τ sig (Elt F) Λ₀ .tc) PUnit

/-- The body's operands, the two directions' side by side: `false` is the clockwise direction
    (sends to the right neighbour), `true` the counter-clockwise one. -/
structure Ops where
  tab : Memref sig .tc .smem S3 .i32
  x : Memref sig .tc .vmem S8192x512 .bf16
  w : Memref sig .tc .vmem S512x4096 .bf16
  out : Memref sig .tc .hbm S8192x4096 .f32
  acc : Bool → Memref sig .tc .vmem S4x256x4096 .bf16
  hacc : ∀ d, (acc d).IsWhole
  loc : Bool → Memref sig .tc .vmem S256x4096 .f32
  fin : Bool → Memref sig .tc .vmem S256x4096 .f32
  cp : DmaSems sig S2x4
  rsS : Bool → DmaSems sig S15x4
  rsR : Bool → DmaSems sig S15x4
  agS : Bool → DmaSems sig S15x4
  agR : Bool → DmaSems sig S15x4
  cr : Bool → Sems sig S_

theorem inbAcc (a : Fin 4) (q : Fin 4) : ∀ i, (![a.val, 64 * q.val, 0] : Fin 3 → Nat) i + S1x64x4096.size i ≤ S4x256x4096.size i := by
  revert a q; decide
theorem wordsAcc (a : Fin 4) (q : Fin 4) : (Rect.unit (s := S4x256x4096) ![a.val, 64 * q.val, 0] S1x64x4096.size (inbAcc a q)).WholeWords (EltTy.packing .bf16) := by
  revert a q; decide
theorem packedAcc (a : Fin 4) (q : Fin 4) : (Rect.unit (s := S4x256x4096) ![a.val, 64 * q.val, 0] S1x64x4096.size (inbAcc a q)).PackedRows (EltTy.packing .bf16) := by
  revert a q; decide
theorem inbQ (q : Fin 4) : ∀ i, (![64 * q.val, 0] : Fin 2 → Nat) i + S64x4096.size i ≤ S256x4096.size i := by
  revert q; decide
theorem inbSem (s : Fin 15) (q : Fin 4) : ∀ i, (![s.val, q.val] : Fin 2 → Nat) i + S1x1.size i ≤ S15x4.size i := by
  revert s q; decide
theorem inbCp (d : Bool) (q : Fin 4) : ∀ i, (![d.toNat, q.val] : Fin 2 → Nat) i + S1x1.size i ≤ S2x4.size i := by
  revert d q; decide

namespace Ops
variable (A : Ops)

/-- The rectangle of quarter `q` of slot `a` of a partial-sum buffer. -/
abbrev accRect (a q : Fin 4) : Rect S4x256x4096 := Rect.unit (s := S4x256x4096) ![a.val, 64 * q.val, 0] S1x64x4096.size (inbAcc a q)
/-- Quarter `q` of slot `a` of the direction's partial-sum buffer. -/
abbrev slot (d : Bool) (a q : Fin 4) : Memref sig .tc .vmem S64x4096 .bf16 :=
  ((A.acc d).slice (accRect a q) (fun _ => rfl)).squeeze S64x4096 squeezes_S1x64x4096_S64x4096
/-- A DMA semaphore of a 15 × 4 array. -/
abbrev semAt (m : DmaSems sig S15x4) (s : Fin 15) (q : Fin 4) : DmaSem sig :=
  ((m.slice (Rect.unit (s := S15x4) ![s.val, q.val] S1x1.size (inbSem s q))).squeeze S_ squeezes_S1x1_S_).sem
/-- The semaphore of the local copy of quarter `q` of the direction's finished half. -/
abbrev cpAt (d : Bool) (q : Fin 4) : DmaSem sig :=
  ((A.cp.slice (Rect.unit (s := S2x4) ![d.toNat, q.val] S1x1.size (inbCp d q))).squeeze S_ squeezes_S1x1_S_).sem
/-- The rectangle of quarter `q` of a 256-row buffer. -/
abbrev qRect (q : Fin 4) : Rect S256x4096 := Rect.unit (s := S256x4096) ![64 * q.val, 0] S64x4096.size (inbQ q)
abbrev finQ (d : Bool) (q : Fin 4) : Memref sig .tc .vmem S64x4096 .f32 := (A.fin d).slice (qRect q) (fun _ => rfl)

end Ops

/-- The barrier's semaphore. -/
abbrev barSem : Sem sig := (SemArray.scalar (sig.barrier 0 rfl) : Sems sig S_).sem

/-- The slot an arrival of step `s` fills, and the slot a send of step `s` leaves from. -/
abbrev slotOf (n : ℕ) : Fin 4 := ⟨n % 4, Nat.mod_lt _ (by decide)⟩

/-- `f 0`, …, `f (n - 1)` in order, before `k`. -/
def each {α : Type _} : (n : ℕ) → (Fin n → α → α) → α → α
  | 0, _, k => k
  | n + 1, f, k => f 0 (each n (fun i => f i.succ) k)

/-- What the body reads from its table before it starts: its place on the ring and its neighbours. -/
structure Words where
  v0 : BitVec 32
  v1 : BitVec 32
  v2 : BitVec 32
  h0 : k0_chk3 v0
  h1 : v1.toNat < nD
  h2 : v2.toNat < nD

namespace Body
variable (A : Ops) (W : Words)

/-- The device a direction sends to, and the one it receives from. -/
abbrev dst (d : Bool) : Dev nD := bif d then ⟨W.v2.toNat, W.h2⟩ else ⟨W.v1.toNat, W.h1⟩
abbrev src (d : Bool) : Dev nD := bif d then ⟨W.v1.toNat, W.h1⟩ else ⟨W.v2.toNat, W.h2⟩

/-- Rows of the left operand: the half the direction multiplies at step `s`. -/
def xOff (d : Bool) (s : Fin 15) : Fin 2 → ℕ :=
  bif d then k0_off3 W.v0 (BitVec.ofNat 32 (1 + s.val)) else k0_off2 W.v0 (BitVec.ofNat 32 (1 + s.val))
theorem xOff_inb (d : Bool) (s : Fin 15) : ∀ a, xOff W d s a + S256x512.size a ≤ S8192x512.size a := by
  cases d
  · exact k0_off2_inb W.v0 W.h0 s
  · exact k0_off3_inb W.v0 W.h0 s
def xOff0 (d : Bool) : Fin 2 → ℕ := k0_off1 W.v0 (BitVec.ofNat 32 (256 * (bif d then 1 else 0)))
theorem xOff0_inb (d : Bool) : ∀ a, xOff0 W d a + S256x512.size a ≤ S8192x512.size a := by
  cases d
  · exact k0_off1_inb W.v0 W.h0 0
  · exact k0_off1_inb W.v0 W.h0 1
/-- Rows of the result: quarter `q` of the half the direction carries at gather step `t`
    (step 15: the device's own). -/
def oOff (d : Bool) (t : Fin 16) (q : Fin 4) : Fin 2 → ℕ :=
  bif d then k0_off5 W.v0 (BitVec.ofNat 32 t.val) (BitVec.ofNat 32 (64 * q.val))
  else k0_off4 W.v0 (BitVec.ofNat 32 t.val) (BitVec.ofNat 32 (64 * q.val))
theorem oOff_inb (d : Bool) (t : Fin 16) (q : Fin 4) : ∀ a, oOff W d t q a + S64x4096.size a ≤ S8192x4096.size a := by
  cases d
  · exact k0_off4_inb W.v0 W.h0 t q
  · exact k0_off5_inb W.v0 W.h0 t q
/-- Quarter `q` of a half of the result. -/
abbrev outQ (d : Bool) (t : Fin 16) (q : Fin 4) : Memref sig .tc .hbm S64x4096 .f32 :=
  A.out.slice (Rect.unit (s := S8192x4096) (oOff W d t q) S64x4096.size (oOff_inb W d t q)) (fun _ => rfl)

/-- The first product of a direction, into slot 0 of its partial sums. -/
def init (d : Bool) (k : PU F) : PU F :=
  .op (.load A.x (Rect.unit (s := S8192x512) (xOff0 W d) S256x512.size (xOff0_inb W d)).toLoadRect (View.loadsAt_vmem h_S256x512)) fun v =>
  .op (.load A.w (Rect.unit (s := S512x4096) ![0, 0] S512x4096.size inb_S512x4096_S512x4096_0_0).toLoadRect (View.loadsAt_vmem h_S512x4096)) fun u =>
  .op (.load (A.acc d) (Rect.unit (s := S4x256x4096) ![0, 0, 0] S1x256x4096.size inb_S4x256x4096_S1x256x4096_0_0_0).toLoadRect (View.loadsAt_vmem h_S1x256x4096)) fun _ =>
  .op (.store (A.acc d) (Rect.unit (s := S4x256x4096) ![0, 0, 0] S1x256x4096.size inb_S4x256x4096_S1x256x4096_0_0_0) (k0_pay1 v u) Finset.univ
    (View.stores_vmem h_S1x256x4096 ((A.hacc d).storeExact_slice rfl _ packedbf16_S4x256x4096_S1x256x4096_0_0_0) (fun _ => rfl)) (.inl rfl)) fun _ => k

/-- Send `s` of the reduce-scatter, quarter `q`: from slot `s` here to slot `s + 1` there. -/
def send (d : Bool) (s : Fin 15) (q : Fin 4) (k : PU F) : PU F :=
  .op (.enqueueDma (A.slot d (slotOf s) q)
    (.remote (Dev.tc (dst W d)) (A.slot d (slotOf (s + 1)) q) (.dma (Ops.semAt (A.rsS d) s q))) (.dma (Ops.semAt (A.rsR d) s q))
    (((A.hacc d).wordExact_slice rfl _ (wordsAcc (slotOf s) q)).reshape _ _)
    (((A.hacc d).wordExact_slice rfl _ (wordsAcc (slotOf (s + 1)) q)).reshape _ _) ⟨⟨rfl, Or.inl rfl⟩, trivial⟩) fun _ => k

/-- The wait for arrival `s`, quarter `q`. -/
def recv (d : Bool) (s : Fin 15) (q : Fin 4) (k : PU F) : PU F :=
  .op (.waitDma2 (Ops.semAt (A.rsR d) s q) (A.slot d (slotOf (s + 1)) q) (A.slot d (slotOf (s + 1)) q)
    (((A.hacc d).wordExact_slice rfl _ (wordsAcc (slotOf (s + 1)) q)).reshape _ _)
    (((A.hacc d).wordExact_slice rfl _ (wordsAcc (slotOf (s + 1)) q)).reshape _ _)) fun _ => k

/-- The wait for send `s`, quarter `q`, to have left its slot. -/
def sent (d : Bool) (s : Fin 15) (q : Fin 4) (k : PU F) : PU F :=
  .op (.waitDma2 (Ops.semAt (A.rsS d) s q) (A.slot d (slotOf (s + 1)) q) (A.slot d (slotOf s) q)
    (((A.hacc d).wordExact_slice rfl _ (wordsAcc (slotOf (s + 1)) q)).reshape _ _)
    (((A.hacc d).wordExact_slice rfl _ (wordsAcc (slotOf s) q)).reshape _ _)) fun _ => k

/-- The product of step `s`, into the direction's local buffer. -/
def prod (d : Bool) (s : Fin 15) (k : PU F) : PU F :=
  .op (.load A.x (Rect.unit (s := S8192x512) (xOff W d s) S256x512.size (xOff_inb W d s)).toLoadRect (View.loadsAt_vmem h_S256x512)) fun v =>
  .op (.load A.w (Rect.unit (s := S512x4096) ![0, 0] S512x4096.size inb_S512x4096_S512x4096_0_0).toLoadRect (View.loadsAt_vmem h_S512x4096)) fun u =>
  .op (.load (A.loc d) (Rect.unit (s := S256x4096) ![0, 0] S256x4096.size inb_S256x4096_S256x4096_0_0).toLoadRect (View.loadsAt_vmem h_S256x4096)) fun _ =>
  .op (.store (A.loc d) (Rect.unit (s := S256x4096) ![0, 0] S256x4096.size inb_S256x4096_S256x4096_0_0) (k0_pay16 v u) Finset.univ
    (View.stores_vmem_bits_univ h_S256x4096 rfl) (.inl rfl)) fun _ => k

/-- Quarter `q` of arrival `s`: add the local product to it in its slot. -/
def addQ (d : Bool) (s : Fin 15) (q : Fin 4) (k : PU F) : PU F :=
  .op (.load (A.acc d) (Ops.accRect (slotOf (s + 1)) q).toLoadRect (View.loadsAt_vmem h_S1x64x4096)) fun v =>
  .op (.load (A.loc d) (Ops.qRect q).toLoadRect (View.loadsAt_vmem h_S64x4096)) fun u =>
  .op (.load (A.acc d) (Ops.accRect (slotOf (s + 1)) q).toLoadRect (View.loadsAt_vmem h_S1x64x4096)) fun _ =>
  .op (.store (A.acc d) (Ops.accRect (slotOf (s + 1)) q) (k0_pay10 v u) Finset.univ
    (View.stores_vmem h_S1x64x4096 ((A.hacc d).storeExact_slice rfl _ (packedAcc (slotOf (s + 1)) q)) (fun _ => rfl)) (.inl rfl)) fun _ => k

/-- A unit of the direction's credit. -/
def credit (d : Bool) (k : PU F) : PU F := .op (.semWait (A.cr d).sem (1#32).toInt) fun _ => k

/-- Quarter `q` of step `s` (not the last): receive, add, take a credit once they are owed, send on. -/
def stepQ (s : Fin 14) (q : Fin 4) (d : Bool) (k : PU F) : PU F :=
  recv A d s.castSucc q (addQ A d s.castSucc q
    (bif Nat.ble 2 s.val then credit A d (send A W d s.succ q k) else send A W d s.succ q k))

/-- The last arrival's quarter `q`: the finished sum through the activation, sent on. -/
def lastQ (q : Fin 4) (d : Bool) (k : PU F) : PU F :=
  recv A d 14 q <|
  .op (.load (A.acc d) (Ops.accRect (slotOf 15) q).toLoadRect (View.loadsAt_vmem h_S1x64x4096)) fun v =>
  .op (.load (A.loc d) (Ops.qRect q).toLoadRect (View.loadsAt_vmem h_S64x4096)) fun u =>
  .op (.load (A.fin d) (Ops.qRect q).toLoadRect (View.loadsAt_vmem h_S64x4096)) fun _ =>
  .op (.store (A.fin d) (Ops.qRect q) (k0_pay182 v u) Finset.univ (View.stores_vmem_bits_univ h_S64x4096 rfl) (.inl rfl)) fun _ =>
  .op (.enqueueDma (A.finQ d q) (.remote (Dev.tc (dst W d)) (outQ A W d 15 q) (.dma (Ops.semAt (A.agS d) 0 q))) (.dma (Ops.semAt (A.agR d) 0 q))
    (View.wordExact_bits rfl) (View.wordExact_bits rfl) ⟨⟨rfl, Or.inl rfl⟩, trivial⟩) fun _ => k

/-- The credits of step `s`: a unit to the source of each direction, its slot free again. -/
def give (d : Bool) (k : PU F) : PU F := .op (.semSignal (src W d, .tc) (A.cr d).sem (1#32).toInt) fun _ => k

/-- Step `s` of the reduce-scatter, not the last. -/
def step (s : Fin 14) (k : PU F) : PU F :=
  prod A W false s.castSucc <| prod A W true s.castSucc <|
  each 4 (fun q k => stepQ A W s q false (stepQ A W s q true k)) <|
  each 4 (fun q k => sent A false s.castSucc q k) <|
  each 4 (fun q k => sent A true s.castSucc q k) <|
  bif Nat.ble s.val 11 then each 4 (fun q k => give A W false (give A W true k)) k else k

/-- The last step of the reduce-scatter. -/
def last (k : PU F) : PU F :=
  prod A W false 14 <| prod A W true 14 <|
  each 4 (fun q k => lastQ A W q false (lastQ A W q true k)) <|
  each 4 (fun q k => sent A false 14 q k) <|
  each 4 (fun q k => sent A true 14 q k) k

/-- The device's own finished quarter into its own result. -/
def copyQ (q : Fin 4) (d : Bool) (k : PU F) : PU F :=
  .op (.enqueueDma (A.finQ d q) (.here (outQ A W d 15 q)) (.dma (A.cpAt d q)) (View.wordExact_bits rfl) (View.wordExact_bits rfl) ⟨Or.inl rfl, trivial⟩) fun _ => k

/-- The wait for quarter `q` of gather step `t`. -/
def got (d : Bool) (t : Fin 15) (q : Fin 4) (k : PU F) : PU F :=
  .op (.waitDma2 (Ops.semAt (A.agR d) t q) (outQ A W d t.castSucc q) (outQ A W d t.castSucc q) (View.wordExact_bits rfl) (View.wordExact_bits rfl)) fun _ => k

/-- Gather step `t`, quarter `q`: receive and send on. -/
def fwdQ (t : Fin 14) (q : Fin 4) (d : Bool) (k : PU F) : PU F :=
  got A W d t.castSucc q <| .op (.enqueueDma (outQ A W d t.castSucc.castSucc q)
    (.remote (Dev.tc (dst W d)) (outQ A W d t.castSucc.castSucc q) (.dma (Ops.semAt (A.agS d) t.succ q))) (.dma (Ops.semAt (A.agR d) t.succ q))
    (View.wordExact_bits rfl) (View.wordExact_bits rfl) ⟨⟨rfl, Or.inl rfl⟩, trivial⟩) fun _ => k

def copied (q : Fin 4) (d : Bool) (k : PU F) : PU F :=
  .op (.waitDma2 (A.cpAt d q) (A.finQ d q) (outQ A W d 15 q) (View.wordExact_bits rfl) (View.wordExact_bits rfl)) fun _ => k
def ownGone (q : Fin 4) (d : Bool) (k : PU F) : PU F :=
  .op (.waitDma2 (Ops.semAt (A.agS d) 0 q) (outQ A W d 15 q) (A.finQ d q) (View.wordExact_bits rfl) (View.wordExact_bits rfl)) fun _ => k
def fwdGone (t : Fin 14) (q : Fin 4) (d : Bool) (k : PU F) : PU F :=
  .op (.waitDma2 (Ops.semAt (A.agS d) t.succ q) (outQ A W d t.castSucc.castSucc q) (outQ A W d t.castSucc.castSucc q) (View.wordExact_bits rfl) (View.wordExact_bits rfl)) fun _ => k

/-- The body after it has read its table and signalled its neighbours. -/
def rest : PU F :=
  init A W false <| init A W true <|
  .op (.semWait barSem (2#32).toInt) fun _ =>
  each 4 (fun q k => send A W false 0 q k) <|
  each 4 (fun q k => send A W true 0 q k) <|
  each 14 (fun s k => step A W s k) <|
  last A W <|
  each 4 (fun q k => copyQ A W q false (copyQ A W q true k)) <|
  each 14 (fun t k => each 4 (fun q k => fwdQ A W t q false (fwdQ A W t q true k)) k) <|
  each 4 (fun q k => got A W false 14 q (got A W true 14 q k)) <|
  each 4 (fun q k => copied A W q false (copied A W q true k)) <|
  each 4 (fun q k => ownGone A W q false (ownGone A W q true k)) <|
  each 14 (fun t k => each 4 (fun q k => fwdGone A W t q false (fwdGone A W t q true k)) k) <|
  .ret ⟨⟩

/-- The body from its two signals on. -/
def tail : PU F :=
  .op (.semSignal (⟨W.v2.toNat, W.h2⟩, .tc) barSem (1#32).toInt) fun _ =>
  .op (.semSignal (⟨W.v1.toNat, W.h1⟩, .tc) barSem (1#32).toInt) fun _ => rest A W

/-- The whole body. -/
def body : PU F :=
  smemLoadElt A.tab (Rect.unit (s := S3) ![0] S1.size inb_S3_S1_0) (View.loads_smem_one rfl numel1_S1)
    (Shape.Idx.first (numel1_S1.symm ▸ Nat.one_pos)) fun v0 =>
  .op (.assume (k0_chk3 v0) (k0_chk3.dec v0)) fun h0 =>
  smemLoadElt A.tab (Rect.unit (s := S3) ![1] S1.size inb_S3_S1_1) (View.loads_smem_one rfl numel1_S1)
    (Shape.Idx.first (numel1_S1.symm ▸ Nat.one_pos)) fun v1 =>
  .op (.assume (k0_chk2 v1) (k0_chk2.dec v1)) fun h1 =>
  smemLoadElt A.tab (Rect.unit (s := S3) ![2] S1.size inb_S3_S1_2) (View.loads_smem_one rfl numel1_S1)
    (Shape.Idx.first (numel1_S1.symm ▸ Nat.one_pos)) fun v2 =>
  .op (.assume (k0_chk1 v2) (k0_chk1.dec v2)) fun h2 =>
  tail A ⟨v0, v1, v2, h0.down, k0_dev2_lt v1 h1.down, k0_dev1_lt v2 h2.down⟩

end Body

end Cert.Ring
-- ==== Proof.ShapeEq.lean ====
/- The printed body of the kernel is the parametric program of `Proof.Shape`. -/
module

public import proofs.«01_k».proof.Proof.Shape

@[expose] public section

set_option maxRecDepth 100000
set_option maxHeartbeats 0

noncomputable section

namespace Cert.Ring

open Idealize.ShloMosaic Idealize.SL.Sem Cert.KernelIdeal Cert.KernelIdeal.Gen

variable {F : FTy → Type} [FloatOps F]

attribute [local instance] Cert.KernelIdeal.Gen.facts

/-- The printed body is the parametric one, at the operands it is called with. -/
theorem body_eq (arg0 : Memref sig .tc .smem S3 .i32) (harg0 : arg0.IsWhole) (arg1 : Memref sig .tc .vmem S8192x512 .bf16) (harg1 : arg1.IsWhole) (arg2 : Memref sig .tc .vmem S512x4096 .bf16) (harg2 : arg2.IsWhole) (arg3 : Memref sig .tc .hbm S8192x4096 .f32) (harg3 : arg3.IsWhole) (arg4 : Memref sig .tc .vmem S4x256x4096 .bf16) (harg4 : arg4.IsWhole) (arg5 : Memref sig .tc .vmem S4x256x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x4096 .f32) (harg8 : arg8.IsWhole) (arg9 : Memref sig .tc .vmem S256x4096 .f32) (harg9 : arg9.IsWhole) (arg10 : DmaSems sig S2x4) (arg11 : DmaSems sig S15x4) (arg12 : DmaSems sig S15x4) (arg13 : DmaSems sig S15x4) (arg14 : DmaSems sig S15x4) (arg15 : DmaSems sig S15x4) (arg16 : DmaSems sig S15x4) (arg17 : DmaSems sig S15x4) (arg18 : DmaSems sig S15x4) (arg19 : Sems sig S_) (arg20 : Sems sig S_) :
    cc0__body (F := F) arg0 harg0 arg1 harg1 arg2 harg2 arg3 harg3 arg4 harg4 arg5 harg5 arg6 harg6 arg7 harg7 arg8 harg8 arg9 harg9 arg10 arg11 arg12 arg13 arg14 arg15 arg16 arg17 arg18 arg19 arg20 =
      Body.body ⟨arg0, arg1, arg2, arg3, fun d => bif d then arg5 else arg4, fun d => match d with | false => harg4 | true => harg5,
        fun d => bif d then arg7 else arg6, fun d => bif d then arg9 else arg8, arg10,
        fun d => bif d then arg13 else arg11, fun d => bif d then arg14 else arg12,
        fun d => bif d then arg17 else arg15, fun d => bif d then arg18 else arg16, fun d => bif d then arg20 else arg19⟩ := rfl

end Cert.Ring
-- ==== Proof.Own.lean ====
/- Ownership of a memref's elements at stated contents, and what loads, stores, splits and
   changes of spelling do to it. -/
module

public import proofs.«01_k».proof.Proof.ShapeEq
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Release
public import Idealize.ShloMosaic.Lib.Ring
public import Idealize.ShloMosaic.Lib.StableHlo
public import Idealize.ShloMosaic.Lib.Tactic

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

attribute [local instance] Cert.KernelIdeal.Gen.facts

/-- A slot's key: the reader's device, the direction, the arrival and its quarter. -/
abbrev Key : Type := Dev nD × Bool × Fin 15 × Fin 4

/-- The ghost state: the pipeline library's, the protocol's rounds, the slots. -/
abbrev UU : Type := UR sig nD τ × (URounds (GSem nD τ sig) ℕ × USlots Key)

local notation "𝕄" => MT nD τ sig ℕ (Elt F) ℕ UU ℕ

variable (F) in
/-- Assertions of the launch. -/
abbrev SP : Type := sProp (MT nD τ sig ℕ (Elt F) ℕ UU ℕ)

abbrev EP : Emb (UR sig nD τ) (MT nD τ sig ℕ (Elt F) ℕ UU ℕ) := embL
abbrev ER : Emb (URounds (GSem nD τ sig) ℕ) (MT nD τ sig ℕ (Elt F) ℕ UU ℕ) := Emb.inl.trans embR
abbrev ES : Emb (USlots Key) (MT nD τ sig ℕ (Elt F) ℕ UU ℕ) := Emb.inr.trans embR

variable {sp : Space} {s s' : Shape} {e : EltTy}

/-- The elements of memref `m` on device `c`, at share `q`, reading `f`. -/
def Own (m : Memref sig .tc sp s e) (c : Dev nD) (q : PosShare TreeShare) (f : s.Idx → Elt F e) : sProp 𝕄 :=
  iprop(∃ g : Buf (Elt F) (m.view.loc (c : Thread nD τ)), ⌜m.view.read (Elt F) g = f⌝ ∗ (m.view.loc (c : Thread nD τ) ↦[m.view.set]{q} g))

instance own_storable (m : Memref sig .tc sp s e) (c : Dev nD) (q : PosShare TreeShare) (f : s.Idx → Elt F e) :
    BI.Storable (upEmb : UEmb _ 𝕄) (Own m c q f) := by unfold Own; infer_instance

theorem own_intro {m : Memref sig .tc sp s e} {c : Dev nD} {q : PosShare TreeShare} (g : Buf (Elt F) (m.view.loc (c : Thread nD τ))) :
    (m.view.loc (c : Thread nD τ) ↦[m.view.set]{q} g) ⊢ (Own m c q (m.view.read (Elt F) g) : sProp 𝕄) := by
  unfold Own; iintro H; iexists g; isplitr; · ipureintro; rfl
  iexact H

/-- What is read after a write of the whole view. -/
theorem read_write (m : Memref sig .tc sp s e) (g : m.view.ty.Contents (Elt F)) (w : s.Idx → Elt F e) :
    m.view.read (Elt F) (m.view.write (Elt F) g w Finset.univ) = w := by
  exact View.read_write_univ ..

theorem eq_of {P Q : sProp 𝕄} (h : P ⊢ Q) (h' : Q ⊢ P) : P = Q := BI.Entails.antisymm h h'

/-- Ownership at equal contents. -/
theorem own_congr {m : Memref sig .tc sp s e} {c : Dev nD} {q : PosShare TreeShare} {f f' : s.Idx → Elt F e} (h : f = f') :
    (Own m c q f : sProp 𝕄) ⊢ Own m c q f' := by rw [h]

/-- The squeezed memref's elements are the memref's, counted differently. -/
theorem own_squeeze (m : Memref sig .tc sp s e) (h : s.Squeezes s') (c : Dev nD) (q : PosShare TreeShare) (f : s.Idx → Elt F e) :
    (Own m c q f : sProp 𝕄) = Own (m.squeeze s' h) c q (fun x => f (Shape.reshapeEquiv h.numel_eq x)) := by
  unfold Own
  have hs : (m.squeeze s' h).view.set = m.view.set := View.set_reshape ..
  refine eq_of ?_ ?_
  · iintro ⟨%g, %hg, H⟩
    iexists g
    isplitr
    · ipureintro; subst hg; rfl
    rw [hs]; iexact H
  · iintro ⟨%g, %hg, H⟩
    iexists g
    isplitr
    · ipureintro
      funext y
      have := congrFun hg ((Shape.reshapeEquiv h.numel_eq).symm y)
      simp only [Equiv.apply_symm_apply] at this
      rw [← this]
      show m.view.read (Elt F) g y = m.view.read (Elt F) g (Shape.reshapeEquiv h.numel_eq ((Shape.reshapeEquiv h.numel_eq).symm y))
      rw [Equiv.apply_symm_apply]
    rw [hs]; iexact H

theorem own_share (m : Memref sig .tc sp s e) (c : Dev nD) (q : PosShare TreeShare) (f : s.Idx → Elt F e) :
    (Own m c q f : sProp 𝕄) = iprop(Own m c q.left f ∗ Own m c q.right f) := by
  unfold Own
  refine eq_of ?_ ?_
  · iintro ⟨%g, %hg, H⟩
    ihave H := (pointsTo_share (PosShare.mem_left_op_right q)).1 $$ H
    icases H with ⟨H₁, H₂⟩
    isplitl [H₁]
    · iexists g; isplitr; · ipureintro; exact hg
      iexact H₁
    · iexists g; isplitr; · ipureintro; exact hg
      iexact H₂
  · iintro ⟨⟨%g, %hg, H₁⟩, ⟨%g', %hg', H₂⟩⟩
    iexists g
    isplitr; · ipureintro; exact hg
    iapply (pointsTo_share (PosShare.mem_left_op_right q)).2
    isplitl [H₁]; · iexact H₁
    rw [pointsTo_congr (f := g) (g := g')]
    · iexact H₂
    intro i hi
    obtain ⟨x, -, rfl⟩ := Finset.mem_map.mp hi
    have h : m.view.read (Elt F) g x = m.view.read (Elt F) g' x := by rw [hg, hg']
    rw [View.read_apply, View.read_apply] at h
    exact (cast_bijective _).1 h

section Pieces

variable {T : Type} [Fintype T] [DecidableEq T] (m : Memref sig .tc sp s e) (c : Dev nD) (q : PosShare TreeShare)
variable {size : Fin s.rank → ℕ} (off : T → Fin s.rank → ℕ) (inb : ∀ t a, off t a + size a ≤ s.size a)

/-- The piece `t` of a memref cut into blocks of one size. -/
abbrev piece (t : T) : Memref sig .tc sp ⟨s.rank, size⟩ e := m.slice (Rect.unit (off t) size (inb t)) (fun _ => rfl)

variable (hd : ∀ t t', t ≠ t' → Disjoint (Rect.unit (off t) size (inb t)).set (Rect.unit (off t') size (inb t')).set)
variable (hc : ∀ i : s.Idx, ∃ t, i ∈ (Rect.unit (off t) size (inb t)).set)

include hd hc in
theorem piece_sets :
    (∀ t ∈ (Finset.univ : Finset T), ∀ t' ∈ (Finset.univ : Finset T), t ≠ t' → Disjoint (piece m off inb t).view.set (piece m off inb t').view.set)
      ∧ Finset.univ.biUnion (fun t => (piece m off inb t).view.set) = m.view.set := by
  constructor
  · intro t _ t' _ h
    rw [View.set_slice, View.set_slice, Finset.disjoint_map]
    exact hd t t' h
  · ext i
    simp only [Finset.mem_biUnion, Finset.mem_univ, true_and]
    constructor
    · rintro ⟨t, ht⟩; exact View.set_slice_subset _ _ ht
    · intro hi
      obtain ⟨x, -, rfl⟩ := Finset.mem_map.mp hi
      obtain ⟨t, ht⟩ := hc x
      refine ⟨t, ?_⟩
      rw [View.set_slice]; exact Finset.mem_map_of_mem _ ht

include hd hc in
theorem own_pieces (f : s.Idx → Elt F e) :
    (Own m c q f : sProp 𝕄) ⊢ bigSep Finset.univ fun t => Own (piece m off inb t) c q (fun x => f ((Rect.unit (off t) size (inb t)).emb x)) := by
  obtain ⟨h₁, h₂⟩ := piece_sets m off inb hd hc
  unfold Own
  iintro ⟨%g, %hg, H⟩
  have hm : bigSep Finset.univ (fun t => (m.view.loc (c : Thread nD τ) ↦[(piece m off inb t).view.set]{q} g : sProp 𝕄))
      ⊢ bigSep Finset.univ fun t => Own (piece m off inb t) c q (fun x => f ((Rect.unit (off t) size (inb t)).emb x)) := by
    refine bigSep_mono fun t _ => ?_
    unfold Own
    show (_ : sProp 𝕄) ⊢ _
    iintro H; iexists g
    isplitr; · ipureintro; subst hg; rfl
    iexact H
  have hu := pointsTo_biUnion (ℓ := m.view.loc (c : Thread nD τ)) (q := q) (f := g) (Ix := ℕ) (Name := ℕ) (U := UU) (Lvl := ℕ) Finset.univ (fun t => (piece m off inb t).view.set) h₁
  iapply hm
  rw [← hu, h₂]
  iexact H

include hd hc in
theorem own_join [Nonempty (s.Idx → Elt F e)] (fs : T → (⟨s.rank, size⟩ : Shape).Idx → Elt F e) (f : s.Idx → Elt F e)
    (hf : ∀ t x, f ((Rect.unit (off t) size (inb t)).emb x) = fs t x) (g₀ : Buf (Elt F) (m.view.loc (c : Thread nD τ))) :
    bigSep Finset.univ (fun t => Own (piece m off inb t) c q (fs t)) ⊢ (Own m c q f : sProp 𝕄) := by
  obtain ⟨h₁, h₂⟩ := piece_sets m off inb hd hc
  have : ∀ t : T, Nonempty (Buf (Elt F) (m.view.loc (c : Thread nD τ))) := fun _ => ⟨g₀⟩
  unfold Own
  refine (BI.bigSep_exists_pi Finset.univ (fun t (g : Buf (Elt F) (m.view.loc (c : Thread nD τ))) =>
    (iprop(⌜(piece m off inb t).view.read (Elt F) g = fs t⌝ ∗ (m.view.loc (c : Thread nD τ) ↦[(piece m off inb t).view.set]{q} g)) : sProp 𝕄))).trans ?_
  iintro ⟨%gs, H⟩
  ihave H := (bigSep_pure_sep Finset.univ _ _) $$ H
  icases H with ⟨%hg, H⟩
  ihave H := (pointsTo_biUnion_join Finset.univ (fun t => (piece m off inb t).view.set) gs g₀ h₁) $$ H
  icases H with ⟨%g, %hgg, H⟩
  iexists g
  isplitr
  · ipureintro
    funext i
    obtain ⟨t, ht⟩ := hc i
    rw [← Rect.map_emb_univ] at ht
    obtain ⟨x, -, rfl⟩ := Finset.mem_map.mp ht
    rw [hf t x, ← hg t (Finset.mem_univ t)]
    have h := hgg t (Finset.mem_univ t) _ (View.emb_mem_set (piece m off inb t).view x)
    show (piece m off inb t).view.read (Elt F) g x = _
    rw [View.read_apply, View.read_apply, h]
  · rw [h₂]; iexact H

end Pieces

/-- The kernel's termination variants: it calls nothing. -/
abbrev 𝒱₀ : Variants := Variants.none

/-- Running `p` on device `c` to `Φ`. -/
abbrev WP (c : Dev nD) (p : PU F) (Φ : PUnit → SP F) : sProp 𝕄 :=
  wp frame (wpE (defs₀ (F := F)) 𝒱₀ (c : Thread nD τ) none) Set.univ p Φ

section Access

variable {cs : CoreSpace} {m : Memref sig .tc cs s e} {c : Dev nD} {q : PosShare TreeShare} {Φ : PUnit → SP F}

/-- A load of the rectangle held. -/
theorem own_load (r : Rect s) (hr : ∀ a, r.stride a = 1) {f : r.shape.Idx → Elt F e} {hl : m.view.LoadsAt r.toLoadRect} {k : (r.shape.Idx → Elt F e) → PU F} :
    (Own (m.slice r hr) c q f : sProp 𝕄) ⊢ iprop((Own (m.slice r hr) c q f -∗ WP c (k f) Φ) -∗ WP c (.op (.load m r.toLoadRect hl) k) Φ) := by
  unfold Own
  iintro ⟨%g, %hg, H⟩ Hk
  iapply (wp_load_rect 𝒱₀ (c : Thread nD τ) none Set.univ (m := m) (r := r) (hl := hl) (S := (m.access r).set) (q := q) (f := g) (Finset.Subset.refl _)) $$ H
  iintro H
  have hg' : (m.access r).read (Elt F) g = f := hg
  rw [hg']
  iapply Hk
  iexists g
  isplitr; · ipureintro; exact hg
  iexact H

/-- A load of a rectangle of the memref held. -/
theorem own_load_in (r : Rect s) {f : s.Idx → Elt F e} {hl : m.view.LoadsAt r.toLoadRect} {k : (r.shape.Idx → Elt F e) → PU F} :
    (Own m c q f : sProp 𝕄) ⊢ iprop((Own m c q f -∗ WP c (k (fun x => f (r.emb x))) Φ) -∗ WP c (.op (.load m r.toLoadRect hl) k) Φ) := by
  unfold Own
  iintro ⟨%g, %hg, H⟩ Hk
  iapply (wp_load_rect 𝒱₀ (c : Thread nD τ) none Set.univ (m := m) (r := r) (hl := hl) (S := m.view.set) (q := q) (f := g) (View.set_slice_subset _ _)) $$ H
  iintro H
  have hg' : (m.access r).read (Elt F) g = fun x => f (r.emb x) := by subst hg; rfl
  rw [hg']
  iapply Hk
  iexists g
  isplitr; · ipureintro; exact hg
  iexact H

/-- An unmasked store to the rectangle held. -/
theorem own_store (r : Rect s) (hr : ∀ a, r.stride a = 1) {f : r.shape.Idx → Elt F e} {w : r.shape.Idx → Elt F e} {hx : (m.access r).Stores Finset.univ}
    {hm : (Finset.univ : Finset r.shape.Idx) = Finset.univ ∨ ∀ a, r.stride a = 1} {k : PUnit → PU F} :
    (Own (m.slice r hr) c fullShare f : sProp 𝕄)
      ⊢ iprop((Own (m.slice r hr) c fullShare w -∗ WP c (k ⟨⟩) Φ) -∗ WP c (.op (.store m r w Finset.univ hx hm) k) Φ) := by
  unfold Own
  iintro ⟨%g, %hg, H⟩ Hk
  iapply (wp_store 𝒱₀ (c : Thread nD τ) none Set.univ (m := m) (r := r) (w := w) (hx := hx) (hm := hm) (S := (m.access r).set) (f := g)
    (by rw [View.setOn_univ])) $$ H
  iintro H
  iapply Hk
  iexists (m.access r).write (Elt F) g w Finset.univ
  isplitr
  · ipureintro; exact View.read_write_univ ..
  iexact H

/-- An unmasked store to a rectangle of the memref held. -/
theorem own_store_in (r : Rect s) {f : s.Idx → Elt F e} {w : r.shape.Idx → Elt F e} {hx : (m.access r).Stores Finset.univ}
    {hm : (Finset.univ : Finset r.shape.Idx) = Finset.univ ∨ ∀ a, r.stride a = 1} {k : PUnit → PU F} :
    (Own m c fullShare f : sProp 𝕄)
      ⊢ iprop(((∃ f' : s.Idx → Elt F e, ⌜∀ x, f' (r.emb x) = w x⌝ ∗ Own m c fullShare f') -∗ WP c (k ⟨⟩) Φ)
          -∗ WP c (.op (.store m r w Finset.univ hx hm) k) Φ) := by
  unfold Own
  iintro ⟨%g, %hg, H⟩ Hk
  iapply (wp_store 𝒱₀ (c : Thread nD τ) none Set.univ (m := m) (r := r) (w := w) (hx := hx) (hm := hm) (S := m.view.set) (f := g)
    ((View.setOn_subset_set _ _).trans (View.set_slice_subset _ _))) $$ H
  iintro H
  iapply Hk
  iexists m.view.read (Elt F) ((m.access r).write (Elt F) g w Finset.univ)
  isplitr
  · ipureintro; intro x
    exact congrFun (View.read_write_univ (v := m.access r) (Val := Elt F) g w) x
  iexists (m.access r).write (Elt F) g w Finset.univ
  isplitr; · ipureintro; rfl
  iexact H

variable (r : Rect s) (hr : ∀ a, r.stride a = 1) (h : r.shape.Squeezes s')

/-- Contents of a squeezed memref, at the indices of the memref. -/
def unsq {r : Rect s} (h : r.shape.Squeezes s') (f : s'.Idx → Elt F e) : r.shape.Idx → Elt F e := fun y => f ((Shape.reshapeEquiv h.numel_eq).symm y)
/-- Contents of a memref, at the indices of its squeezed form. -/
def sq {r : Rect s} (h : r.shape.Squeezes s') (f : r.shape.Idx → Elt F e) : s'.Idx → Elt F e := fun x => f (Shape.reshapeEquiv h.numel_eq x)

theorem own_unsq (f : s'.Idx → Elt F e) : (Own ((m.slice r hr).squeeze s' h) c q f : sProp 𝕄) = Own (m.slice r hr) c q (unsq h f) := by
  rw [own_squeeze (m.slice r hr) h]; congr 1; funext x; show f x = f _; rw [Equiv.symm_apply_apply]
theorem own_sq (f : r.shape.Idx → Elt F e) : (Own (m.slice r hr) c q f : sProp 𝕄) = Own ((m.slice r hr).squeeze s' h) c q (sq h f) :=
  own_squeeze (m.slice r hr) h c q f

theorem own_load_sq {f : s'.Idx → Elt F e} {hl : m.view.LoadsAt r.toLoadRect} {k : (r.shape.Idx → Elt F e) → PU F} :
    (Own ((m.slice r hr).squeeze s' h) c q f : sProp 𝕄)
      ⊢ iprop((Own ((m.slice r hr).squeeze s' h) c q f -∗ WP c (k (unsq h f)) Φ) -∗ WP c (.op (.load m r.toLoadRect hl) k) Φ) := by
  rw [own_unsq]; exact own_load r hr

theorem own_store_sq {f : s'.Idx → Elt F e} {w : r.shape.Idx → Elt F e} {hx : (m.access r).Stores Finset.univ}
    {hm : (Finset.univ : Finset r.shape.Idx) = Finset.univ ∨ ∀ a, r.stride a = 1} {k : PUnit → PU F} :
    (Own ((m.slice r hr).squeeze s' h) c fullShare f : sProp 𝕄)
      ⊢ iprop((Own ((m.slice r hr).squeeze s' h) c fullShare (sq h w) -∗ WP c (k ⟨⟩) Φ) -∗ WP c (.op (.store m r w Finset.univ hx hm) k) Φ) := by
  rw [own_unsq, ← own_sq]; exact own_store r hr

end Access

/-- A piece of a program before its continuation: from `I` it reaches `J`, with the persistent `C` at hand. -/
def Tr (C : sProp 𝕄) (c : Dev nD) (I : sProp 𝕄) (f : PU F → PU F) (J : sProp 𝕄) : Prop :=
  ∀ (k : PU F) (Φ : PUnit → SP F), iprop(C ∗ I ∗ (J -∗ WP c k Φ)) ⊢ WP c (f k) Φ

section Tr

variable {C : SP F} [BI.Persistent C] {c : Dev nD} {I J K R : SP F} {f g : PU F → PU F}

theorem Tr.comp (hf : Tr C c I f J) (hg : Tr C c J g K) : Tr C c I (fun k => f (g k)) K := by
  intro k Φ
  iintro ⟨#HC, HI, Hk⟩
  iapply (hf (g k) Φ)
  isplitr; · iexact HC
  isplitl [HI]; · iexact HI
  iintro HJ
  iapply (hg k Φ)
  isplitr; · iexact HC
  isplitl [HJ]; · iexact HJ
  iexact Hk

theorem Tr.conseq {I' J' : SP F} (hf : Tr C c I f J) (hI : iprop(C ∗ I') ⊢ iprop(C ∗ I)) (hJ : iprop(C ∗ J) ⊢ J') : Tr C c I' f J' := by
  intro k Φ
  iintro ⟨#HC, HI, Hk⟩
  ihave H := hI $$ [HI]
  · isplitr; · iexact HC
    iexact HI
  icases H with ⟨-, HI⟩
  iapply (hf k Φ)
  isplitr; · iexact HC
  isplitl [HI]; · iexact HI
  iintro HJ
  iapply Hk
  iapply hJ
  isplitr; · iexact HC
  iexact HJ

theorem Tr.mono {I' J' : SP F} (hf : Tr C c I f J) (hI : I' ⊢ I) (hJ : J ⊢ J') : Tr C c I' f J' :=
  hf.conseq (sep_mono_right hI) ((sep_mono_right hJ).trans sep_elim_right)

theorem Tr.frame (hf : Tr C c I f J) (R : sProp 𝕄) : Tr C c iprop(I ∗ R) f iprop(J ∗ R) := by
  intro k Φ
  iintro ⟨#HC, ⟨HI, HR⟩, Hk⟩
  iapply (hf k Φ)
  isplitr; · iexact HC
  isplitl [HI]; · iexact HI
  iintro HJ
  iapply Hk
  isplitl [HJ] <;> iassumption

theorem Tr.id : Tr C c I (fun k => k) I := by
  intro k Φ
  iintro ⟨-, HI, Hk⟩
  iapply Hk $$ HI

theorem bigSep_fin_next {n : ℕ} (Φ : Fin (n + 1) → sProp 𝕄) :
    bigSep Finset.univ Φ = iprop(Φ 0 ∗ bigSep Finset.univ (fun i : Fin n => Φ i.succ)) := by
  rw [Fin.univ_succ, Finset.cons_eq_insert, BI.bigSep_insert (by simp [Fin.succ_ne_zero]), BI.bigSep_map]
  rfl

/-- A repeated piece: `T` is threaded, iteration `i` uses up `R i` and leaves `Q i`. -/
theorem Tr.each : (n : ℕ) → (T : ℕ → sProp 𝕄) → (R Q : Fin n → sProp 𝕄) → (f : Fin n → PU F → PU F) →
    (∀ i : Fin n, Tr C c iprop(T i.val ∗ R i) (f i) iprop(T (i.val + 1) ∗ Q i)) →
    Tr C c iprop(T 0 ∗ bigSep Finset.univ R) (each n f) iprop(T n ∗ bigSep Finset.univ Q)
  | 0, T, R, Q, f, h => by
    rw [show (Finset.univ : Finset (Fin 0)) = ∅ from rfl, BI.bigSep_empty, BI.bigSep_empty]
    exact Tr.id
  | n + 1, T, R, Q, f, h => by
    have ih := Tr.each n (fun i => T (i + 1)) (fun i => R i.succ) (fun i => Q i.succ) (fun i => f i.succ) (fun i => h i.succ)
    rw [bigSep_fin_next, bigSep_fin_next]
    have h0 := (h 0).frame (bigSep Finset.univ (fun i : Fin n => R i.succ))
    have h1 := ih.frame (Q 0)
    refine ((h0.comp (h1.mono ?_ .rfl)).mono ?_ ?_ : Tr C c _ (fun k => f 0 (Ring.each n (fun i => f i.succ) k)) _)
    · show iprop((T 1 ∗ Q 0) ∗ bigSep Finset.univ (fun i : Fin n => R i.succ)) ⊢ iprop((T (0 + 1) ∗ bigSep Finset.univ (fun i : Fin n => R i.succ)) ∗ Q 0)
      iintro ⟨⟨H, HQ⟩, HR⟩
      isplitr [HQ]
      · isplitl [H] <;> iassumption
      iexact HQ
    · show iprop(T 0 ∗ R 0 ∗ bigSep Finset.univ (fun i : Fin n => R i.succ)) ⊢ iprop((T 0 ∗ R 0) ∗ bigSep Finset.univ (fun i : Fin n => R i.succ))
      iintro ⟨H, HR, HS⟩
      isplitr [HS]
      · isplitl [H] <;> iassumption
      iexact HS
    · show iprop((T (n + 1) ∗ bigSep Finset.univ (fun i : Fin n => Q i.succ)) ∗ Q 0) ⊢ iprop(T (n + 1) ∗ Q 0 ∗ bigSep Finset.univ (fun i : Fin n => Q i.succ))
      iintro ⟨⟨H, HQ⟩, HR⟩
      isplitl [H]; · iexact H
      isplitl [HR] <;> iassumption

end Tr

end Cert.Ring
-- ==== Proof.Setup.lean ====
/- The program's operands, each device's place on the ring, and where each block of rows lies. -/
module

public import proofs.«01_k».proof.Proof.Own

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

attribute [local instance] Cert.KernelIdeal.Gen.facts

/-- The body's operands. -/
def A0 : Ops where
  tab := win0_0.stage 0
  x := win0_1.stage 0
  w := win0_2.stage 0
  out := Memref.whole main_v26
  acc d := bif d then Memref.whole cc0_scratch1 else Memref.whole cc0_scratch0
  hacc d := match d with | true => Memref.isWhole_whole _ | false => Memref.isWhole_whole _
  loc d := bif d then Memref.whole cc0_scratch3 else Memref.whole cc0_scratch2
  fin d := bif d then Memref.whole cc0_scratch5 else Memref.whole cc0_scratch4
  cp := cc0_scratch6
  rsS d := bif d then cc0_scratch9 else cc0_scratch7
  rsR d := bif d then cc0_scratch10 else cc0_scratch8
  agS d := bif d then cc0_scratch13 else cc0_scratch11
  agR d := bif d then cc0_scratch14 else cc0_scratch12
  cr d := bif d then cc0_scratch16 else cc0_scratch15

theorem chk3_all : ∀ c : Fin 16, k0_chk3 (lit0 c) := by decide +kernel

/-- The words device `c` finds in its table. -/
def W0 (c : Dev nD) : Words where
  v0 := lit0 c
  v1 := lit1 c
  v2 := lit2 c
  h0 := chk3_all c
  h1 := by revert c; decide +kernel
  h2 := by revert c; decide +kernel

/-- The neighbour a direction sends to, and the one it receives from. -/
def nx (d : Bool) (c : Dev nD) : Dev nD := Body.dst (W0 c) d
def pv (d : Bool) (c : Dev nD) : Dev nD := Body.src (W0 c) d

theorem pv_nx (d : Bool) (c : Dev nD) : pv d (nx d c) = c := by revert d c; decide +kernel
theorem nx_pv (d : Bool) (c : Dev nD) : nx d (pv d c) = c := by revert d c; decide +kernel
/-- A direction as a permutation of the devices. -/
def ringE (d : Bool) : Dev nD ≃ Dev nD := ⟨nx d, pv d, pv_nx d, nx_pv d⟩

/-- A device's place on the ring. -/
def pos (c : Dev nD) : ℕ := (lit0 c).toNat

/-- The block of 512 rows a direction carries at step `t`. -/
def blk (c : Dev nD) (d : Bool) (t : ℕ) : ℕ := (bif d then pos c + t else pos c + 32 - t) % 16

theorem xOff_eq (c : Dev nD) (d : Bool) (s : Fin 15) : Body.xOff (W0 c) d s = ![512 * blk c d (s.val + 1) + 256 * d.toNat, 0] := by
  revert c d s; decide +kernel
theorem xOff0_eq (c : Dev nD) (d : Bool) : Body.xOff0 (W0 c) d = ![512 * blk c d 0 + 256 * d.toNat, 0] := by
  revert c d; decide +kernel
theorem oOff_eq (c : Dev nD) (d : Bool) (t : Fin 16) (q : Fin 4) : Body.oOff (W0 c) d t q = ![512 * blk c d t.val + 256 * d.toNat + 64 * q.val, 0] := by
  revert c d t q; decide +kernel
theorem blk_nx (c : Dev nD) (d : Bool) (t : Fin 16) : blk (nx d c) d (t.val + 1) = blk c d t.val := by revert c d t; decide +kernel
theorem blk_nx15 (c : Dev nD) (d : Bool) : blk (nx d c) d 0 = blk c d 15 := by revert c d; decide +kernel

/-- Devices told apart by their blocks. -/
theorem blk_inj (c : Dev nD) (d : Bool) (t t' : Fin 16) (h : blk c d t.val = blk c d t'.val) : t = t' := by
  revert c d t t'; decide +kernel
theorem blk_lt (c : Dev nD) (d : Bool) (t : ℕ) : blk c d t < 16 := Nat.mod_lt _ (by decide)
theorem blk_surj (c : Dev nD) (d : Bool) (b : Fin 16) : ∃ t : Fin 16, blk c d t.val = b.val := by
  revert c d b; decide +kernel

/-! ## The semaphores -/

/-- A device's semaphores: the four 15 × 4 arrays (`0`, `1`: sum phase, send and receive; `2`, `3`: gather phase) in
    each direction, the local copies', the credits'. -/
abbrev CO : Type := (Fin 4 × Bool × Fin 15 × Fin 4) ⊕ ((Bool × Fin 4) ⊕ Bool)

abbrev rsS (d : Bool) (s : Fin 15) (q : Fin 4) : CO := .inl (0, d, s, q)
abbrev rsR (d : Bool) (s : Fin 15) (q : Fin 4) : CO := .inl (1, d, s, q)
abbrev agS (d : Bool) (s : Fin 15) (q : Fin 4) : CO := .inl (2, d, s, q)
abbrev agR (d : Bool) (s : Fin 15) (q : Fin 4) : CO := .inl (3, d, s, q)
abbrev cpC (d : Bool) (q : Fin 4) : CO := .inr (.inl (d, q))
abbrev crC (d : Bool) : CO := .inr (.inr d)

def arr (k : Fin 4) (d : Bool) : DmaSems sig S15x4 := ![A0.rsS d, A0.rsR d, A0.agS d, A0.agR d] k

def osem : CO → SemLoc sig
  | .inl (k, d, s, q) => .dma (Ops.semAt (arr k d) s q)
  | .inr (.inl (d, q)) => .dma (A0.cpAt d q)
  | .inr (.inr d) => .reg (A0.cr d).sem

/-- A DMA semaphore's number, and a regular one's from 1000 on. -/
def semNo : SemLoc sig → ℕ
  | .dma s => s.val
  | .reg s => 1000 + s.val

def baseNo (k : Fin 4) (d : Bool) : ℕ := ![![11, 131], ![71, 191], ![251, 371], ![311, 431]] k (bif d then 1 else 0)

theorem no_arr (k : Fin 4) (d : Bool) (s : Fin 15) (q : Fin 4) : semNo (osem (.inl (k, d, s, q))) = baseNo k d + 4 * s.val + q.val := by
  revert k d s q; decide +kernel
theorem no_cp (d : Bool) (q : Fin 4) : semNo (osem (cpC d q)) = 3 + 4 * d.toNat + q.val := by revert d q; decide +kernel
theorem no_cr (d : Bool) : semNo (osem (crC d)) = 1000 + d.toNat := by revert d; decide +kernel
theorem no_bar : semNo (.reg barSem) = 1002 := by decide +kernel

/-- The index behind a number. -/
theorem no_lt (i : CO) : 3 ≤ semNo (osem i) ∧ semNo (osem i) < 1002 := by
  rcases i with ⟨k, d, s, q⟩ | ⟨d, q⟩ | d
  · rw [no_arr]; have : 11 ≤ baseNo k d ∧ baseNo k d ≤ 431 := by revert k d; decide
    omega
  · rw [no_cp]; have : d.toNat ≤ 1 := by cases d <;> decide
    omega
  · rw [no_cr]; have : d.toNat ≤ 1 := by cases d <;> decide
    omega

theorem base_ge (k : Fin 4) (d : Bool) : 11 ≤ baseNo k d := by revert k d; decide
theorem base_le (k : Fin 4) (d : Bool) : baseNo k d ≤ 431 := by revert k d; decide

theorem osem_inj : Function.Injective osem := by
  intro i j h
  have h := congrArg semNo h
  rcases i with ⟨k, d, s, q⟩ | ⟨d, q⟩ | d <;> rcases j with ⟨k', d', s', q'⟩ | ⟨d', q'⟩ | d'
  · rw [no_arr, no_arr] at h
    have hb : ∀ (k k' : Fin 4) (d d' : Bool), (k = k' ∧ d = d') ∨ baseNo k d + 60 ≤ baseNo k' d' ∨ baseNo k' d' + 60 ≤ baseNo k d := by decide
    have := s.isLt; have := s'.isLt; have := q.isLt; have := q'.isLt
    rcases hb k k' d d' with ⟨rfl, rfl⟩ | hb | hb
    · have h1 : s = s' := Fin.ext (by omega)
      have h2 : q = q' := Fin.ext (by omega)
      rw [h1, h2]
    · omega
    · omega
  · rw [no_arr, no_cp] at h
    have := base_ge k d
    have : d'.toNat ≤ 1 := by cases d' <;> decide
    omega
  · rw [no_arr, no_cr] at h
    have := base_le k d
    omega
  · rw [no_arr, no_cp] at h
    have := base_ge k' d'
    have : d.toNat ≤ 1 := by cases d <;> decide
    omega
  · rw [no_cp, no_cp] at h
    have h3 : d.toNat = d'.toNat ∧ q.val = q'.val := by
      have : d.toNat ≤ 1 := by cases d <;> decide
      have : d'.toNat ≤ 1 := by cases d' <;> decide
      omega
    have h1 : d = d' := by revert h3; cases d <;> cases d' <;> simp
    have h2 : q = q' := Fin.ext h3.2
    rw [h1, h2]
  · rw [no_cp, no_cr] at h
    have : d.toNat ≤ 1 := by cases d <;> decide
    omega
  · rw [no_arr, no_cr] at h
    have := base_le k' d'
    omega
  · rw [no_cp, no_cr] at h
    have : d'.toNat ≤ 1 := by cases d' <;> decide
    omega
  · rw [no_cr, no_cr] at h
    have h1 : d = d' := by revert h; cases d <;> cases d' <;> simp
    rw [h1]

theorem osem_ne_bar (i : CO) : osem i ≠ .reg barSem := fun h => by
  have := no_lt i; rw [h, no_bar] at this; omega

theorem dec_osem (i : CO) : Function.partialInv osem (osem i) = some i := Function.partialInv_left osem_inj i

/-- A device's cell. -/
abbrev cell (c : Dev nD) (i : CO) : GSem nD τ sig := ((c : Thread nD τ), osem i)
abbrev barCell (c : Dev nD) : GSem nD τ sig := ((c : Thread nD τ), .reg barSem)

theorem ownSemFacts : Pipeline.OwnSemFacts spec0 osem where
  isScoped i := by
    rcases i with ⟨k, d, s, q⟩ | ⟨d, q⟩ | d
    · revert k d s q; decide +kernel
    · revert d q; decide +kernel
    · revert d; decide +kernel
  inj := osem_inj
  disj i w j h := by
    have hw : ∀ (w : Fin 3) (j : Fin (spec0 w).nbuf), semNo (.dma ((spec0 w).sem j)) < 3 := by decide
    have := no_lt i; rw [h] at this; have := hw w j; omega

end Cert.Ring
-- ==== Proof.Sched.lean ====
/- What every buffer holds at every step, the schedule of the semaphores' rounds, and what each device owes. -/
module

public import proofs.«01_k».proof.Proof.Setup

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

attribute [local instance] Cert.KernelIdeal.Gen.facts

local notation "𝕄" => MT nD τ sig ℕ (Elt F) ℕ UU ℕ

/-! ## Contents -/

section Contents

variable (X : Dev nD → S8192x512.Idx → Elt F .bf16) (Y : Dev nD → S512x4096.Idx → Elt F .bf16)

/-- The rows a direction multiplies at step `s`, and the right operand as the body loads it. -/
def xRows (d : Bool) (s : Fin 15) (c : Dev nD) : S256x512.Idx → Elt F .bf16 :=
  fun y => X c ((Rect.unit (s := S8192x512) (Body.xOff (W0 c) d s) S256x512.size (Body.xOff_inb (W0 c) d s)).emb y)
def xRows0 (d : Bool) (c : Dev nD) : S256x512.Idx → Elt F .bf16 :=
  fun y => X c ((Rect.unit (s := S8192x512) (Body.xOff0 (W0 c) d) S256x512.size (Body.xOff0_inb (W0 c) d)).emb y)
def wAll (c : Dev nD) : S512x4096.Idx → Elt F .bf16 :=
  fun y => Y c ((Rect.unit (s := S512x4096) ![0, 0] S512x4096.size inb_S512x4096_S512x4096_0_0).emb y)

/-- The first product, and the product of step `s`. -/
def acc0 (d : Bool) (c : Dev nD) : S1x256x4096.Idx → Elt F .bf16 := k0_pay1 (xRows0 X d c) (wAll Y c)
def locV (d : Bool) (s : Fin 15) (c : Dev nD) : S256x4096.Idx → Elt F .f32 := k0_pay16 (xRows X d s c) (wAll Y c)

theorem inbQ1 (q : Fin 4) : ∀ i, (![0, 64 * q.val, 0] : Fin 3 → Nat) i + S1x64x4096.size i ≤ S1x256x4096.size i := by
  revert q; decide

/-- Quarter `q` of a local product. -/
def locQ (d : Bool) (s : Fin 15) (q : Fin 4) (c : Dev nD) : S64x4096.Idx → Elt F .f32 := fun y => locV X Y d s c ((Ops.qRect q).emb y)

/-- A finished quarter's shape, with the slot's leading axis and without it. -/
abbrev unsqQ (f : S64x4096.Idx → Elt F .bf16) : S1x64x4096.Idx → Elt F .bf16 :=
  unsq (r := Rect.unit (s := S4x256x4096) ![0, 0, 0] S1x64x4096.size (by decide)) squeezes_S1x64x4096_S64x4096 f
abbrev sqQ (f : S1x64x4096.Idx → Elt F .bf16) : S64x4096.Idx → Elt F .bf16 :=
  sq (r := Rect.unit (s := S4x256x4096) ![0, 0, 0] S1x64x4096.size (by decide)) squeezes_S1x64x4096_S64x4096 f

/-- What send `s` of the direction carries from device `c`. -/
def sentV (d : Bool) (q : Fin 4) : ℕ → Dev nD → S64x4096.Idx → Elt F .bf16
  | 0, c => sqQ fun y => acc0 X Y d c ((Rect.unit (s := S1x256x4096) ![0, 64 * q.val, 0] S1x64x4096.size (inbQ1 q)).emb y)
  | s + 1, c => sqQ (k0_pay10 (unsqQ (sentV d q s (pv d c))) (locQ X Y d (Fin.ofNat 15 s) q c))

/-- The finished quarter the direction makes on device `c`. -/
def finV (d : Bool) (q : Fin 4) (c : Dev nD) : S64x4096.Idx → Elt F .f32 :=
  k0_pay182 (unsqQ (sentV X Y d q 14 (pv d c))) (locQ X Y d 14 q c)

/-- What gather step `t` brings to device `c`. -/
def gotV (d : Bool) (q : Fin 4) : ℕ → Dev nD → S64x4096.Idx → Elt F .f32
  | 0, c => finV X Y d q (pv d c)
  | t + 1, c => gotV d q t (pv d c)

/-- The result's quarter of step `t`, at the end. -/
def outV (d : Bool) (t : Fin 16) (q : Fin 4) (c : Dev nD) : S64x4096.Idx → Elt F .f32 :=
  if t.val = 15 then finV X Y d q c else gotV X Y d q t.val c

end Contents

/-- Quarter `q` of the direction's half at gather step `t`, in device `c`'s naming. -/
abbrev oQ (c : Dev nD) (d : Bool) (t : Fin 16) (q : Fin 4) : Memref sig .tc .hbm S64x4096 .f32 := Body.outQ A0 (W0 c) d t q

theorem outQ_congr {A : Ops} {W W' : Words} {d d' : Bool} {t t' : Fin 16} {q q' : Fin 4} (h : Body.oOff W d t q = Body.oOff W' d' t' q') (e : Dev nD) (sh : PosShare TreeShare)
    (f : S64x4096.Idx → Elt F .f32) : (Own (Body.outQ A W d t q) e sh f : sProp 𝕄) = Own (Body.outQ A W' d' t' q') e sh f := by
  have key : ∀ (o o' : Fin 2 → ℕ) (h₁ : ∀ a, o a + S64x4096.size a ≤ S8192x4096.size a) (h₂ : ∀ a, o' a + S64x4096.size a ≤ S8192x4096.size a), o = o' →
      (Own (A.out.slice (Rect.unit (s := S8192x4096) o S64x4096.size h₁) (fun _ => rfl)) e sh f : sProp 𝕄)
        = Own (A.out.slice (Rect.unit (s := S8192x4096) o' S64x4096.size h₂) (fun _ => rfl)) e sh f := by
    intro o o' h₁ h₂ h; subst h; rfl
  exact key _ _ _ _ h

/-- The neighbour's name of the place step `t` is sent on to. -/
theorem oQ_next (c : Dev nD) (d : Bool) (t : Fin 15) (q : Fin 4) (e : Dev nD) (sh : PosShare TreeShare) (f : S64x4096.Idx → Elt F .f32) :
    (Own (oQ (nx d c) d t.succ q) e sh f : sProp 𝕄) = Own (oQ c d t.castSucc q) e sh f :=
  outQ_congr (by rw [oOff_eq, oOff_eq]; have := blk_nx c d t.castSucc; rw [show (t.succ : Fin 16).val = (t.castSucc : Fin 16).val + 1 from rfl, this]) e sh f
theorem oQ_first (c : Dev nD) (d : Bool) (q : Fin 4) (e : Dev nD) (sh : PosShare TreeShare) (f : S64x4096.Idx → Elt F .f32) :
    (Own (oQ (nx d c) d 0 q) e sh f : sProp 𝕄) = Own (oQ c d 15 q) e sh f :=
  outQ_congr (by rw [oOff_eq, oOff_eq]; have := blk_nx15 c d; rw [show ((0 : Fin 16)).val = 0 from rfl, show ((15 : Fin 16)).val = 15 from rfl, this]) e sh f

/-! ## The schedule -/

/-- What a quarter of partial sums, and a quarter of results, count on a semaphore. -/
def Nrs : ℕ := (A0.slot false 0 0).view.dmaCredit
def Nag : ℕ := (A0.finQ false 0).view.dmaCredit
theorem Nrs_pos : 0 < Nrs := View.dmaCredit_pos _ (by decide)
theorem Nag_pos : 0 < Nag := View.dmaCredit_pos _ (by decide)
theorem Nrs_eq (d : Bool) (a q : Fin 4) : (A0.slot d a q).view.dmaCredit = Nrs := by cases d <;> rfl
theorem Nag_fin (d : Bool) (q : Fin 4) : (A0.finQ d q).view.dmaCredit = Nag := by cases d <;> rfl
theorem Nag_out (c : Dev nD) (d : Bool) (t : Fin 16) (q : Fin 4) : (oQ c d t q).view.dmaCredit = Nag := rfl

/-- The slot's key on device `c` for arrival `s`. -/
abbrev key (c : Dev nD) (d : Bool) (s : Fin 15) (q : Fin 4) : Key := (c, d, s, q)

/-- Arrival `n / 4 + 3`, quarter `n % 4`: what the `n`-th unit of credit frees. -/
abbrev freed (c : Dev nD) (d : Bool) (n : ℕ) : Key := (c, d, Fin.ofNat 15 (n / 4 + 3), slotOf n)

/-- The first three arrivals. -/
abbrev c3 (x : Fin 3) : Fin 15 := x.castLE (by decide)

section Sched

variable (X : Dev nD → S8192x512.Idx → Elt F .bf16) (Y : Dev nD → S512x4096.Idx → Elt F .bf16)

/-- Paid to device `c`'s barrier for direction `d`, by the neighbour it sends to: that the neighbour's cells are open, its first
    three slots free, and its rows of the result. -/
def barPay (c : Dev nD) (d : Bool) : sProp 𝕄 :=
  iprop((bigSep Finset.univ fun i : CO => reached ER (cell (nx d c) i) 0)
    ∗ (bigSep Finset.univ fun x : Fin 3 × Fin 4 => released ES (key (nx d c) d (c3 x.1) x.2) 1)
    ∗ (bigSep Finset.univ fun x : Fin 15 × Fin 4 => iprop(∃ f, Own (oQ (nx d c) d x.1.castSucc x.2) (nx d c) fullShare f)))

/-- Paid to device `c`'s own cells. -/
def pay (c : Dev nD) : CO → ℕ → sProp 𝕄
  | .inl (k, d, s, q), _ => match k with
    | 0 => Own (A0.slot d (slotOf s) q) c fullShare (sentV X Y d q s c)
    | 1 => Own (A0.slot d (slotOf (s + 1)) q) c fullShare (sentV X Y d q s (pv d c))
    | 2 => if s.val = 0 then Own (A0.finQ d q) c fullShare.left (finV X Y d q c)
      else Own (oQ c d ⟨s.val - 1, by omega⟩ q) c fullShare (gotV X Y d q (s.val - 1) c)
    | 3 => Own (oQ c d s.castSucc q) c fullShare (gotV X Y d q s c)
  | .inr (.inl (d, q)), _ => iprop(Own (oQ c d 15 q) c fullShare (finV X Y d q c) ∗ Own (A0.finQ d q) c fullShare.right (finV X Y d q c))
  | .inr (.inr d), n => bigSep (Finset.range (n + 1)) fun i => released ES (freed (nx d c) d i) 1

instance barPay_storable (c : Dev nD) (d : Bool) : BI.Storable (upEmb : UEmb _ 𝕄) (barPay c d) := by unfold barPay; infer_instance
instance pay_storable (c : Dev nD) (i : CO) (n : ℕ) : BI.Storable (upEmb : UEmb _ 𝕄) (pay X Y c i n) := by
  rcases i with ⟨k, d, s, q⟩ | ⟨d, q⟩ | d
  · unfold pay; fin_cases k
    · dsimp only; infer_instance
    · dsimp only; infer_instance
    · dsimp only; split <;> infer_instance
    · dsimp only; infer_instance
  · unfold pay; infer_instance
  · unfold pay; infer_instance

def dut : CO → Finset ℕ
  | .inl _ => {0}
  | .inr (.inl _) => {0}
  | .inr (.inr _) => Finset.range 48
def amt : CO → ℕ
  | .inl (k, _) => if k.val < 2 then Nrs else Nag
  | .inr (.inl _) => Nag
  | .inr (.inr _) => 1
theorem amt_pos (i : CO) : 0 < amt i := by
  rcases i with ⟨k, d, s, q⟩ | ⟨d, q⟩ | d
  · unfold amt; dsimp only; split
    · exact Nrs_pos
    · exact Nag_pos
  · exact Nag_pos
  · exact Nat.one_pos

/-- One round: a DMA cell's one transfer, a credit cell's 48 units, the barrier's two. -/
def Rd : Rounds.Schedule (GSem nD τ sig) ℕ 𝕄 where
  duties g r := if r = 0 ∧ g.1.2 = .tc then
      (if g.2 = .reg barSem then {0, 1} else match Function.partialInv osem g.2 with | some i => dut i | none => ∅) else ∅
  unitless _ := False
  amount g _ _ := if g.2 = .reg barSem then 1 else match Function.partialInv osem g.2 with | some i => amt i | none => 1
  payload g _ n := if g.2 = .reg barSem then barPay g.1.1 (n == 1) else match Function.partialInv osem g.2 with | some i => pay X Y g.1.1 i n | none => iprop(emp)
  amount_pos g _ _ _ := by
    split
    · exact Nat.one_pos
    · split
      · exact amt_pos _
      · exact Nat.one_pos

instance Rd_storable (g : GSem nD τ sig) (r n : ℕ) : BI.Storable (upEmb : UEmb _ 𝕄) ((Rd X Y).payload g r n) := by
  unfold Rd; dsimp only
  split
  · infer_instance
  · split <;> infer_instance

variable (c : Dev nD) (i : CO)

theorem duties_cell : (Rd X Y).duties (cell c i) 0 = dut i := by
  dsimp only [Rd]; rw [if_pos ⟨rfl, rfl⟩, if_neg (osem_ne_bar i), dec_osem]
theorem duties_bar : (Rd X Y).duties (barCell c) 0 = {0, 1} := by
  dsimp only [Rd]; rw [if_pos ⟨rfl, rfl⟩, if_pos rfl]
theorem duties_later (g : GSem nD τ sig) : ∀ r, 1 ≤ r → (Rd X Y).duties g r = ∅ :=
  fun r hr => by dsimp only [Rd]; rw [if_neg (fun h => by omega)]
theorem amount_cell (n : ℕ) : (Rd X Y).amount (cell c i) 0 n = amt i := by
  dsimp only [Rd]; rw [if_neg (osem_ne_bar i), dec_osem]
theorem amount_bar (n : ℕ) : (Rd X Y).amount (barCell c) 0 n = 1 := by
  dsimp only [Rd]; rw [if_pos rfl]
theorem payload_cell (n : ℕ) : (Rd X Y).payload (cell c i) 0 n = pay X Y c i n := by
  dsimp only [Rd]; rw [if_neg (osem_ne_bar i), dec_osem]
theorem payload_bar (d : Bool) : (Rd X Y).payload (barCell c) 0 d.toNat = barPay c d := by
  dsimp only [Rd]; rw [if_pos rfl]; cases d <;> rfl

theorem expect_bar : (Rd X Y).expect (barCell c) 0 = 2 := by
  unfold Schedule.expect Schedule.amountOf; rw [duties_bar]
  rw [Finset.sum_pair (by decide), amount_bar, amount_bar]
theorem rest_bar : bigSep ((Rd X Y).duties (barCell c) 0 \ ∅) (fun u => (Rd X Y).payload (barCell c) 0 u) = iprop(barPay c false ∗ barPay c true) := by
  rw [Finset.sdiff_empty, duties_bar, bigSep_insert (by decide), bigSep_singleton]
  exact congrArg₂ BIBase.sep (payload_bar X Y c false) (payload_bar X Y c true)
/-- A cell with one transfer. -/
theorem expect_one (h : dut i = {0}) : (Rd X Y).expect (cell c i) 0 = amt i := by
  unfold Schedule.expect Schedule.amountOf; rw [duties_cell, h, Finset.sum_singleton, amount_cell]
theorem rest_one (h : dut i = {0}) : bigSep ((Rd X Y).duties (cell c i) 0 \ ∅) (fun u => (Rd X Y).payload (cell c i) 0 u) = pay X Y c i 0 := by
  rw [Finset.sdiff_empty, duties_cell, h, bigSep_singleton, payload_cell]
theorem expect_cr (d : Bool) : (Rd X Y).expect (cell c (crC d)) 0 = 48 := by
  unfold Schedule.expect Schedule.amountOf; rw [duties_cell]
  rw [Finset.sum_congr rfl (fun n _ => amount_cell X Y c (crC d) n)]
  show ∑ n ∈ Finset.range 48, 1 = 48
  rw [Finset.sum_const, Finset.card_range]; rfl

end Sched

/-! ## What a device owes -/

/-- The payments of a device: the two barrier units, the sends of the sum phase, the credits, the sends of the gather phase. -/
abbrev P : Type := (Bool ⊕ (Bool × Fin 15 × Fin 4)) ⊕ ((Bool × Fin 12 × Fin 4) ⊕ (Bool × Fin 15 × Fin 4))
abbrev pBar (d : Bool) : P := .inl (.inl d)
abbrev pRs (d : Bool) (s : Fin 15) (q : Fin 4) : P := .inl (.inr (d, s, q))
abbrev pCr (d : Bool) (s : Fin 12) (q : Fin 4) : P := .inr (.inl (d, s, q))
abbrev pAg (d : Bool) (s : Fin 15) (q : Fin 4) : P := .inr (.inr (d, s, q))

/-- Where a payment goes. -/
def pdev (c : Dev nD) : P → Dev nD
  | .inl (.inl d) => pv d c
  | .inl (.inr (d, _)) => nx d c
  | .inr (.inl (d, _)) => pv d c
  | .inr (.inr (d, _)) => nx d c
def psem : P → SemLoc sig
  | .inl (.inl _) => .reg barSem
  | .inl (.inr (d, s, q)) => osem (rsR d s q)
  | .inr (.inl (d, _)) => osem (crC d)
  | .inr (.inr (d, s, q)) => osem (agR d s q)
/-- When it is made. -/
def ppos : P → ℕ
  | .inl (.inl d) => d.toNat
  | .inl (.inr (d, s, q)) => if s.val = 0 then 2 + 4 * d.toNat + q.val else 10 + 16 * (s.val - 1) + 2 * q.val + d.toNat
  | .inr (.inl (d, s, q)) => 18 + 16 * s.val + 2 * q.val + d.toNat
  | .inr (.inr (d, s, q)) => 234 + 8 * s.val + 2 * q.val + d.toNat
/-- Its level. -/
def plv : P → ℕ
  | .inl (.inl _) => 1
  | .inl (.inr x) => ppos (.inl (.inr x)) + 1
  | .inr x => ppos (.inr x) + 1
def pamt : P → ℕ
  | .inl (.inl _) => 1
  | .inl (.inr _) => Nrs
  | .inr (.inl _) => 1
  | .inr (.inr _) => Nag

abbrev ptally (c : Dev nD) (p : P) : CellTallies nD τ sig ℕ := tallyAt ((pdev c p : Thread nD τ), psem p) (plv p) (pamt p)

/-- What is owed before the `k`-th payment. -/
def owe (c : Dev nD) (k : ℕ) : CellTallies nD τ sig ℕ := ∑ p ∈ Finset.univ.filter (fun p : P => k ≤ ppos p), ptally c p

theorem toNat_le (d : Bool) : d.toNat ≤ 1 := by cases d <;> decide
theorem toNat_inj {d d' : Bool} (h : d.toNat = d'.toNat) : d = d' := by revert h; cases d <;> cases d' <;> simp

theorem ppos_inj : Function.Injective ppos := by
  intro p p' h
  rcases p with (d | ⟨d, s, q⟩) | (⟨d, s, q⟩ | ⟨d, s, q⟩) <;> rcases p' with (d' | ⟨d', s', q'⟩) | (⟨d', s', q'⟩ | ⟨d', s', q'⟩) <;>
    dsimp only [ppos] at h <;> have h1 := toNat_le d <;> have h2 := toNat_le d'
  all_goals try have := s.isLt
  all_goals try have := s'.isLt
  all_goals try have := q.isLt
  all_goals try have := q'.isLt
  all_goals try split at h
  all_goals try split at h
  all_goals try (exfalso; omega)
  · rw [toNat_inj h]
  all_goals
    have e1 : d.toNat = d'.toNat ∧ s.val = s'.val ∧ q.val = q'.val := by omega
    rw [toNat_inj e1.1, Fin.ext e1.2.1, Fin.ext e1.2.2]

theorem ppos_le (p : P) : ppos p < 354 := by
  rcases p with (d | ⟨d, s, q⟩) | (⟨d, s, q⟩ | ⟨d, s, q⟩) <;> dsimp only [ppos] <;> have h1 := toNat_le d
  · omega
  all_goals have := s.isLt; have := q.isLt
  all_goals try split
  all_goals omega

theorem owe_take (c : Dev nD) (p : P) : owe c (ppos p) = owe c (ppos p + 1) + ptally c p := by
  unfold owe
  rw [show (Finset.univ.filter fun x : P => ppos p ≤ ppos x) = insert p (Finset.univ.filter fun x : P => ppos p + 1 ≤ ppos x) from ?_,
    Finset.sum_insert (by simp), add_comm]
  ext x
  simp only [Finset.mem_filter, Finset.mem_univ, true_and, Finset.mem_insert]
  constructor
  · intro h
    rcases Nat.eq_or_lt_of_le h with h | h
    · exact .inl (ppos_inj h.symm)
    · exact .inr h
  · rintro (rfl | h) <;> omega
theorem owe_gap (c : Dev nD) {k k' : ℕ} (hk : k ≤ k') (h : ∀ p, k ≤ ppos p → k' ≤ ppos p) : owe c k = owe c k' := by
  unfold owe; congr 1; ext x; simp only [Finset.mem_filter, Finset.mem_univ, true_and]
  exact ⟨h x, fun h => by omega⟩
theorem owe_end (c : Dev nD) : owe c 354 = 0 := by
  unfold owe
  rw [Finset.filter_false_of_mem (fun x _ => by have := ppos_le x; omega), Finset.sum_empty]

def L (g : GSem nD τ sig) : Finset ℕ := if g.1.2 = .tc then Finset.range 1000 else ∅
def lv (_ : GSem nD τ sig) (n : ℕ) : ℕ := n
theorem L_of_ne (g : GSem nD τ sig) (h : g.1.2 ≠ .tc) : L g = ∅ := if_neg h
theorem L_tc (c : Dev nD) (sm : SemLoc sig) : L ((c : Thread nD τ), sm) = Finset.range 1000 := if_pos rfl

theorem plv_le (p : P) : plv p < 1000 := by
  have := ppos_le p
  rcases p with (d | x) | x <;> dsimp only [plv] <;> omega
theorem plv_pos (p : P) : 0 < plv p := by
  rcases p with (d | x) | x <;> dsimp only [plv] <;> omega
theorem plv_gt {k : ℕ} (hk : 2 ≤ k) (p : P) (h : k ≤ ppos p) : k < plv p := by
  rcases p with (d | x) | x
  · have := toNat_le d; dsimp only [ppos] at h; omega
  · dsimp only [plv]; omega
  · dsimp only [plv]; omega

theorem owe_pos {c : Dev nD} {k : ℕ} {g : GSem nD τ sig} {n : ℕ} (h : 0 < owe c k g n) : ∃ p, k ≤ ppos p ∧ g = ((pdev c p : Thread nD τ), psem p) ∧ n = plv p := by
  by_contra hc
  have : owe c k g n = 0 := by
    unfold owe
    rw [Finset.sum_apply, Finsupp.finset_sum_apply]
    refine Finset.sum_eq_zero fun p hp => ?_
    rw [tallyAt_apply, if_neg]
    rintro ⟨h1, h2⟩
    exact hc ⟨p, (Finset.mem_filter.mp hp).2, h1, h2⟩
  omega

/-- A wait at level `n`, below everything still owed. -/
theorem mayWait (c : Dev nD) (sm : SemLoc sig) {n k : ℕ} (hn : n < 1000) (h : n = 0 ∨ (2 ≤ k ∧ n ≤ k)) :
    (levAts L lv : sProp 𝕄) ⊢ MayWait (c : Thread nD τ) sm n (owe c k) :=
  MayOwe.of_cut (L := L) (lev := lv) n (fun p hp => by rw [Finset.mem_singleton.mp hp, L_tc]; exact Finset.mem_range.mpr hn)
    (fun g u hg => by
      obtain ⟨p, -, rfl, rfl⟩ := owe_pos hg
      rw [L_tc]; exact Finset.mem_range.mpr (plv_le p))
    (fun p hp => by rw [Finset.mem_singleton.mp hp]; exact le_refl _)
    (fun g u hg => by
      obtain ⟨p, hp, rfl, rfl⟩ := owe_pos hg
      show n < plv p
      rcases h with rfl | ⟨h2, h3⟩
      · exact plv_pos p
      · exact lt_of_le_of_lt h3 (plv_gt h2 p hp))

end Cert.Ring
-- ==== Proof.Steps.lean ====
/- The single operations of the body, each on what it takes and what it leaves. -/
module

public import proofs.«01_k».proof.Proof.Sched

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

attribute [local instance] Cert.KernelIdeal.Gen.facts

local notation "𝕄" => MT nD τ sig ℕ (Elt F) ℕ UU ℕ

variable (X : Dev nD → S8192x512.Idx → Elt F .bf16) (Y : Dev nD → S512x4096.Idx → Elt F .bf16)
variable (κ : GSem nD τ sig → ℕ) (ιs : Key → ℕ)

/-! ## What every device may consult -/

/-- One of a family. -/
theorem el {ι : Type} [Fintype ι] (Φ : ι → SP F) (i : ι) : bigSep Finset.univ Φ ⊢ Φ i := by
  classical exact bigSep_elim (Finset.mem_univ i)

/-- A key's slot, at any contents. -/
def Sl (k : Key) : SP F := iprop(∃ f, Own (A0.slot k.2.1 (slotOf (k.2.2.1 + 1)) k.2.2.2) k.1 fullShare f)
instance Sl_storable (k : Key) : BI.Storable (upEmb : UEmb _ 𝕄) (Sl k) := by unfold Sl; infer_instance

theorem own_excl {sp : Space} {s : Shape} {e : EltTy} {m : Memref sig .tc sp s e} (hs : 0 < s.numel) {c : Dev nD} {f g : s.Idx → Elt F e} :
    iprop(Own m c fullShare f ∗ Own m c fullShare g) ⊢ (False : SP F) := by
  have hne : m.view.emb (Shape.Idx.first hs) ∈ m.view.set := View.emb_mem_set _ _
  unfold Own
  iintro ⟨⟨%a, -, Ha⟩, ⟨%b, -, Hb⟩⟩
  ihave H := (show iprop((m.view.loc (c : Thread nD τ) ↦[m.view.set]{fullShare} a) ∗ (m.view.loc (c : Thread nD τ) ↦[m.view.set]{fullShare} b)) ⊢ (⌜False⌝ : SP F)
    from pointsTo_full_full_false hne hne) $$ [Ha Hb]
  · isplitl [Ha] <;> iassumption
  icases H with %hf
  exact hf.elim

theorem Sl_excl (k : Key) : iprop(Sl k ∗ Sl k) ⊢ (False : SP F) := by
  unfold Sl
  iintro ⟨⟨%a, Ha⟩, ⟨%b, Hb⟩⟩
  iapply (own_excl (m := A0.slot k.2.1 (slotOf (k.2.2.1 + 1)) k.2.2.2) (c := k.1) (f := a) (g := b) (by decide))
  isplitl [Ha] <;> iassumption

/-- The invariants, the levels, and that every barrier cell is open. -/
def Inv : SP F :=
  iprop((bigSep Finset.univ fun x : Dev nD × CO => cellInv ER (Rd X Y) (κ (cell x.1 x.2)) (cell x.1 x.2))
    ∗ (bigSep Finset.univ fun c : Dev nD => cellInv ER (Rd X Y) (κ (barCell c)) (barCell c))
    ∗ (bigSep Finset.univ fun k : Key => slotInv ES (ιs k) k (Sl (F := F) k))
    ∗ (bigSep Finset.univ fun c : Dev nD => reached ER (barCell c) 0)
    ∗ levAts L lv)
instance Inv_persistent : BI.Persistent (Inv X Y κ ιs) := by unfold Inv; infer_instance

theorem Inv_cell (c : Dev nD) (i : CO) : Inv X Y κ ιs ⊢ cellInv ER (Rd X Y) (κ (cell c i)) (cell c i) := by
  unfold Inv
  iintro ⟨H, -⟩
  iapply (el (fun x : Dev nD × CO => (cellInv ER (Rd X Y) (κ (cell x.1 x.2)) (cell x.1 x.2) : SP F)) (c, i)) $$ H
theorem Inv_bar (c : Dev nD) : Inv X Y κ ιs ⊢ cellInv ER (Rd X Y) (κ (barCell c)) (barCell c) := by
  unfold Inv
  iintro ⟨-, H, -⟩
  iapply (el (fun c : Dev nD => (cellInv ER (Rd X Y) (κ (barCell c)) (barCell c) : SP F)) c) $$ H
theorem Inv_slot (k : Key) : Inv X Y κ ιs ⊢ slotInv ES (ιs k) k (Sl (F := F) k) := by
  unfold Inv
  iintro ⟨-, -, H, -⟩
  iapply (el (fun k : Key => (slotInv ES (ιs k) k (Sl (F := F) k) : SP F)) k) $$ H
theorem Inv_barReached (c : Dev nD) : Inv X Y κ ιs ⊢ reached ER (barCell c) 0 := by
  unfold Inv
  iintro ⟨-, -, -, H, -⟩
  iapply (el (fun c : Dev nD => (reached ER (barCell c) 0 : SP F)) c) $$ H
theorem Inv_lev : Inv X Y κ ιs ⊢ levAts L lv := by
  unfold Inv
  iintro ⟨-, -, -, -, H⟩; iexact H

/-- With that the device's own cells are open: what the body has before its barrier. -/
def Ctx1 (c : Dev nD) : SP F := iprop(Inv X Y κ ιs ∗ bigSep Finset.univ fun i : CO => reached ER (cell c i) 0)
instance Ctx1_persistent (c : Dev nD) : BI.Persistent (Ctx1 X Y κ ιs c) := by unfold Ctx1; infer_instance

/-- What the barrier tells of one neighbour. -/
def Told (c : Dev nD) (d : Bool) : SP F :=
  iprop((bigSep Finset.univ fun i : CO => reached ER (cell (nx d c) i) 0)
    ∗ (bigSep Finset.univ fun x : Fin 3 × Fin 4 => released ES (key (nx d c) d (c3 x.1) x.2) 1))
instance Told_persistent (c : Dev nD) (d : Bool) : BI.Persistent (Told (F := F) c d) := by unfold Told; infer_instance

/-- What it has after it. -/
def Ctx (c : Dev nD) : SP F := iprop(Ctx1 X Y κ ιs c ∗ Told c false ∗ Told c true)
instance Ctx_persistent (c : Dev nD) : BI.Persistent (Ctx X Y κ ιs c) := by unfold Ctx; infer_instance

theorem Ctx_inv (c : Dev nD) : Ctx X Y κ ιs c ⊢ Inv X Y κ ιs := by
  unfold Ctx Ctx1; iintro ⟨⟨H, -⟩, -⟩; iexact H
theorem Ctx_own (c : Dev nD) (i : CO) : Ctx X Y κ ιs c ⊢ reached ER (cell c i) 0 := by
  unfold Ctx Ctx1; iintro ⟨⟨-, H⟩, -⟩
  iapply (el (fun i : CO => (reached ER (cell c i) 0 : SP F)) i) $$ H
theorem Ctx_told (c : Dev nD) (d : Bool) : Ctx X Y κ ιs c ⊢ Told c d := by
  unfold Ctx; cases d
  · iintro ⟨-, H, -⟩; iexact H
  · iintro ⟨-, -, H⟩; iexact H
theorem Ctx_nx (c : Dev nD) (d : Bool) (i : CO) : Ctx X Y κ ιs c ⊢ reached ER (cell (nx d c) i) 0 := by
  refine (Ctx_told X Y κ ιs c d).trans ?_
  unfold Told; iintro ⟨H, -⟩
  iapply (el (fun i : CO => (reached ER (cell (nx d c) i) 0 : SP F)) i) $$ H
theorem pv_eq (d : Bool) (c : Dev nD) : pv d c = nx (!d) c := by cases d <;> rfl
theorem Ctx_pv (c : Dev nD) (d : Bool) (i : CO) : Ctx X Y κ ιs c ⊢ reached ER (cell (pv d c) i) 0 := by
  rw [pv_eq]; exact Ctx_nx X Y κ ιs c (!d) i
theorem Ctx_first (c : Dev nD) (d : Bool) (s : Fin 15) (hs : s.val ≤ 2) (q : Fin 4) : Ctx X Y κ ιs c ⊢ released ES (key (nx d c) d s q) 1 := by
  refine (Ctx_told X Y κ ιs c d).trans ?_
  unfold Told; iintro ⟨-, H⟩
  iapply (el (fun x : Fin 3 × Fin 4 => (released ES (key (nx d c) d (c3 x.1) x.2) 1 : SP F)) ((⟨s.val, by omega⟩ : Fin 3), q)) $$ H

/-- The device still to make its payments from the `k`-th on. -/
def OW (c : Dev nD) (k : ℕ) : SP F := iprop(∃ W, owes (c : Thread nD τ) (owe c k) W)

theorem OW_gap {c : Dev nD} {k k' : ℕ} (hk : k ≤ k') (h : ∀ p, k ≤ ppos p → k' ≤ ppos p) : (OW c k : SP F) = OW c k' := by
  unfold OW; rw [owe_gap c hk h]

set_option maxRecDepth 20000 in
theorem Ctx_mayWait (c : Dev nD) (sm : SemLoc sig) {n k : ℕ} (hn : n < 1000) (hk : n = 0 ∨ (2 ≤ k ∧ n ≤ k)) :
    Ctx X Y κ ιs c ⊢ (MayWait (c : Thread nD τ) sm n (owe c k) : SP F) := by
  have h1 : Ctx X Y κ ιs c ⊢ (levAts L lv : SP F) := (Ctx_inv X Y κ ιs c).trans (Inv_lev X Y κ ιs)
  have h2 : (levAts L lv : SP F) ⊢ (MayWait (c : Thread nD τ) sm n (owe c k) : SP F) := mayWait (F := F) (n := n) (k := k) c sm hn hk
  exact h1.trans h2

/-! ## Waits and transfers -/

/-- A wait for the one transfer of a cell. -/
theorem tr_wait {sp sp' : Space} {s s' : Shape} {e e' : EltTy} {src : Memref sig .tc sp s e} {dst : Memref sig .tc sp' s' e'} {c : Dev nD} {i : CO} {sm : DmaSem sig} {h : src.view.WordExact}
    {h' : dst.view.WordExact} (hi : osem i = .dma sm) (hd : dut i = {0}) (hN : dst.view.dmaCredit = amt i) (n k : ℕ) (hn : n < 1000)
    (hk : n = 0 ∨ (2 ≤ k ∧ n ≤ k)) :
    Tr (Ctx X Y κ ιs c) c iprop(OW c k ∗ atPos ER (cell c i) 0 ∅ 0 ∗ cred (tallyAt (cell c i) n (amt i)))
      (fun z => .op (.waitDma2 sm src dst h h') fun _ => z)
      iprop(OW c k ∗ atPos ER (cell c i) 1 ∅ 0 ∗ pay X Y c i 0) := by
  intro z Φ
  unfold OW
  iintro ⟨#HC, ⟨⟨%W, HO⟩, Hat, Hcr⟩, Hz⟩
  have hc : cell c i = ((c : Thread nD τ), SemLoc.dma sm) := by rw [cell, hi]
  have hexp : 0 + dst.view.dmaCredit = (Rd X Y).expect ((c : Thread nD τ), SemLoc.dma sm) 0 := by rw [← hc, expect_one X Y c i hd, hN, Nat.zero_add]
  have hrest := rest_one X Y c i hd
  rw [hc] at hrest ⊢
  rw [← hN]
  ihave Hmw := (Ctx_mayWait X Y κ ιs c (.dma sm) hn hk) $$ HC
  iapply (Rounds.wp_wait_rest_token 𝒱₀ ER (Rd X Y) (c : Thread nD τ) none (κ := κ (cell c i))
      (wpE_waitDma2_eq 𝒱₀ (c : Thread nD τ) none Set.univ) (Set.mem_univ _) n (O := owe c k) (W := W) (R := 0) (m := 0) (T := ∅) hexp) $$ [Hcr HO Hat Hmw]
  · isplitr
    · ihave H := (Ctx_inv X Y κ ιs c) $$ HC
      ihave H := (Inv_cell X Y κ ιs c i) $$ H
      rw [hc]; iexact H
    isplitl [Hcr]; · iexact Hcr
    isplitl [HO]; · iexact HO
    isplitl [Hmw]; · iexact Hmw
    iexact Hat
  iintro ⟨HO, Hat, -, Hp⟩
  ihave Hp := (Entails.of_eq hrest) $$ Hp
  iapply Hz
  isplitl [HO]; · iexists _; iexact HO
  isplitl [Hat] <;> iassumption

/-- A transfer to another device. -/
theorem tr_rsend {sp sp' : Space} {s : Shape} {e : EltTy} {src : Memref sig .tc sp s e} {dst : Memref sig .tc sp' s e} {c c' : Dev nD} {i j : CO} {sS sR : DmaSem sig} {hsc}
    {h : src.view.WordExact} {h' : dst.view.WordExact} {ht} {q : PosShare TreeShare} {f : s.Idx → Elt F e} (p : P)
    (hi : osem i = .dma sS) (hj : osem j = .dma sR) (hdi : dut i = {0}) (hdj : dut j = {0})
    (hN : dst.view.dmaCredit = amt j) (hij : amt i = amt j) (hp : pdev c p = c' ∧ psem p = osem j ∧ pamt p = amt j)
    (hpay₁ : Own src c q f ⊢ pay X Y c i 0) (hpay₂ : Own dst c' fullShare f ⊢ pay X Y c' j 0) :
    Tr iprop(Inv X Y κ ιs ∗ reached ER (cell c i) 0 ∗ reached ER (cell c' j) 0) c
      iprop(OW c (ppos p) ∗ Own src c q f ∗ (∃ g, Own dst c' fullShare g) ∗ dutyTok ER (cell c i) 0 0 ∗ dutyTok ER (cell c' j) 0 0)
      (fun z => .op (.enqueueDma src (.remote (Dev.tc c') dst (.dma sS) hsc) (.dma sR) h h' ht) fun _ => z)
      iprop(OW c (ppos p + 1) ∗ cred (tallyAt (cell c i) 0 (amt i))) := by
  intro z Φ
  unfold OW
  iintro ⟨⟨#HI, #Hri, #Hrj⟩, ⟨⟨%W, HO⟩, Hs, ⟨%g, Hd⟩, Ht, Ht'⟩, Hz⟩
  ihave #HIi := (Inv_cell X Y κ ιs c i) $$ HI
  ihave #HIj := (Inv_cell X Y κ ιs c' j) $$ HI
  have hpt : ptally c p = tallyAt (cell c' j) (plv p) (amt j) := by
    obtain ⟨h1, h2, h3⟩ := hp; rw [ptally, h1, h2, h3]
  have hci : cell c i = ((c : Thread nD τ), SemLoc.dma sS) := by rw [cell, hi]
  have hcj : cell c' j = ((c' : Thread nD τ), SemLoc.dma sR) := by rw [cell, hj]
  have hd₁ : 0 ∈ (Rd X Y).duties (cell c i) 0 := by rw [duties_cell, hdi]; exact Finset.mem_singleton_self _
  have hd₂ : 0 ∈ (Rd X Y).duties (cell c' j) 0 := by rw [duties_cell, hdj]; exact Finset.mem_singleton_self _
  have ha₁ := amount_cell X Y c i 0
  have ha₂ := amount_cell X Y c' j 0
  have hp₁ := payload_cell X Y c i 0
  have hp₂ := payload_cell X Y c' j 0
  have hO : owe c (ppos p) = owe c (ppos p + 1) + tallyAt (cell c' j) (plv p) (amt j) := by rw [owe_take, hpt]
  generalize κ (cell c i) = κ₁
  generalize κ (cell c' j) = κ₂
  rw [hij] at ha₁ ⊢
  rw [← hp₁] at hpay₁
  rw [← hp₂] at hpay₂
  generalize hgi : cell c i = gi at *
  generalize hgj : cell c' j = gj at *
  subst hci hcj
  unfold Own
  icases Hs with ⟨%a, %ha, Hs⟩
  icases Hd with ⟨%b, %hb, Hd⟩
  iapply (Rounds.wp_send_pointsTo 𝒱₀ ER (Rd X Y) (c : Thread nD τ) none (c' := (c' : Thread nD τ)) (src := src) (dst := dst)
      (sS := .dma sS) (sem := .dma sR) (q := q) (fs := a) (κ₁ := κ₁) (κ₂ := κ₂)
      (r₁ := 0) (r₂ := 0) (d₁ := 0) (d₂ := 0) (fd := b) hd₁ hd₂ (plv p) 0 (amt j) hN ha₁ ha₂ (owe c (ppos p + 1)) hO (W := W)
      (by subst ha; exact (own_intro a).trans hpay₁)
      (by refine (own_intro (m := dst) (c := c') (q := fullShare) _).trans ?_
          rw [read_write, ha]; exact hpay₂)) $$ [Hs Hd HO Ht Ht']
  · isplitr; · iexact HIi
    isplitr; · iexact HIj
    isplitl [Hs]; · iexact Hs
    isplitl [Hd]; · iexact Hd
    isplitl [HO]; · iexact HO
    isplitl [Ht]; · iexact Ht
    isplitr; · iexact Hri
    isplitl [Ht']; · iexact Ht'
    iexact Hrj
  iintro ⟨Hc, HO⟩
  iapply Hz
  isplitl [HO]; · iexists _; iexact HO
  iexact Hc

end Cert.Ring
-- ==== Proof.Leaf.lean ====
/- The operations of the sum phase: sends, receipts, additions and products. -/
module

public import proofs.«01_k».proof.Proof.Steps

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

attribute [local instance] Cert.KernelIdeal.Gen.facts

local notation "𝕄" => MT nD τ sig ℕ (Elt F) ℕ UU ℕ

variable (X : Dev nD → S8192x512.Idx → Elt F .bf16) (Y : Dev nD → S512x4096.Idx → Elt F .bf16)
variable (κ : GSem nD τ sig → ℕ) (ιs : Key → ℕ)

/-! ## What every device may consult -/

/-! ## The sum phase -/

/-- What a send of the sum phase uses up besides its slot: its two duties and its turn to write. -/
def sendRes (c : Dev nD) (d : Bool) (s : Fin 15) (q : Fin 4) : SP F :=
  iprop(dutyTok ER (cell c (rsS d s q)) 0 0 ∗ dutyTok ER (cell (nx d c) (rsR d s q)) 0 0 ∗ writeTok ES (key (nx d c) d s q) 1)

theorem Ctx_slot (c : Dev nD) (k : Key) : Ctx X Y κ ιs c ⊢ slotInv ES (ιs k) k (Sl (F := F) k) :=
  (Ctx_inv X Y κ ιs c).trans (Inv_slot X Y κ ιs k)

theorem tr_send (c : Dev nD) (d : Bool) (s : Fin 15) (q : Fin 4) :
    Tr (Ctx X Y κ ιs c) c
      iprop(OW c (ppos (pRs d s q)) ∗ Own (A0.slot d (slotOf s) q) c fullShare (sentV X Y d q s c) ∗ released ES (key (nx d c) d s q) 1 ∗ sendRes c d s q)
      (fun z => Body.send A0 (W0 c) d s q z)
      iprop(OW c (ppos (pRs d s q) + 1) ∗ cred (tallyAt (cell c (rsS d s q)) 0 Nrs)) := by
  intro z Φ
  unfold sendRes
  iintro ⟨#HC, ⟨HO, Hs, Hrel, Ht, Ht', Hw⟩, Hz⟩
  ihave #Hsl := (Ctx_slot X Y κ ιs c (key (nx d c) d s q)) $$ HC
  imod (slot_take (E := ES) (k := key (nx d c) d s q) (S := Sl (F := F) (key (nx d c) d s q)) (Es := Set.univ) (Set.mem_univ _) 1) $$ [Hrel Hw] with Hd
  · isplitr; · iexact Hsl
    isplitl [Hrel] <;> iassumption
  iapply (tr_rsend X Y κ ιs (c := c) (c' := nx d c) (i := rsS d s q) (j := rsR d s q) (sS := Ops.semAt (A0.rsS d) s q) (sR := Ops.semAt (A0.rsR d) s q)
    (q := fullShare) (f := sentV X Y d q s c) (pRs d s q) rfl rfl rfl rfl (Nrs_eq d _ q) rfl ⟨rfl, rfl, rfl⟩ .rfl
    (by show (Own (A0.slot d (slotOf (s + 1)) q) (nx d c) fullShare (sentV X Y d q s c) : SP F) ⊢ Own (A0.slot d (slotOf (s + 1)) q) (nx d c) fullShare (sentV X Y d q s (pv d (nx d c)))
        rw [pv_nx]) z Φ)
  isplitr
  · isplitr; · iapply (Ctx_inv X Y κ ιs c) $$ HC
    isplitr; · iapply (Ctx_own X Y κ ιs c (rsS d s q)) $$ HC
    iapply (Ctx_nx X Y κ ιs c d (rsR d s q)) $$ HC
  isplitr [Hz]
  · isplitl [HO]; · iexact HO
    isplitl [Hs]; · iexact Hs
    isplitl [Hd]; · unfold Sl; iexact Hd
    isplitl [Ht] <;> iassumption
  iexact Hz

theorem tr_recv (c : Dev nD) (d : Bool) (s : Fin 15) (q : Fin 4) (k : ℕ) (h2 : 2 ≤ k) (hk : ppos (pRs d s q) < k) :
    Tr (Ctx X Y κ ιs c) c
      iprop(OW c k ∗ atPos ER (cell c (rsR d s q)) 0 ∅ 0 ∗ cred (tallyAt (cell c (rsR d s q)) (plv (pRs d s q)) Nrs))
      (fun z => Body.recv A0 d s q z)
      iprop(OW c k ∗ atPos ER (cell c (rsR d s q)) 1 ∅ 0 ∗ Own (A0.slot d (slotOf (s + 1)) q) c fullShare (sentV X Y d q s (pv d c))) :=
  tr_wait X Y κ ιs (i := rsR d s q) rfl rfl (Nrs_eq d _ q) (plv (pRs d s q)) k (plv_le _) (.inr ⟨h2, hk⟩)

theorem tr_sent (c : Dev nD) (d : Bool) (s : Fin 15) (q : Fin 4) (k : ℕ) :
    Tr (Ctx X Y κ ιs c) c
      iprop(OW c k ∗ atPos ER (cell c (rsS d s q)) 0 ∅ 0 ∗ cred (tallyAt (cell c (rsS d s q)) 0 Nrs))
      (fun z => Body.sent A0 d s q z)
      iprop(OW c k ∗ atPos ER (cell c (rsS d s q)) 1 ∅ 0 ∗ Own (A0.slot d (slotOf s) q) c fullShare (sentV X Y d q s c)) :=
  tr_wait X Y κ ιs (i := rsS d s q) rfl rfl (Nrs_eq d _ q) 0 k (by decide) (.inl rfl)

theorem ofNat_val (s : Fin 15) : Fin.ofNat 15 s.val = s := Fin.ext (Nat.mod_eq_of_lt s.isLt)

theorem sentV_succ (d : Bool) (q : Fin 4) (s : Fin 15) (c : Dev nD) :
    sentV X Y d q (s.val + 1) c = sqQ (k0_pay10 (unsqQ (sentV X Y d q s.val (pv d c))) (locQ X Y d s q c)) := by
  show sqQ (k0_pay10 (unsqQ (sentV X Y d q s.val (pv d c))) (locQ X Y d (Fin.ofNat 15 s.val) q c)) = _
  rw [ofNat_val]

theorem tr_addQ {C : SP F} [BI.Persistent C] (c : Dev nD) (d : Bool) (s : Fin 15) (q : Fin 4) :
    Tr C c
      iprop(Own (A0.slot d (slotOf (s + 1)) q) c fullShare (sentV X Y d q s (pv d c)) ∗ Own (A0.loc d) c fullShare (locV X Y d s c))
      (fun z => Body.addQ A0 d s q z)
      iprop(Own (A0.slot d (slotOf (s + 1)) q) c fullShare (sentV X Y d q (s + 1) c) ∗ Own (A0.loc d) c fullShare (locV X Y d s c)) := by
  intro z Φ
  unfold Body.addQ
  iintro ⟨-, ⟨Hs, Hl⟩, Hz⟩
  iapply (own_load_sq (m := A0.acc d) (Ops.accRect (slotOf (s + 1)) q) (fun _ => rfl) squeezes_S1x64x4096_S64x4096) $$ Hs
  iintro Hs
  iapply (own_load_in (m := A0.loc d) (Ops.qRect q)) $$ Hl
  iintro Hl
  iapply (own_load_sq (m := A0.acc d) (Ops.accRect (slotOf (s + 1)) q) (fun _ => rfl) squeezes_S1x64x4096_S64x4096) $$ Hs
  iintro Hs
  iapply (own_store_sq (m := A0.acc d) (Ops.accRect (slotOf (s + 1)) q) (fun _ => rfl) squeezes_S1x64x4096_S64x4096) $$ Hs
  iintro Hs
  iapply Hz
  rw [sentV_succ]
  isplitl [Hs]; · iexact Hs
  iexact Hl

theorem unit_emb0 {s : Shape} {off : Fin s.rank → ℕ} (inb : ∀ a, off a + s.size a ≤ s.size a) (x : (Rect.unit off s.size inb).shape.Idx) :
    (Rect.unit off s.size inb).emb x = x := by
  funext a
  refine Fin.ext ?_
  show off a + 1 * (x a).val = (x a).val
  have := inb a; omega

theorem tr_prod {C : SP F} [BI.Persistent C] (c : Dev nD) (qx qw : PosShare TreeShare) (d : Bool) (s : Fin 15) :
    Tr C c
      iprop(Own A0.x c qx (X c) ∗ Own A0.w c qw (Y c) ∗ (∃ f, Own (A0.loc d) c fullShare f))
      (fun z => Body.prod A0 (W0 c) d s z)
      iprop(Own A0.x c qx (X c) ∗ Own A0.w c qw (Y c) ∗ Own (A0.loc d) c fullShare (locV X Y d s c)) := by
  intro z Φ
  unfold Body.prod
  iintro ⟨-, ⟨Hx, Hy, ⟨%f, Hl⟩⟩, Hz⟩
  iapply (own_load_in (m := A0.x)) $$ Hx
  iintro Hx
  iapply (own_load_in (m := A0.w)) $$ Hy
  iintro Hy
  iapply (own_load_in (m := A0.loc d)) $$ Hl
  iintro Hl
  iapply (own_store_in (m := A0.loc d)) $$ Hl
  iintro ⟨%f', %hf, Hl⟩
  have e : f' = locV X Y d s c := by
    funext x; have := hf x; rw [unit_emb0] at this; exact this
  subst e
  iapply Hz
  isplitl [Hx]; · iexact Hx
  isplitl [Hy] <;> iassumption

/-! ## The credits -/

/-- The history of a device's releases in a direction: the first `n` slots it has freed for its sender. -/
def Hist (c : Dev nD) (d : Bool) (n : ℕ) : SP F := bigSep (Finset.range n) fun i => released ES (freed c d i) 1
instance Hist_persistent (c : Dev nD) (d : Bool) (n : ℕ) : BI.Persistent (Hist (F := F) c d n) := by unfold Hist; infer_instance

theorem freed_eq (c : Dev nD) (d : Bool) (s : Fin 12) (q : Fin 4) : freed c d (4 * s.val + q.val) = key c d ⟨s.val + 3, by omega⟩ q := by
  have := s.isLt; have := q.isLt
  have h1 : Fin.ofNat 15 ((4 * s.val + q.val) / 4 + 3) = (⟨s.val + 3, by omega⟩ : Fin 15) := Fin.ext (by show ((4 * s.val + q.val) / 4 + 3) % 15 = s.val + 3; omega)
  have h2 : slotOf (4 * s.val + q.val) = q := Fin.ext (by show (4 * s.val + q.val) % 4 = q.val; omega)
  unfold freed; rw [h1, h2]

theorem Hist_succ (c : Dev nD) (d : Bool) (n : ℕ) : (Hist c d (n + 1) : SP F) = iprop(released ES (freed c d n) 1 ∗ Hist c d n) := by
  unfold Hist; rw [Finset.range_add_one, bigSep_insert Finset.notMem_range_self]; rfl

theorem slot_four (s : Fin 12) : slotOf ((⟨s.val + 3, by omega⟩ : Fin 15).val + 1) = slotOf s.val :=
  Fin.ext (by show (s.val + 3 + 1) % 4 = s.val % 4; omega)

/-- A freed slot handed back: its unit of credit to the device that writes it. -/
theorem tr_give (c : Dev nD) (d : Bool) (s : Fin 12) (q : Fin 4) :
    Tr (Ctx X Y κ ιs c) c
      iprop((OW c (ppos (pCr d s q)) ∗ Hist c d (4 * s.val + q.val)) ∗ dutyTok ER (cell (pv d c) (crC d)) 0 (4 * s.val + q.val)
        ∗ readerAt ES (key c d ⟨s.val + 3, by omega⟩ q) 0 ∗ (∃ f, Own (A0.slot d (slotOf s) q) c fullShare f))
      (fun z => Body.give A0 (W0 c) d z)
      iprop(OW c (ppos (pCr d s q) + 1) ∗ Hist c d (4 * s.val + q.val + 1)) := by
  have hs := s.isLt
  have hq := q.isLt
  intro z Φ
  iintro ⟨#HC, ⟨⟨HO, #HH⟩, Ht, Hr, Hs⟩, Hz⟩
  ihave #Hsl := (Ctx_slot X Y κ ιs c (key c d ⟨s.val + 3, by omega⟩ q)) $$ HC
  imod (slot_release (E := ES) (k := key c d ⟨s.val + 3, by omega⟩ q) (S := Sl (F := F) (key c d ⟨s.val + 3, by omega⟩ q)) (Es := Set.univ) (Set.mem_univ _)
    (Sl_excl _) 0) $$ [Hr Hs] with ⟨Hr, Hrel⟩
  · isplitr; · iexact Hsl
    isplitl [Hr]; · iexact Hr
    unfold Sl
    dsimp only
    rw [slot_four]; iexact Hs
  ihave #Hh : (Hist c d (4 * s.val + q.val + 1) : SP F) $$ [Hrel]
  · rw [Hist_succ, freed_eq]
    isplitl [Hrel]; · iexact Hrel
    iexact HH
  unfold OW
  icases HO with ⟨%W, HO⟩
  have hd : 4 * s.val + q.val ∈ (Rd X Y).duties (cell (pv d c) (crC d)) 0 := by
    rw [duties_cell]; exact Finset.mem_range.mpr (by omega)
  iapply (Rounds.wp_signal 𝒱₀ ER (Rd X Y) (c : Thread nD τ) none (dst := ((pv d c : Dev nD) : Thread nD τ)) (sem := (A0.cr d).sem) (κ := κ (cell (pv d c) (crC d)))
    (r := 0) (d := 4 * s.val + q.val) (k' := 1) hd (amount_cell X Y (pv d c) (crC d) _) (plv (pCr d s q)) (owe c (ppos (pCr d s q) + 1)) (owe_take c (pCr d s q)) (W := W)) $$ [HO Ht]
  · isplitr
    · ihave H := (Ctx_inv X Y κ ιs c) $$ HC
      iapply (Inv_cell X Y κ ιs (pv d c) (crC d)) $$ H
    isplitl [HO]; · iexact HO
    isplitl [Ht]; · iexact Ht
    isplitl
    · have hp : (Rd X Y).payload (cell (pv d c) (crC d)) 0 (4 * s.val + q.val) = Hist c d (4 * s.val + q.val + 1) := by
        rw [payload_cell]
        show (bigSep (Finset.range (4 * s.val + q.val + 1)) fun i => released ES (freed (nx d (pv d c)) d i) 1) = _
        rw [nx_pv]; rfl
      have hp' : (Hist c d (4 * s.val + q.val + 1) : SP F) ⊢ (Rd X Y).payload (((pv d c : Dev nD) : Thread nD τ), SemLoc.reg (A0.cr d).sem) 0 (4 * s.val + q.val) :=
        Entails.of_eq hp.symm
      iapply hp' $$ Hh
    iapply (Ctx_pv X Y κ ιs c d (crC d)) $$ HC
  iintro HO
  iapply Hz
  isplitl [HO]; · iexists _; iexact HO
  iexact Hh

/-- A device's place in its credits of a direction after `n` of them. -/
def crSt (c : Dev nD) (d : Bool) (n : ℕ) : SP F :=
  if n < 48 then iprop(∃ T : Finset ℕ, ⌜T ⊆ Finset.range 48 ∧ n ≤ T.card⌝ ∗ atPos ER (cell c (crC d)) 0 T n ∗ bigSep T fun i => Hist (nx d c) d (i + 1))
  else atPos ER (cell c (crC d)) 1 ∅ 0

theorem Hist_get (c : Dev nD) (d : Bool) {i n : ℕ} (h : n < i) : (Hist c d i : SP F) ⊢ released ES (freed c d n) 1 := by
  unfold Hist; exact bigSep_elim (Finset.mem_range.mpr h)

theorem hist_pay (c : Dev nD) (d : Bool) (i : ℕ) : (Rd X Y).payload (cell c (crC d)) 0 i = (Hist (nx d c) d (i + 1) : SP F) := by
  rw [payload_cell]; rfl

theorem exists_ge {S : Finset ℕ} {n : ℕ} (h : n + 1 ≤ S.card) : ∃ i ∈ S, n ≤ i := by
  by_contra hc
  push Not at hc
  have := Finset.card_le_card (show S ⊆ Finset.range n from fun i hi => Finset.mem_range.mpr (hc i hi))
  rw [Finset.card_range] at this; omega

theorem bigSep_split {T S : Finset ℕ} (h : T ⊆ S) (Φ : ℕ → SP F) : bigSep S Φ = iprop(bigSep T Φ ∗ bigSep (S \ T) Φ) := by
  have := bigSep_union (Φ := Φ) (Finset.disjoint_sdiff (s := T) (t := S))
  rw [Finset.union_sdiff_of_subset h] at this; exact this

/-- A unit of credit: the slot it speaks of is free. -/
theorem tr_credit (c : Dev nD) (d : Bool) (s : Fin 12) (q : Fin 4) (k : ℕ) (h2 : 2 ≤ k) (hk : ppos (pCr d s q) < k) :
    Tr (Ctx X Y κ ιs c) c
      iprop(OW c k ∗ crSt c d (4 * s.val + q.val) ∗ cred (tallyAt (cell c (crC d)) (plv (pCr d s q)) 1))
      (fun z => Body.credit A0 d z)
      iprop(OW c k ∗ crSt c d (4 * s.val + q.val + 1) ∗ released ES (key (nx d c) d ⟨s.val + 3, by omega⟩ q) 1) := by
  have hs := s.isLt
  have hq := q.isLt
  rw [← freed_eq]
  generalize hn : 4 * s.val + q.val = n
  have hn48 : n < 48 := by omega
  intro z Φ
  unfold crSt OW
  rw [if_pos hn48]
  iintro ⟨#HC, ⟨⟨%W, HO⟩, ⟨%T, %hT, Hat, HT⟩, Hcr⟩, Hz⟩
  ihave #HI := (Ctx_inv X Y κ ιs c) $$ HC
  ihave #Hci := (Inv_cell X Y κ ιs c (crC d)) $$ HI
  ihave Hmw := (Ctx_mayWait X Y κ ιs c (osem (crC d)) (n := plv (pCr d s q)) (k := k) (plv_le _) (.inr ⟨h2, hk⟩)) $$ HC
  have hexp := expect_cr X Y c d
  have hdut := duties_cell X Y c (crC d)
  by_cases h47 : n + 1 < 48
  · rw [if_pos h47]
    iapply (Rounds.wp_wait 𝒱₀ ER (Rd X Y) (c : Thread nD τ) none (κ := κ (cell c (crC d))) (sm := osem (crC d)) (k' := 1)
      (wpE_semWait_eq 𝒱₀ (c : Thread nD τ) none Set.univ) (Set.mem_univ _) (cr := Finsupp.single (plv (pCr d s q)) 1) (O := owe c k) (W := W) {(osem (crC d), plv (pCr d s q))}
      (R := 0) (m := n) (T := T) (by rw [Util.total_single]) (image_single_subset _ _ _)) $$ [Hcr HO Hat Hmw]
    · isplitr; · iexact Hci
      isplitl [Hcr]; · iexact Hcr
      isplitl [HO]; · iexact HO
      isplitl [Hmw]; · iexact Hmw
      iexact Hat
    iintro %S ⟨%hS, HO, Hat, Hp⟩
    have hS' : S ⊆ Finset.range 48 := by have := hS.2.1; rw [hdut] at this; exact this
    have hcard : n + 1 ≤ S.card := by
      have h3 := hS.2.2
      rw [hdut, hexp, show dut (crC d) = Finset.range 48 from rfl, Finset.card_sdiff_of_subset hS', Finset.card_range] at h3
      have := Finset.card_le_card hS'; rw [Finset.card_range] at this
      omega
    ihave #HS : (bigSep S fun i => Hist (nx d c) d (i + 1) : SP F) $$ [HT Hp]
    · have hu : (bigSep S fun i => (Hist (nx d c) d (i + 1) : SP F)) = iprop(bigSep T (fun i => Hist (nx d c) d (i + 1)) ∗ bigSep (S \ T) fun i => (Rd X Y).payload (cell c (crC d)) 0 i) := by
        simp only [hist_pay]
        exact bigSep_split hS.1 _
      rw [hu]
      isplitl [HT]; · iexact HT
      iexact Hp
    obtain ⟨i, hi, hni⟩ := exists_ge hcard
    iapply Hz
    isplitl [HO]; · iexists _; iexact HO
    isplitl [Hat]
    · iexists S
      isplitr; · ipureintro; exact ⟨hS', hcard⟩
      isplitl [Hat]; · iexact Hat
      iexact HS
    have hg : (bigSep S fun i => (Hist (nx d c) d (i + 1) : SP F)) ⊢ released ES (freed (nx d c) d n) 1 :=
      (bigSep_elim hi).trans (Hist_get _ _ (by omega))
    iapply hg $$ HS
  · rw [if_neg h47]
    iapply (Rounds.wp_wait_rest_token 𝒱₀ ER (Rd X Y) (c : Thread nD τ) none (κ := κ (cell c (crC d))) (sm := osem (crC d)) (k' := 1)
      (wpE_semWait_eq 𝒱₀ (c : Thread nD τ) none Set.univ) (Set.mem_univ _) (plv (pCr d s q)) (O := owe c k) (W := W)
      (R := 0) (m := n) (T := T) (by rw [hexp]; omega)) $$ [Hcr HO Hat Hmw]
    · isplitr; · iexact Hci
      isplitl [Hcr]; · iexact Hcr
      isplitl [HO]; · iexact HO
      isplitl [Hmw]; · iexact Hmw
      iexact Hat
    iintro ⟨HO, Hat, -, Hp⟩
    iapply Hz
    isplitl [HO]; · iexists _; iexact HO
    isplitl [Hat]; · iexact Hat
    have hu : iprop(bigSep T (fun i => (Hist (nx d c) d (i + 1) : SP F)) ∗ bigSep ((Rd X Y).duties (cell c (crC d)) 0 \ T) fun i => (Rd X Y).payload (cell c (crC d)) 0 i)
        ⊢ released ES (freed (nx d c) d n) 1 := by
      simp only [hist_pay]
      rw [hdut, show dut (crC d) = Finset.range 48 from rfl, ← bigSep_split hT.1]
      exact (bigSep_elim (Finset.mem_range.mpr hn48)).trans (Hist_get _ _ (by omega))
    iapply hu
    isplitl [HT]; · iexact HT
    iexact Hp

end Cert.Ring
-- ==== Proof.Gather.lean ====
/- Buffers cut in parts and put together again; the first product, the last sums, the operations of the gather phase. -/
module

public import proofs.«01_k».proof.Proof.Leaf

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

attribute [local instance] Cert.KernelIdeal.Gen.facts

local notation "𝕄" => MT nD τ sig ℕ (Elt F) ℕ UU ℕ

variable (X : Dev nD → S8192x512.Idx → Elt F .bf16) (Y : Dev nD → S512x4096.Idx → Elt F .bf16)
variable (κ : GSem nD τ sig → ℕ) (ιs : Key → ℕ)

/-! ## What every device may consult -/

/-! ## Parts -/

section Parts

variable {T : Type} [Fintype T] [DecidableEq T] {sp : Space} {s : Shape} {e : EltTy} (m : Memref sig .tc sp s e) (c : Dev nD) (sh : PosShare TreeShare)
variable (r₀ : Rect s) (hr₀ : ∀ a, r₀.stride a = 1) (r : T → Rect s) (hr : ∀ t a, (r t).stride a = 1)
variable (hd : ∀ t t', t ≠ t' → Disjoint (r t).set (r t').set) (hc : Finset.univ.biUnion (fun t => (r t).set) = r₀.set)

include hd hc in
theorem part_sets :
    (∀ t ∈ (Finset.univ : Finset T), ∀ t' ∈ (Finset.univ : Finset T), t ≠ t' → Disjoint (m.slice (r t) (hr t)).view.set (m.slice (r t') (hr t')).view.set)
      ∧ Finset.univ.biUnion (fun t => (m.slice (r t) (hr t)).view.set) = (m.slice r₀ hr₀).view.set := by
  constructor
  · intro t _ t' _ h
    show Disjoint (m.view.slice (r t)).set (m.view.slice (r t')).set
    rw [View.set_slice, View.set_slice, Finset.disjoint_map]
    exact hd t t' h
  · show _ = (m.view.slice r₀).set
    rw [View.set_slice, ← hc]
    ext i
    simp only [Finset.mem_biUnion, Finset.mem_univ, true_and, Finset.mem_map]
    constructor
    · rintro ⟨t, ht⟩
      have ht : i ∈ (m.view.slice (r t)).set := ht
      rw [View.set_slice] at ht
      obtain ⟨x, hx, rfl⟩ := Finset.mem_map.mp ht
      exact ⟨x, ⟨t, hx⟩, rfl⟩
    · rintro ⟨x, ⟨t, hx⟩, rfl⟩
      refine ⟨t, ?_⟩
      show _ ∈ (m.view.slice (r t)).set
      rw [View.set_slice]; exact Finset.mem_map_of_mem _ hx

include hd hc in
theorem parts_split (f : r₀.shape.Idx → Elt F e) (fs : (t : T) → (r t).shape.Idx → Elt F e) (hf : ∀ t x y, r₀.emb x = (r t).emb y → f x = fs t y) :
    (Own (m.slice r₀ hr₀) c sh f : SP F) ⊢ bigSep Finset.univ fun t => Own (m.slice (r t) (hr t)) c sh (fs t) := by
  obtain ⟨h₁, h₂⟩ := part_sets m r₀ hr₀ r hr hd hc
  unfold Own
  iintro ⟨%g, %hg, H⟩
  have hm : bigSep Finset.univ (fun t => (m.view.loc (c : Thread nD τ) ↦[(m.slice (r t) (hr t)).view.set]{sh} g : SP F))
      ⊢ bigSep Finset.univ fun t => Own (m.slice (r t) (hr t)) c sh (fs t) := by
    refine bigSep_mono fun t _ => ?_
    unfold Own
    show (_ : SP F) ⊢ _
    iintro H; iexists g
    isplitr
    · ipureintro
      funext y
      have hy : (r t).emb y ∈ r₀.set := by
        rw [← hc]; exact Finset.mem_biUnion.mpr ⟨t, Finset.mem_univ _, by rw [← Rect.map_emb_univ]; exact Finset.mem_map_of_mem _ (Finset.mem_univ _)⟩
      rw [← Rect.map_emb_univ] at hy
      obtain ⟨x, -, hx⟩ := Finset.mem_map.mp hy
      rw [← hf t x y hx, ← hg]
      show m.view.read (Elt F) g ((r t).emb y) = m.view.read (Elt F) g (r₀.emb x)
      rw [hx]
    iexact H
  have hu := pointsTo_biUnion (ℓ := m.view.loc (c : Thread nD τ)) (q := sh) (f := g) (Ix := ℕ) (Name := ℕ) (U := UU) (Lvl := ℕ) Finset.univ (fun t => (m.slice (r t) (hr t)).view.set) h₁
  iapply hm
  rw [← hu, h₂]
  iexact H

include hd hc in
theorem parts_join [∀ e, Nonempty (Elt F e)] :
    (bigSep Finset.univ fun t => iprop(∃ f, Own (m.slice (r t) (hr t)) c sh f)) ⊢ (iprop(∃ f, Own (m.slice r₀ hr₀) c sh f) : SP F) := by
  obtain ⟨h₁, h₂⟩ := part_sets m r₀ hr₀ r hr hd hc
  have g₀ : Nonempty (Buf (Elt F) (m.view.loc (c : Thread nD τ))) := ⟨fun _ => Classical.arbitrary _⟩
  have : ∀ t : T, Nonempty (Buf (Elt F) (m.view.loc (c : Thread nD τ))) := fun _ => g₀
  have hm : (bigSep Finset.univ fun t => (iprop(∃ f, Own (m.slice (r t) (hr t)) c sh f) : SP F))
      ⊢ bigSep Finset.univ fun t => iprop(∃ g : Buf (Elt F) (m.view.loc (c : Thread nD τ)), (m.view.loc (c : Thread nD τ) ↦[(m.slice (r t) (hr t)).view.set]{sh} g)) := by
    refine bigSep_mono fun t _ => ?_
    show (_ : SP F) ⊢ _
    unfold Own
    iintro ⟨%f, %g, -, H⟩
    iexists g; iexact H
  refine hm.trans ((BI.bigSep_exists_pi Finset.univ (fun t (g : Buf (Elt F) (m.view.loc (c : Thread nD τ))) =>
    ((m.view.loc (c : Thread nD τ) ↦[(m.slice (r t) (hr t)).view.set]{sh} g) : SP F))).trans ?_)
  iintro ⟨%gs, H⟩
  ihave H := (pointsTo_biUnion_join Finset.univ (fun t => (m.slice (r t) (hr t)).view.set) gs g₀.some h₁) $$ H
  icases H with ⟨%g, -, H⟩
  iexists ((m.slice r₀ hr₀).view.read (Elt F) g)
  iapply (own_intro (m := m.slice r₀ hr₀) (c := c) (q := sh) g)
  rw [h₂]
  iexact H

/-- A slice of everything is the memref. -/
theorem own_all (h : r₀.set = Finset.univ) : (iprop(∃ f, Own (m.slice r₀ hr₀) c sh f) : SP F) ⊢ iprop(∃ f, Own m c sh f) := by
  have hs : (m.slice r₀ hr₀).view.set = m.view.set := by
    show (m.view.slice r₀).set = _
    rw [View.set_slice, h]; rfl
  unfold Own
  iintro ⟨%f, %g, -, H⟩
  iexists (m.view.read (Elt F) g); iexists g
  isplitr; · ipureintro; rfl
  rw [← hs]; iexact H

end Parts

instance elt_nonempty : ∀ e, Nonempty (Elt F e)
  | .i1 => ⟨(0 : BitVec 1)⟩ | .i4 => ⟨(0 : BitVec 4)⟩ | .i8 => ⟨(0 : BitVec 8)⟩ | .i16 => ⟨(0 : BitVec 16)⟩ | .i32 => ⟨(0 : BitVec 32)⟩ | .i64 => ⟨(0 : BitVec 64)⟩
  | .fp8e4m3 => ⟨Scalar.ofBits (F := F) .fp8e4m3 0⟩ | .fp8e5m2 => ⟨Scalar.ofBits (F := F) .fp8e5m2 0⟩ | .bf16 => ⟨Scalar.ofBits (F := F) .bf16 0⟩
  | .f16 => ⟨Scalar.ofBits (F := F) .f16 0⟩ | .f32 => ⟨Scalar.ofBits (F := F) .f32 0⟩

/-! ## The partial sums' slots -/

/-- Slot 0 of a partial-sum buffer. -/
abbrev rect0 : Rect S4x256x4096 := Rect.unit (s := S4x256x4096) ![0, 0, 0] S1x256x4096.size inb_S4x256x4096_S1x256x4096_0_0_0

theorem acc_disj (a a' q q' : Fin 4) (h : (a, q) ≠ (a', q')) : Disjoint (Ops.accRect a q).set (Ops.accRect a' q').set := by
  by_cases ha : a = a'
  · subst ha
    have hq : q.val ≠ q'.val := fun e => h (by rw [Fin.ext e])
    refine Rect.unit_disjoint 1 ?_
    show 64 * q.val + 64 ≤ 64 * q'.val ∨ 64 * q'.val + 64 ≤ 64 * q.val
    omega
  · have ha : a.val ≠ a'.val := fun e => ha (Fin.ext e)
    refine Rect.unit_disjoint 0 ?_
    show a.val + 1 ≤ a'.val ∨ a'.val + 1 ≤ a.val
    omega

theorem mem_acc {a q : Fin 4} {i : S4x256x4096.Idx} : i ∈ (Ops.accRect a q).set ↔ (i 0).val = a.val ∧ (i 1).val / 64 = q.val := by
  rw [Rect.mem_set_unit, Fin.forall_fin_succ, Fin.forall_fin_succ, Fin.forall_fin_one]
  have h2 : (i 2).val < 4096 := (i 2).isLt
  show ((a.val ≤ (i 0).val ∧ (i 0).val < a.val + 1) ∧ (64 * q.val ≤ (i 1).val ∧ (i 1).val < 64 * q.val + 64) ∧ (0 ≤ (i 2).val ∧ (i 2).val < 0 + 4096)) ↔ _
  omega

theorem acc_cover : Finset.univ.biUnion (fun t : Fin 4 × Fin 4 => (Ops.accRect t.1 t.2).set) = Finset.univ := by
  ext i
  have h0 : (i 0).val < 4 := (i 0).isLt
  have h1 : (i 1).val < 256 := (i 1).isLt
  simp only [Finset.mem_biUnion, Finset.mem_univ, true_and, iff_true]
  exact ⟨(⟨(i 0).val, h0⟩, ⟨(i 1).val / 64, by omega⟩), mem_acc.mpr ⟨rfl, rfl⟩⟩

theorem mem_rect0 {i : S4x256x4096.Idx} : i ∈ rect0.set ↔ (i 0).val = 0 := by
  rw [Rect.mem_set_unit, Fin.forall_fin_succ, Fin.forall_fin_succ, Fin.forall_fin_one]
  have h2 : (i 2).val < 4096 := (i 2).isLt
  have h1 : (i 1).val < 256 := (i 1).isLt
  show ((0 ≤ (i 0).val ∧ (i 0).val < 0 + 1) ∧ (0 ≤ (i 1).val ∧ (i 1).val < 0 + 256) ∧ (0 ≤ (i 2).val ∧ (i 2).val < 0 + 4096)) ↔ _
  omega

theorem acc0_cover : Finset.univ.biUnion (fun q : Fin 4 => (Ops.accRect 0 q).set) = rect0.set := by
  ext i
  have h1 : (i 1).val < 256 := (i 1).isLt
  simp only [Finset.mem_biUnion, Finset.mem_univ, true_and]
  rw [mem_rect0]
  constructor
  · rintro ⟨q, hq⟩; exact (mem_acc.mp hq).1
  · intro h; exact ⟨⟨(i 1).val / 64, by omega⟩, mem_acc.mpr ⟨h, rfl⟩⟩

/-- A partial-sum buffer in its slots' quarters, at any contents. -/
def accAny (c : Dev nD) (d : Bool) : SP F := iprop(∃ f, Own (A0.acc d) c fullShare f)
def slotAny (c : Dev nD) (d : Bool) (a q : Fin 4) : SP F := iprop(∃ f, Own (A0.slot d a q) c fullShare f)

theorem slotAny_eq (c : Dev nD) (d : Bool) (a q : Fin 4) :
    (slotAny c d a q : SP F) = iprop(∃ f, Own ((A0.acc d).slice (Ops.accRect a q) (fun _ => rfl)) c fullShare f) := by
  unfold slotAny
  refine eq_of ?_ ?_
  · iintro ⟨%f, H⟩
    iexists (unsq (r := Ops.accRect a q) squeezes_S1x64x4096_S64x4096 f)
    have h := own_unsq (F := F) (m := A0.acc d) (c := c) (q := fullShare) (Ops.accRect a q) (fun _ => rfl) squeezes_S1x64x4096_S64x4096 f
    ihave H := (Entails.of_eq h) $$ H
    iexact H
  · iintro ⟨%f, H⟩
    iexists (sq (r := Ops.accRect a q) squeezes_S1x64x4096_S64x4096 f)
    have h := own_sq (F := F) (m := A0.acc d) (c := c) (q := fullShare) (Ops.accRect a q) (fun _ => rfl) squeezes_S1x64x4096_S64x4096 f
    ihave H := (Entails.of_eq h) $$ H
    iexact H

theorem acc_cut (c : Dev nD) (d : Bool) : (accAny c d : SP F) ⊢ bigSep Finset.univ fun t : Fin 4 × Fin 4 => slotAny c d t.1 t.2 := by
  unfold accAny
  simp only [slotAny_eq]
  iintro ⟨%f, H⟩
  ihave H := (own_pieces (A0.acc d) c fullShare (fun t : Fin 4 × Fin 4 => ![t.1.val, 64 * t.2.val, 0]) (fun t => inbAcc t.1 t.2)
    (fun t t' h => acc_disj t.1 t'.1 t.2 t'.2 (by simpa using h))
    (fun i => by have := Finset.mem_univ i; rw [← acc_cover] at this; obtain ⟨t, -, ht⟩ := Finset.mem_biUnion.mp this; exact ⟨t, ht⟩) f) $$ H
  have hm : (bigSep Finset.univ fun t : Fin 4 × Fin 4 => (Own (piece (A0.acc d) (fun t : Fin 4 × Fin 4 => ![t.1.val, 64 * t.2.val, 0]) (fun t => inbAcc t.1 t.2) t) c fullShare
        (fun x => f ((Ops.accRect t.1 t.2).emb x)) : SP F))
      ⊢ bigSep Finset.univ fun t : Fin 4 × Fin 4 => iprop(∃ f, Own ((A0.acc d).slice (Ops.accRect t.1 t.2) (fun _ => rfl)) c fullShare f) := by
    refine bigSep_mono fun t _ => ?_
    show (_ : SP F) ⊢ _
    iintro H; iexists _; iexact H
  iapply hm $$ H

theorem acc_mend (c : Dev nD) (d : Bool) : (bigSep Finset.univ fun t : Fin 4 × Fin 4 => slotAny c d t.1 t.2) ⊢ (accAny c d : SP F) := by
  simp only [slotAny_eq]
  unfold accAny
  refine (parts_join (A0.acc d) c fullShare (Rect.unit (s := S4x256x4096) (fun _ => 0) S4x256x4096.size (fun a => (Nat.zero_add _).le)) (fun _ => rfl) (fun t : Fin 4 × Fin 4 => Ops.accRect t.1 t.2) (fun _ _ => rfl)
    (fun t t' h => acc_disj t.1 t'.1 t.2 t'.2 (by simpa using h)) ?_).trans (own_all (A0.acc d) c fullShare _ _ ?_)
  · rw [acc_cover]; symm
    ext i; simp only [Finset.mem_univ, iff_true]; rw [Rect.mem_set_unit]
    intro a; exact ⟨Nat.zero_le _, (i a).isLt.trans_eq (Nat.zero_add _).symm⟩
  · ext i; simp only [Finset.mem_univ, iff_true]; rw [Rect.mem_set_unit]
    intro a; exact ⟨Nat.zero_le _, (i a).isLt.trans_eq (Nat.zero_add _).symm⟩

/-- The first product, in the four quarters of slot 0. -/
theorem tr_init {C : SP F} [BI.Persistent C] (c : Dev nD) (qx qw : PosShare TreeShare) (d : Bool) :
    Tr C c
      iprop(Own A0.x c qx (X c) ∗ Own A0.w c qw (Y c) ∗ bigSep Finset.univ fun q : Fin 4 => slotAny c d 0 q)
      (fun z => Body.init A0 (W0 c) d z)
      iprop(Own A0.x c qx (X c) ∗ Own A0.w c qw (Y c) ∗ bigSep Finset.univ fun q : Fin 4 => Own (A0.slot d 0 q) c fullShare (sentV X Y d q 0 c)) := by
  intro z Φ
  unfold Body.init
  simp only [slotAny_eq]
  iintro ⟨-, ⟨Hx, Hy, Hs⟩, Hz⟩
  ihave Hs := (parts_join (A0.acc d) c fullShare rect0 (fun _ => rfl) (fun q : Fin 4 => Ops.accRect 0 q) (fun _ _ => rfl)
    (fun q q' h => acc_disj 0 0 q q' (by simpa using h)) acc0_cover) $$ Hs
  icases Hs with ⟨%f, Hs⟩
  iapply (own_load_in (m := A0.x)) $$ Hx
  iintro Hx
  iapply (own_load_in (m := A0.w)) $$ Hy
  iintro Hy
  iapply (own_load (m := A0.acc d) rect0 (fun _ => rfl)) $$ Hs
  iintro Hs
  iapply (own_store (m := A0.acc d) rect0 (fun _ => rfl) (w := acc0 X Y d c)) $$ Hs
  iintro Hs
  iapply Hz
  isplitl [Hx]; · iexact Hx
  isplitl [Hy]; · iexact Hy
  ihave Hs := (parts_split (A0.acc d) c fullShare rect0 (fun _ => rfl) (fun q : Fin 4 => Ops.accRect 0 q) (fun _ _ => rfl)
    (fun q q' h => acc_disj 0 0 q q' (by simpa using h)) acc0_cover (acc0 X Y d c)
    (fun q y => acc0 X Y d c ((Rect.unit (s := S1x256x4096) ![0, 64 * q.val, 0] S1x64x4096.size (inbQ1 q)).emb y)) (fun q x y h => by
      congr 1
      funext a
      refine Fin.ext ?_
      have h := congrArg Fin.val (congrFun h a)
      revert h
      fin_cases a
      · show 0 + 1 * (x 0).val = 0 + 1 * (y 0).val → (x 0).val = 0 + 1 * (y 0).val
        omega
      · show 0 + 1 * (x 1).val = 64 * q.val + 1 * (y 1).val → (x 1).val = 64 * q.val + 1 * (y 1).val
        omega
      · show 0 + 1 * (x 2).val = 0 + 1 * (y 2).val → (x 2).val = 0 + 1 * (y 2).val
        omega)) $$ Hs
  have hm : (bigSep Finset.univ fun q : Fin 4 => (Own ((A0.acc d).slice (Ops.accRect 0 q) (fun _ => rfl)) c fullShare
        (fun y => acc0 X Y d c ((Rect.unit (s := S1x256x4096) ![0, 64 * q.val, 0] S1x64x4096.size (inbQ1 q)).emb y)) : SP F))
      ⊢ bigSep Finset.univ fun q : Fin 4 => Own (A0.slot d 0 q) c fullShare (sentV X Y d q 0 c) := by
    refine bigSep_mono fun q _ => ?_
    have h := own_sq (F := F) (m := A0.acc d) (c := c) (q := fullShare) (Ops.accRect 0 q) (fun _ => rfl) squeezes_S1x64x4096_S64x4096
      (fun y => acc0 X Y d c ((Rect.unit (s := S1x256x4096) ![0, 64 * q.val, 0] S1x64x4096.size (inbQ1 q)).emb y))
    exact Entails.of_eq h
  iapply hm $$ Hs

end Cert.Ring
-- ==== Proof.Leaf2.lean ====
/- The last sums and the operations of the gather phase. -/
module

public import proofs.«01_k».proof.Proof.Gather

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

attribute [local instance] Cert.KernelIdeal.Gen.facts

local notation "𝕄" => MT nD τ sig ℕ (Elt F) ℕ UU ℕ

variable (X : Dev nD → S8192x512.Idx → Elt F .bf16) (Y : Dev nD → S512x4096.Idx → Elt F .bf16)
variable (κ : GSem nD τ sig → ℕ) (ιs : Key → ℕ)

/-! ## What every device may consult -/

/-- A transfer to the neighbour. -/
theorem tr_nsend (d : Bool) {sp sp' : Space} {s : Shape} {e : EltTy} {src : Memref sig .tc sp s e} {dst : Memref sig .tc sp' s e} {c : Dev nD} {i j : CO} {sS sR : DmaSem sig} {hsc}
    {h : src.view.WordExact} {h' : dst.view.WordExact} {ht} {q : PosShare TreeShare} {f : s.Idx → Elt F e} (p : P)
    (hi : osem i = .dma sS) (hj : osem j = .dma sR) (hdi : dut i = {0}) (hdj : dut j = {0})
    (hN : dst.view.dmaCredit = amt j) (hij : amt i = amt j) (hp : pdev c p = nx d c ∧ psem p = osem j ∧ pamt p = amt j)
    (hpay₁ : Own src c q f ⊢ pay X Y c i 0) (hpay₂ : Own dst (nx d c) fullShare f ⊢ pay X Y (nx d c) j 0) :
    Tr (Ctx X Y κ ιs c) c
      iprop(OW c (ppos p) ∗ Own src c q f ∗ (∃ g, Own dst (nx d c) fullShare g) ∗ dutyTok ER (cell c i) 0 0 ∗ dutyTok ER (cell (nx d c) j) 0 0)
      (fun z => .op (.enqueueDma src (.remote (Dev.tc (nx d c)) dst (.dma sS) hsc) (.dma sR) h h' ht) fun _ => z)
      iprop(OW c (ppos p + 1) ∗ cred (tallyAt (cell c i) 0 (amt i))) := by
  intro z Φ
  iintro ⟨#HC, HI, Hz⟩
  iapply (tr_rsend X Y κ ιs p hi hj hdi hdj hN hij hp hpay₁ hpay₂ z Φ)
  isplitr
  · isplitr; · iapply (Ctx_inv X Y κ ιs c) $$ HC
    isplitr; · iapply (Ctx_own X Y κ ιs c i) $$ HC
    iapply (Ctx_nx X Y κ ιs c d j) $$ HC
  isplitl [HI] <;> iassumption

/-- What a send of the gather phase uses up besides what it sends: its two duties. -/
def agRes (c : Dev nD) (d : Bool) (t : Fin 15) (q : Fin 4) : SP F :=
  iprop(dutyTok ER (cell c (agS d t q)) 0 0 ∗ dutyTok ER (cell (nx d c) (agR d t q)) 0 0)

/-- A place of a neighbour's result, at any contents. -/
def outAny (e : Dev nD) (c : Dev nD) (d : Bool) (t : Fin 16) (q : Fin 4) : SP F := iprop(∃ g, Own (oQ c d t q) e fullShare g)

theorem outAny_next (e c : Dev nD) (d : Bool) (t : Fin 15) (q : Fin 4) : (outAny e (nx d c) d t.succ q : SP F) = outAny e c d t.castSucc q := by
  unfold outAny; simp only [oQ_next]
theorem outAny_first (e c : Dev nD) (d : Bool) (q : Fin 4) : (outAny e (nx d c) d 0 q : SP F) = outAny e c d 15 q := by
  unfold outAny; simp only [oQ_first]

theorem pay_ag (c : Dev nD) (d : Bool) (t : Fin 15) (q : Fin 4) : pay X Y c (agS d t q) 0 =
    (if t.val = 0 then Own (A0.finQ d q) c fullShare.left (finV X Y d q c)
      else Own (oQ c d ⟨t.val - 1, by omega⟩ q) c fullShare (gotV X Y d q (t.val - 1) c) : SP F) := rfl
theorem pay_own (c : Dev nD) (d : Bool) (q : Fin 4) : pay X Y c (agS d 0 q) 0 = (Own (A0.finQ d q) c fullShare.left (finV X Y d q c) : SP F) := by
  rw [pay_ag, if_pos (show (0 : Fin 15).val = 0 from rfl)]
theorem pay_fwd (c : Dev nD) (d : Bool) (t : Fin 14) (q : Fin 4) :
    pay X Y c (agS d t.succ q) 0 = (Own (oQ c d t.castSucc.castSucc q) c fullShare (gotV X Y d q t.val c) : SP F) := by
  rw [pay_ag, if_neg (show t.succ.val ≠ 0 from Nat.succ_ne_zero t.val)]; rfl
theorem pay_cp (c : Dev nD) (d : Bool) (q : Fin 4) : pay X Y c (cpC d q) 0 =
    (iprop(Own (oQ c d 15 q) c fullShare (finV X Y d q c) ∗ Own (A0.finQ d q) c fullShare.right (finV X Y d q c)) : SP F) := rfl

theorem own_slot_congr (c : Dev nD) (d : Bool) (q : Fin 4) (f : S64x4096.Idx → Elt F .bf16) {a a' : Fin 4} (h : a = a') :
    (Own (A0.slot d a q) c fullShare f : SP F) ⊢ Own (A0.slot d a' q) c fullShare f := by rw [h]

theorem tr_lastQ (c : Dev nD) (d : Bool) (q : Fin 4) :
    Tr (Ctx X Y κ ιs c) c
      iprop(OW c (ppos (pAg d 0 q)) ∗ (atPos ER (cell c (rsR d 14 q)) 0 ∅ 0 ∗ cred (tallyAt (cell c (rsR d 14 q)) (plv (pRs d 14 q)) Nrs))
        ∗ Own (A0.loc d) c fullShare (locV X Y d 14 c) ∗ (∃ f, Own (A0.finQ d q) c fullShare f) ∗ outAny (nx d c) (nx d c) d 0 q ∗ agRes c d 0 q)
      (fun z => Body.lastQ A0 (W0 c) q d z)
      iprop(OW c (ppos (pAg d 0 q) + 1) ∗ atPos ER (cell c (rsR d 14 q)) 1 ∅ 0 ∗ slotAny c d (slotOf 15) q
        ∗ Own (A0.loc d) c fullShare (locV X Y d 14 c) ∗ Own (A0.finQ d q) c fullShare.right (finV X Y d q c) ∗ cred (tallyAt (cell c (agS d 0 q)) 0 Nag)) := by
  intro z Φ
  unfold Body.lastQ agRes
  rw [outAny_first]
  unfold outAny
  iintro ⟨#HC, ⟨HO, ⟨Hat, Hcr⟩, Hl, ⟨%f, Hf⟩, Hd, Ht, Ht'⟩, Hz⟩
  iapply (tr_recv X Y κ ιs c d 14 q (ppos (pAg d 0 q)) (by dsimp only [ppos]; omega) (by have := toNat_le d; have := q.isLt; dsimp only [ppos]; rw [if_neg (by decide)]; omega) _ Φ)
  isplitr; · iexact HC
  isplitl [HO Hat Hcr]
  · isplitl [HO]; · iexact HO
    isplitl [Hat]; · iexact Hat
    iexact Hcr
  iintro ⟨HO, Hat, Hs⟩
  have h15 : slotOf ((14 : Fin 15).val + 1) = slotOf 15 := rfl
  ihave Hs := (own_slot_congr c d q (sentV X Y d q (14 : Fin 15).val (pv d c)) h15) $$ Hs
  iapply (own_load_sq (m := A0.acc d) (Ops.accRect (slotOf 15) q) (fun _ => rfl) squeezes_S1x64x4096_S64x4096) $$ Hs
  iintro Hs
  iapply (own_load_in (m := A0.loc d) (Ops.qRect q)) $$ Hl
  iintro Hl
  iapply (own_load (m := A0.fin d) (Ops.qRect q) (fun _ => rfl)) $$ Hf
  iintro Hf
  iapply (own_store (m := A0.fin d) (Ops.qRect q) (fun _ => rfl) (w := finV X Y d q c)) $$ Hf
  iintro Hf
  have hsh : (Own ((A0.fin d).slice (Ops.qRect q) (fun _ => rfl)) c fullShare (finV X Y d q c) : SP F)
      = iprop(Own (A0.finQ d q) c fullShare.left (finV X Y d q c) ∗ Own (A0.finQ d q) c fullShare.right (finV X Y d q c)) := own_share _ _ _ _
  ihave Hf := (Entails.of_eq hsh) $$ Hf
  icases Hf with ⟨HfL, HfR⟩
  iapply (tr_nsend X Y κ ιs d (i := agS d 0 q) (j := agR d 0 q) (sS := Ops.semAt (A0.agS d) 0 q) (sR := Ops.semAt (A0.agR d) 0 q)
    (q := fullShare.left) (f := finV X Y d q c) (pAg d 0 q) rfl rfl rfl rfl (Nag_out c d 15 q) rfl ⟨rfl, rfl, rfl⟩
    (Entails.of_eq (pay_own X Y c d q).symm)
    (by show (Own (oQ c d 15 q) (nx d c) fullShare (finV X Y d q c) : SP F) ⊢ Own (oQ (nx d c) d 0 q) (nx d c) fullShare (finV X Y d q (pv d (nx d c)))
        rw [pv_nx, oQ_first]) z Φ)
  isplitr; · iexact HC
  isplitl [HO HfL Hd Ht Ht']
  · isplitl [HO]; · iexact HO
    isplitl [HfL]; · iexact HfL
    isplitl [Hd]; · iexact Hd
    isplitl [Ht] <;> iassumption
  iintro ⟨HO, Hcr⟩
  iapply Hz
  isplitl [HO]; · iexact HO
  isplitl [Hat]; · iexact Hat
  isplitl [Hs]; · unfold slotAny; iexists _; iexact Hs
  isplitl [Hl]; · iexact Hl
  isplitl [HfR]; · iexact HfR
  iexact Hcr

/-- The local copy. -/
theorem tr_copyQ (c : Dev nD) (d : Bool) (q : Fin 4) :
    Tr (Ctx X Y κ ιs c) c
      iprop(Own (A0.finQ d q) c fullShare.right (finV X Y d q c) ∗ outAny c c d 15 q ∗ dutyTok ER (cell c (cpC d q)) 0 0)
      (fun z => Body.copyQ A0 (W0 c) q d z)
      (cred (tallyAt (cell c (cpC d q)) 0 Nag)) := by
  intro z Φ
  unfold outAny Own
  iintro ⟨#HC, ⟨⟨%a, %ha, Hs⟩, ⟨%g, %b, -, Hd⟩, Ht⟩, Hz⟩
  ihave #HI := (Ctx_inv X Y κ ιs c) $$ HC
  have hd : 0 ∈ (Rd X Y).duties (cell c (cpC d q)) 0 := by rw [duties_cell]; exact Finset.mem_singleton_self _
  have hp := payload_cell X Y c (cpC d q) 0
  have ha' := amount_cell X Y c (cpC d q) 0
  have hr := Ctx_own X Y κ ιs c (cpC d q)
  have hci := Inv_cell X Y κ ιs c (cpC d q)
  rw [pay_cp] at hp
  rw [show amt (cpC d q) = Nag from rfl] at ha'
  generalize κ (cell c (cpC d q)) = κ₁ at hci
  have hs : osem (cpC d q) = .dma (A0.cpAt d q) := rfl
  have hpay : iprop(((oQ c d 15 q).view.loc (c : Thread nD τ) ↦[(oQ c d 15 q).view.set]{fullShare} ((oQ c d 15 q).view.write (Elt F) b ((A0.finQ d q).view.read (Elt F) a) Finset.univ))
              ∗ ((A0.finQ d q).view.loc (c : Thread nD τ) ↦[(A0.finQ d q).view.set]{fullShare.right} a)) ⊢ (Rd X Y).payload (cell c (cpC d q)) 0 0 := by
    have h1 := (own_intro (m := oQ c d 15 q) (c := c) (q := fullShare) ((oQ c d 15 q).view.write (Elt F) b ((A0.finQ d q).view.read (Elt F) a) Finset.univ))
    rw [read_write, ha] at h1
    have h2 := (own_intro (m := A0.finQ d q) (c := c) (q := fullShare.right) a)
    rw [ha] at h2
    rw [hp]
    exact BIClass.sep_mono (by rw [ha]; exact h1) h2
  unfold cell at *
  rw [hs] at *
  iapply (Rounds.wp_copy_pointsTo 𝒱₀ ER (Rd X Y) (c : Thread nD τ) none (src := A0.finQ d q) (dst := oQ c d 15 q) (sem := .dma (A0.cpAt d q)) (q := fullShare.right) (fs := a) (fd := b)
    (r := 0) (d := 0) (κ := κ₁) hd 0 Nag (Nag_out c d 15 q) ha' hpay) $$ [Hs Hd Ht]
  · isplitr; · iapply hci $$ HI
    isplitl [Hs]; · iexact Hs
    isplitl [Hd]; · iexact Hd
    isplitl [Ht]; · iexact Ht
    iapply hr $$ HC
  iintro Hc
  iapply Hz
  iexact Hc

theorem ag_pos {d : Bool} {t : Fin 15} {q : Fin 4} {k : ℕ} (hk : ppos (pAg d t q) < k) : 2 ≤ k := by
  have : ppos (pAg d t q) = 234 + 8 * t.val + 2 * q.val + d.toNat := rfl
  omega

theorem tr_got (c : Dev nD) (d : Bool) (t : Fin 15) (q : Fin 4) (k : ℕ) (hk : ppos (pAg d t q) < k) :
    Tr (Ctx X Y κ ιs c) c
      iprop(OW c k ∗ atPos ER (cell c (agR d t q)) 0 ∅ 0 ∗ cred (tallyAt (cell c (agR d t q)) (plv (pAg d t q)) Nag))
      (fun z => Body.got A0 (W0 c) d t q z)
      iprop(OW c k ∗ atPos ER (cell c (agR d t q)) 1 ∅ 0 ∗ Own (oQ c d t.castSucc q) c fullShare (gotV X Y d q t c)) :=
  tr_wait X Y κ ιs (i := agR d t q) rfl rfl (Nag_out c d t.castSucc q) (plv (pAg d t q)) k (plv_le _) (.inr ⟨ag_pos hk, hk⟩)

theorem tr_fwdQ (c : Dev nD) (d : Bool) (t : Fin 14) (q : Fin 4) :
    Tr (Ctx X Y κ ιs c) c
      iprop(OW c (ppos (pAg d t.succ q)) ∗ (atPos ER (cell c (agR d t.castSucc q)) 0 ∅ 0 ∗ cred (tallyAt (cell c (agR d t.castSucc q)) (plv (pAg d t.castSucc q)) Nag))
        ∗ outAny (nx d c) (nx d c) d t.succ.castSucc q ∗ agRes c d t.succ q)
      (fun z => Body.fwdQ A0 (W0 c) t q d z)
      iprop(OW c (ppos (pAg d t.succ q) + 1) ∗ atPos ER (cell c (agR d t.castSucc q)) 1 ∅ 0 ∗ cred (tallyAt (cell c (agS d t.succ q)) 0 Nag)) := by
  intro z Φ
  have hn : (outAny (nx d c) (nx d c) d t.succ.castSucc q : SP F) = outAny (nx d c) c d t.castSucc.castSucc q := outAny_next (nx d c) c d t.castSucc q
  rw [hn]
  unfold Body.fwdQ agRes outAny
  iintro ⟨#HC, ⟨HO, ⟨Hat, Hcr⟩, Hd, Ht, Ht'⟩, Hz⟩
  iapply (tr_got X Y κ ιs c d t.castSucc q (ppos (pAg d t.succ q)) (by
    show 234 + 8 * t.val + 2 * q.val + d.toNat < 234 + 8 * (t.val + 1) + 2 * q.val + d.toNat
    omega) _ Φ)
  isplitr; · iexact HC
  isplitl [HO Hat Hcr]
  · isplitl [HO]; · iexact HO
    isplitl [Hat]; · iexact Hat
    iexact Hcr
  iintro ⟨HO, Hat, Hs⟩
  iapply (tr_nsend X Y κ ιs d (i := agS d t.succ q) (j := agR d t.succ q) (sS := Ops.semAt (A0.agS d) t.succ q) (sR := Ops.semAt (A0.agR d) t.succ q)
    (src := oQ c d t.castSucc.castSucc q) (dst := oQ c d t.castSucc.castSucc q)
    (q := fullShare) (f := gotV X Y d q t.val c) (pAg d t.succ q) rfl rfl rfl rfl (Nag_out c d t.castSucc.castSucc q) rfl ⟨rfl, rfl, rfl⟩
    (Entails.of_eq (pay_fwd X Y c d t q).symm)
    (by have h1 : gotV X Y d q t.val c = gotV X Y d q (t.val + 1) (nx d c) := by
          show _ = gotV X Y d q t.val (pv d (nx d c)); rw [pv_nx]
        have h2 := oQ_next (F := F) c d t.castSucc q (nx d c) fullShare (gotV X Y d q (t.val + 1) (nx d c))
        rw [h1]
        exact Entails.of_eq h2.symm) z Φ)
  isplitr; · iexact HC
  isplitl [HO Hs Hd Ht Ht']
  · isplitl [HO]; · iexact HO
    isplitl [Hs]; · iexact Hs
    isplitl [Hd]; · iexact Hd
    isplitl [Ht] <;> iassumption
  iintro ⟨HO, Hcr⟩
  iapply Hz
  isplitl [HO]; · iexact HO
  isplitl [Hat]; · iexact Hat
  iexact Hcr

theorem tr_copied (c : Dev nD) (d : Bool) (q : Fin 4) (k : ℕ) :
    Tr (Ctx X Y κ ιs c) c
      iprop(OW c k ∗ atPos ER (cell c (cpC d q)) 0 ∅ 0 ∗ cred (tallyAt (cell c (cpC d q)) 0 Nag))
      (fun z => Body.copied A0 (W0 c) q d z)
      iprop(OW c k ∗ atPos ER (cell c (cpC d q)) 1 ∅ 0 ∗ Own (oQ c d 15 q) c fullShare (finV X Y d q c) ∗ Own (A0.finQ d q) c fullShare.right (finV X Y d q c)) :=
  tr_wait X Y κ ιs (i := cpC d q) rfl rfl (Nag_out c d 15 q) 0 k (by decide) (.inl rfl)

theorem tr_ownGone (c : Dev nD) (d : Bool) (q : Fin 4) (k : ℕ) :
    Tr (Ctx X Y κ ιs c) c
      iprop(OW c k ∗ atPos ER (cell c (agS d 0 q)) 0 ∅ 0 ∗ cred (tallyAt (cell c (agS d 0 q)) 0 Nag))
      (fun z => Body.ownGone A0 (W0 c) q d z)
      iprop(OW c k ∗ atPos ER (cell c (agS d 0 q)) 1 ∅ 0 ∗ Own (A0.finQ d q) c fullShare.left (finV X Y d q c)) :=
  (tr_wait X Y κ ιs (i := agS d 0 q) rfl rfl (Nag_fin d q) 0 k (by decide) (.inl rfl)).mono .rfl
    (sep_mono_right (sep_mono_right (Entails.of_eq (pay_own X Y c d q))))

theorem tr_fwdGone (c : Dev nD) (d : Bool) (t : Fin 14) (q : Fin 4) (k : ℕ) :
    Tr (Ctx X Y κ ιs c) c
      iprop(OW c k ∗ atPos ER (cell c (agS d t.succ q)) 0 ∅ 0 ∗ cred (tallyAt (cell c (agS d t.succ q)) 0 Nag))
      (fun z => Body.fwdGone A0 (W0 c) t q d z)
      iprop(OW c k ∗ atPos ER (cell c (agS d t.succ q)) 1 ∅ 0 ∗ Own (oQ c d t.castSucc.castSucc q) c fullShare (gotV X Y d q t.val c)) :=
  (tr_wait X Y κ ιs (i := agS d t.succ q) rfl rfl (Nag_out c d t.castSucc.castSucc q) 0 k (by decide) (.inl rfl)).mono .rfl
    (sep_mono_right (sep_mono_right (Entails.of_eq (pay_fwd X Y c d t q))))

end Cert.Ring
-- ==== Proof.Loops.lean ====
/- The steps of the sum phase put together. -/
module

public import proofs.«01_k».proof.Proof.Leaf2

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

attribute [local instance] Cert.KernelIdeal.Gen.facts

local notation "𝕄" => MT nD τ sig ℕ (Elt F) ℕ UU ℕ

variable (X : Dev nD → S8192x512.Idx → Elt F .bf16) (Y : Dev nD → S512x4096.Idx → Elt F .bf16)
variable (κ : GSem nD τ sig → ℕ) (ιs : Key → ℕ)

/-! ## What every device may consult -/

/-! ## Both directions, all quarters -/

def Qd (Φ : Bool → Fin 4 → SP F) : SP F := bigSep Finset.univ fun q : Fin 4 => iprop(Φ false q ∗ Φ true q)

theorem bool_mono {Φ Ψ : Bool → SP F} (h : ∀ d, Φ d ⊢ Ψ d) : iprop(Φ false ∗ Φ true) ⊢ iprop(Ψ false ∗ Ψ true) := BIClass.sep_mono (h false) (h true)

theorem Qd_mono {Φ Ψ : Bool → Fin 4 → SP F} (h : ∀ d q, Φ d q ⊢ Ψ d q) : Qd Φ ⊢ Qd Ψ :=
  bigSep_mono fun q _ => bool_mono (Φ := fun d => Φ d q) (Ψ := fun d => Ψ d q) fun d => h d q

theorem Qd_split (Φ : Bool → Fin 4 → SP F) : Qd Φ = iprop((bigSep Finset.univ fun q => Φ false q) ∗ (bigSep Finset.univ fun q => Φ true q)) := by
  unfold Qd; exact bigSep_sep' ..

theorem Qd_sep (Φ Ψ : Bool → Fin 4 → SP F) : Qd (fun d q => iprop(Φ d q ∗ Ψ d q)) = iprop(Qd Φ ∗ Qd Ψ) := by
  have e (q : Fin 4) : iprop((Φ false q ∗ Ψ false q) ∗ (Φ true q ∗ Ψ true q)) = iprop((Φ false q ∗ Φ true q) ∗ (Ψ false q ∗ Ψ true q)) := by
    refine eq_of ?_ ?_
    · iintro ⟨⟨H1, H2⟩, ⟨H3, H4⟩⟩
      isplitl [H1 H3]
      · isplitl [H1] <;> iassumption
      isplitl [H2] <;> iassumption
    · iintro ⟨⟨H1, H2⟩, ⟨H3, H4⟩⟩
      isplitl [H1 H3]
      · isplitl [H1] <;> iassumption
      isplitl [H2] <;> iassumption
  unfold Qd
  simp only [e]
  exact bigSep_sep' ..

theorem ow_cast {c : Dev nD} {k k' : ℕ} (h : k = k') : (OW c k : SP F) ⊢ OW c k' := by rw [h]

/-! ## A step -/

/-- Credits used before the quarter `i` of step `s`. -/
def cw (s i : ℕ) : ℕ := if 2 ≤ s then 4 * (s - 2) + i else 0

/-- The credit a send of step `s` waits for, from step 2 on. -/
def credPer (c : Dev nD) (d : Bool) (s : Fin 14) (q : Fin 4) : SP F :=
  if h : 2 ≤ s.val then cred (tallyAt (cell c (crC d)) (plv (pCr d ⟨s.val - 2, by omega⟩ q)) 1) else iprop(emp)

/-- What quarter `q` of step `s` uses up. -/
def RA (c : Dev nD) (s : Fin 14) (d : Bool) (q : Fin 4) : SP F :=
  iprop((atPos ER (cell c (rsR d s.castSucc q)) 0 ∅ 0 ∗ cred (tallyAt (cell c (rsR d s.castSucc q)) (plv (pRs d s.castSucc q)) Nrs))
    ∗ sendRes c d s.succ q ∗ credPer c d s q)
def QA (c : Dev nD) (s : Fin 14) (d : Bool) (q : Fin 4) : SP F :=
  iprop(atPos ER (cell c (rsR d s.castSucc q)) 1 ∅ 0 ∗ cred (tallyAt (cell c (rsS d s.succ q)) 0 Nrs))

theorem ppos_rs (d : Bool) (s : Fin 14) (q : Fin 4) : ppos (pRs d s.succ q) = 10 + 16 * s.val + 2 * q.val + d.toNat := by
  dsimp only [ppos]
  rw [if_neg (show s.succ.val ≠ 0 from Nat.succ_ne_zero s.val)]; rfl
theorem ppos_rs_lt (d : Bool) (s : Fin 15) (q : Fin 4) : ppos (pRs d s q) < 10 + 16 * s.val := by
  have := toNat_le d; have := q.isLt
  dsimp only [ppos]; split <;> omega

theorem own_val_congr {sp : Space} {s : Shape} {e : EltTy} {m : Memref sig .tc sp s e} {c : Dev nD} {sh : PosShare TreeShare} {f f' : s.Idx → Elt F e} (h : f = f') :
    (Own m c sh f : SP F) ⊢ Own m c sh f' := by rw [h]

theorem tr_stepQ (c : Dev nD) (d : Bool) (s : Fin 14) (q : Fin 4) :
    Tr (Ctx X Y κ ιs c) c
      iprop(OW c (10 + 16 * s.val + 2 * q.val + d.toNat) ∗ Own (A0.loc d) c fullShare (locV X Y d s.castSucc c) ∗ crSt c d (cw s.val q.val) ∗ RA c s d q)
      (fun z => Body.stepQ A0 (W0 c) s q d z)
      iprop(OW c (10 + 16 * s.val + 2 * q.val + d.toNat + 1) ∗ Own (A0.loc d) c fullShare (locV X Y d s.castSucc c) ∗ crSt c d (cw s.val (q.val + 1)) ∗ QA c s d q) := by
  have hq := q.isLt
  have hs := s.isLt
  intro z Φ
  unfold Body.stepQ RA QA
  rw [← ppos_rs]
  iintro ⟨#HC, ⟨HO, Hl, Hcs, ⟨⟨Hat, Hcr⟩, Hsr, Hcp⟩⟩, Hz⟩
  have hk : ppos (pRs d s.castSucc q) < ppos (pRs d s.succ q) := by
    have := ppos_rs_lt d s.castSucc q; rw [ppos_rs]
    have e : s.castSucc.val = s.val := rfl
    omega
  have hk2 : 2 ≤ ppos (pRs d s.succ q) := by rw [ppos_rs]; omega
  iapply (tr_recv X Y κ ιs c d s.castSucc q _ hk2 hk _ Φ)
  isplitr; · iexact HC
  isplitl [HO Hat Hcr]
  · isplitl [HO]; · iexact HO
    isplitl [Hat] <;> iassumption
  iintro ⟨HO, Hat, Hs⟩
  iapply (tr_addQ X Y (C := Ctx X Y κ ιs c) c d s.castSucc q _ Φ)
  isplitr; · iexact HC
  isplitl [Hs Hl]
  · isplitl [Hs] <;> iassumption
  iintro ⟨Hs, Hl⟩
  by_cases h2 : 2 ≤ s.val
  · have e : Nat.ble 2 s.val = true := Nat.ble_eq.mpr h2
    rw [e, cond_true]
    have ew : cw s.val q.val = 4 * (⟨s.val - 2, by omega⟩ : Fin 12).val + q.val := if_pos h2
    have ew' : cw s.val (q.val + 1) = 4 * (⟨s.val - 2, by omega⟩ : Fin 12).val + q.val + 1 := if_pos h2
    rw [ew, ew']
    have ec : (credPer c d s q : SP F) = cred (tallyAt (cell c (crC d)) (plv (pCr d ⟨s.val - 2, by omega⟩ q)) 1) := dif_pos h2
    ihave Hcp := (Entails.of_eq ec) $$ Hcp
    iapply (tr_credit X Y κ ιs c d ⟨s.val - 2, by omega⟩ q _ hk2 (by
      rw [ppos_rs]; show 18 + 16 * (s.val - 2) + 2 * q.val + d.toNat < _; omega) _ Φ)
    isplitr; · iexact HC
    isplitl [HO Hcs Hcp]
    · isplitl [HO]; · iexact HO
      isplitl [Hcs] <;> iassumption
    iintro ⟨HO, Hcs, Hrel⟩
    have ek : (⟨(⟨s.val - 2, by omega⟩ : Fin 12).val + 3, by show s.val - 2 + 3 < 15; omega⟩ : Fin 15) = s.succ := Fin.ext (by show s.val - 2 + 3 = s.val + 1; omega)
    rw [ek]
    iapply (tr_send X Y κ ιs c d s.succ q z Φ)
    isplitr; · iexact HC
    isplitl [HO Hs Hrel Hsr]
    · isplitl [HO]; · iexact HO
      isplitl [Hs]; · iexact Hs
      isplitl [Hrel] <;> iassumption
    iintro ⟨HO, Hc⟩
    iapply Hz
    isplitl [HO]; · iexact HO
    isplitl [Hl]; · iexact Hl
    isplitl [Hcs]; · iexact Hcs
    isplitl [Hat] <;> iassumption
  · have e : Nat.ble 2 s.val = false := by
      rw [← Bool.not_eq_true]; intro h; exact h2 (Nat.ble_eq.mp h)
    rw [e, cond_false]
    have ew : cw s.val q.val = cw s.val (q.val + 1) := (if_neg h2).trans (if_neg h2).symm
    rw [ew]
    iapply (tr_send X Y κ ιs c d s.succ q z Φ)
    isplitr; · iexact HC
    isplitl [HO Hs Hsr]
    · isplitl [HO]; · iexact HO
      isplitl [Hs]; · iexact Hs
      isplitr
      · iapply (Ctx_first X Y κ ιs c d s.succ (by show s.val + 1 ≤ 2; omega) q) $$ HC
      iexact Hsr
    iintro ⟨HO, Hc⟩
    iapply Hz
    isplitl [HO]; · iexact HO
    isplitl [Hl]; · iexact Hl
    isplitl [Hcs]; · iexact Hcs
    isplitl [Hat] <;> iassumption

/-- The local buffers after the products of step `s`, and at any contents. -/
def locs (c : Dev nD) (s : Fin 15) : SP F := iprop(Own (A0.loc false) c fullShare (locV X Y false s c) ∗ Own (A0.loc true) c fullShare (locV X Y true s c))
def locsAny (c : Dev nD) : SP F := iprop((∃ f, Own (A0.loc false) c fullShare f) ∗ (∃ f, Own (A0.loc true) c fullShare f))

theorem tr_loopA (c : Dev nD) (s : Fin 14) :
    Tr (Ctx X Y κ ιs c) c
      iprop((OW c (10 + 16 * s.val) ∗ locs X Y c s.castSucc ∗ (crSt c false (cw s.val 0) ∗ crSt c true (cw s.val 0))) ∗ Qd (RA c s))
      (fun z => each 4 (fun q k => Body.stepQ A0 (W0 c) s q false (Body.stepQ A0 (W0 c) s q true k)) z)
      iprop((OW c (10 + 16 * s.val + 8) ∗ locs X Y c s.castSucc ∗ (crSt c false (cw s.val 4) ∗ crSt c true (cw s.val 4))) ∗ Qd (QA c s)) := by
  refine Tr.each 4 (fun i => iprop(OW c (10 + 16 * s.val + 2 * i) ∗ locs X Y c s.castSucc ∗ (crSt c false (cw s.val i) ∗ crSt c true (cw s.val i))))
    (fun q => iprop(RA c s false q ∗ RA c s true q)) (fun q => iprop(QA c s false q ∗ QA c s true q)) _ (fun q => ?_)
  intro z Φ
  unfold locs
  iintro ⟨#HC, ⟨⟨HO, ⟨Hl, Hl'⟩, ⟨Hc, Hc'⟩⟩, ⟨HR, HR'⟩⟩, Hz⟩
  iapply (tr_stepQ X Y κ ιs c false s q _ Φ)
  isplitr; · iexact HC
  isplitl [HO Hl Hc HR]
  · isplitl [HO]; · iexact HO
    isplitl [Hl]; · iexact Hl
    isplitl [Hc] <;> iassumption
  iintro ⟨HO, Hl, Hc, HQ⟩
  iapply (tr_stepQ X Y κ ιs c true s q z Φ)
  isplitr; · iexact HC
  isplitl [HO Hl' Hc' HR']
  · isplitl [HO]; · iexact HO
    isplitl [Hl']; · iexact Hl'
    isplitl [Hc'] <;> iassumption
  iintro ⟨HO, Hl', Hc', HQ'⟩
  iapply Hz
  isplitr [HQ HQ']
  · isplitl [HO]; · iexact HO
    isplitl [Hl Hl']
    · isplitl [Hl] <;> iassumption
    isplitl [Hc] <;> iassumption
  isplitl [HQ] <;> iassumption

theorem tr_loopB (c : Dev nD) (d : Bool) (s : Fin 15) (k : ℕ) :
    Tr (Ctx X Y κ ιs c) c
      iprop(OW c k ∗ bigSep Finset.univ fun q : Fin 4 => iprop(atPos ER (cell c (rsS d s q)) 0 ∅ 0 ∗ cred (tallyAt (cell c (rsS d s q)) 0 Nrs)))
      (fun z => each 4 (fun q k => Body.sent A0 d s q k) z)
      iprop(OW c k ∗ bigSep Finset.univ fun q : Fin 4 => iprop(atPos ER (cell c (rsS d s q)) 1 ∅ 0 ∗ slotAny c d (slotOf s) q)) := by
  refine Tr.each 4 (fun _ => OW c k) _ _ _ (fun q => ?_)
  refine (tr_sent X Y κ ιs c d s q k).mono .rfl (sep_mono_right (sep_mono_right ?_))
  unfold slotAny
  iintro H; iexists _; iexact H

/-- What handing back the slots of step `s` uses up. -/
def giveRes (c : Dev nD) (s : Fin 12) (d : Bool) (q : Fin 4) : SP F :=
  iprop(dutyTok ER (cell (pv d c) (crC d)) 0 (4 * s.val + q.val) ∗ readerAt ES (key c d ⟨s.val + 3, by omega⟩ q) 0)

theorem tr_loopC (c : Dev nD) (s : Fin 12) :
    Tr (Ctx X Y κ ιs c) c
      iprop((OW c (18 + 16 * s.val) ∗ (Hist c false (4 * s.val) ∗ Hist c true (4 * s.val))) ∗ Qd (fun d q => iprop(giveRes c s d q ∗ slotAny c d (slotOf s) q)))
      (fun z => each 4 (fun q k => Body.give A0 (W0 c) false (Body.give A0 (W0 c) true k)) z)
      iprop((OW c (18 + 16 * s.val + 8) ∗ (Hist c false (4 * s.val + 4) ∗ Hist c true (4 * s.val + 4))) ∗ bigSep Finset.univ fun _ : Fin 4 => iprop(emp)) := by
  refine Tr.each 4 (fun i => iprop(OW c (18 + 16 * s.val + 2 * i) ∗ (Hist c false (4 * s.val + i) ∗ Hist c true (4 * s.val + i))))
    (fun q => iprop((giveRes c s false q ∗ slotAny c false (slotOf s) q) ∗ (giveRes c s true q ∗ slotAny c true (slotOf s) q))) (fun _ => iprop(emp)) _ (fun q => ?_)
  intro z Φ
  unfold giveRes slotAny
  iintro ⟨#HC, ⟨⟨HO, ⟨Hh, Hh'⟩⟩, ⟨⟨⟨Ht, Hr⟩, Hs⟩, ⟨⟨Ht', Hr'⟩, Hs'⟩⟩⟩, Hz⟩
  iapply (tr_give X Y κ ιs c false s q _ Φ)
  isplitr; · iexact HC
  isplitl [HO Hh Ht Hr Hs]
  · isplitl [HO Hh]
    · isplitl [HO]; · iexact HO
      iexact Hh
    isplitl [Ht]; · iexact Ht
    isplitl [Hr] <;> iassumption
  iintro ⟨HO, Hh⟩
  iapply (tr_give X Y κ ιs c true s q z Φ)
  isplitr; · iexact HC
  isplitl [HO Hh' Ht' Hr' Hs']
  · isplitl [HO Hh']
    · isplitl [HO]; · iexact HO
      iexact Hh'
    isplitl [Ht']; · iexact Ht'
    isplitl [Hr'] <;> iassumption
  iintro ⟨HO, Hh'⟩
  iapply Hz
  isplitl
  · isplitl [HO]; · iexact HO
    isplitl [Hh] <;> iassumption
  iempintro

/-! ## The steps -/

/-- The operands, in the body's fast memory. -/
def XW (c : Dev nD) : SP F := iprop(Own A0.x c fullShare (X c) ∗ Own A0.w c fullShare (Y c))

theorem tr_prods {C : SP F} [BI.Persistent C] (c : Dev nD) (s : Fin 15) :
    Tr C c iprop(XW X Y c ∗ locsAny c) (fun z => Body.prod A0 (W0 c) false s (Body.prod A0 (W0 c) true s z)) iprop(XW X Y c ∗ locs X Y c s) := by
  intro z Φ
  unfold XW locsAny locs
  iintro ⟨#HC, ⟨⟨Hx, Hw⟩, ⟨H, H'⟩⟩, Hz⟩
  iapply (tr_prod X Y (C := C) c fullShare fullShare false s _ Φ)
  isplitr; · iexact HC
  isplitl [Hx Hw H]
  · isplitl [Hx]; · iexact Hx
    isplitl [Hw] <;> iassumption
  iintro ⟨Hx, Hw, H⟩
  iapply (tr_prod X Y (C := C) c fullShare fullShare true s z Φ)
  isplitr; · iexact HC
  isplitl [Hx Hw H']
  · isplitl [Hx]; · iexact Hx
    isplitl [Hw] <;> iassumption
  iintro ⟨Hx, Hw, H'⟩
  iapply Hz
  isplitl [Hx Hw]
  · isplitl [Hx] <;> iassumption
  isplitl [H] <;> iassumption

theorem locs_any (c : Dev nD) (s : Fin 15) : locs X Y c s ⊢ (locsAny c : SP F) := by
  unfold locs locsAny
  iintro ⟨H, H'⟩
  isplitl [H]
  · iexists _; iexact H
  iexists _; iexact H'

/-- Slots handed back before step `n`. -/
def hc (n : ℕ) : ℕ := 4 * min n 12

/-- Before step `n`. -/
def ST (c : Dev nD) (n : ℕ) : SP F :=
  iprop(OW c (10 + 16 * n) ∗ XW X Y c ∗ locsAny c ∗ (crSt c false (cw n 0) ∗ crSt c true (cw n 0)) ∗ (Hist c false (hc n) ∗ Hist c true (hc n))
    ∗ Qd fun d q => cred (tallyAt (cell c (rsS d (Fin.ofNat 15 n) q)) 0 Nrs))

def giveR (c : Dev nD) (s : Fin 14) (d : Bool) (q : Fin 4) : SP F := if h : s.val ≤ 11 then giveRes c ⟨s.val, by omega⟩ d q else iprop(emp)
def keepS (c : Dev nD) (s : Fin 14) (d : Bool) (q : Fin 4) : SP F := if s.val ≤ 11 then iprop(emp) else slotAny c d (slotOf s) q

/-- Used up by step `s`, and left by it. -/
def RS (c : Dev nD) (s : Fin 14) : SP F :=
  iprop(Qd (RA c s) ∗ Qd (fun d q => atPos ER (cell c (rsS d s.castSucc q)) 0 ∅ 0) ∗ Qd (giveR c s))
def QS (c : Dev nD) (s : Fin 14) : SP F :=
  iprop(Qd (fun d q => atPos ER (cell c (rsR d s.castSucc q)) 1 ∅ 0) ∗ Qd (fun d q => atPos ER (cell c (rsS d s.castSucc q)) 1 ∅ 0) ∗ Qd (keepS c s))

/-- The waits for both directions' sends of a step. -/
theorem tr_loopBB (c : Dev nD) (s : Fin 15) (k : ℕ) :
    Tr (Ctx X Y κ ιs c) c
      iprop(OW c k ∗ Qd (fun d q => atPos ER (cell c (rsS d s q)) 0 ∅ 0) ∗ Qd (fun d q => cred (tallyAt (cell c (rsS d s q)) 0 Nrs)))
      (fun z => each 4 (fun q k => Body.sent A0 false s q k) (each 4 (fun q k => Body.sent A0 true s q k) z))
      iprop(OW c k ∗ Qd (fun d q => atPos ER (cell c (rsS d s q)) 1 ∅ 0) ∗ Qd (fun d q => slotAny c d (slotOf s) q)) := by
  intro z Φ
  iintro ⟨#HC, ⟨HO, Ha, Hc⟩, Hz⟩
  have e := Qd_sep (F := F) (fun d q => atPos ER (cell c (rsS d s q)) 0 ∅ 0) (fun d q => cred (tallyAt (cell c (rsS d s q)) 0 Nrs))
  rw [Qd_split] at e
  have e' := Qd_sep (F := F) (fun d q => atPos ER (cell c (rsS d s q)) 1 ∅ 0) (fun d q => slotAny c d (slotOf s) q)
  rw [Qd_split] at e'
  ihave H := (Entails.of_eq e.symm) $$ [Ha Hc]
  · isplitl [Ha] <;> iassumption
  icases H with ⟨H, H'⟩
  iapply (tr_loopB X Y κ ιs c false s k _ Φ)
  isplitr; · iexact HC
  isplitl [HO H]
  · isplitl [HO] <;> iassumption
  iintro ⟨HO, H⟩
  iapply (tr_loopB X Y κ ιs c true s k z Φ)
  isplitr; · iexact HC
  isplitl [HO H']
  · isplitl [HO] <;> iassumption
  iintro ⟨HO, H'⟩
  iapply Hz
  isplitl [HO]; · iexact HO
  ihave H := (Entails.of_eq e') $$ [H H']
  · isplitl [H] <;> iassumption
  iexact H

theorem ofNat_cast (s : Fin 14) : Fin.ofNat 15 s.val = s.castSucc := Fin.ext (Nat.mod_eq_of_lt (by omega))
theorem ofNat_succ (s : Fin 14) : Fin.ofNat 15 (s.val + 1) = s.succ := Fin.ext (Nat.mod_eq_of_lt (by omega))

/-- What is between the payments of the steps 12 and 13 and the next. -/
theorem ow_skip (c : Dev nD) (s : ℕ) (h : 12 ≤ s) (h' : s ≤ 13) : (OW c (10 + 16 * s + 8) : SP F) ⊢ OW c (10 + 16 * (s + 1)) := by
  rw [OW_gap (k' := 10 + 16 * (s + 1)) (by omega)]
  intro p hp
  rcases p with (d | ⟨d, s', q⟩) | (⟨d, s', q⟩ | ⟨d, s', q⟩) <;> dsimp only [ppos] at hp ⊢ <;> have := toNat_le d
  · omega
  all_goals have := s'.isLt; have := q.isLt
  · split at hp
    · omega
    · rw [if_neg (by assumption)]; omega
  · omega
  · omega

theorem cw_next (s : Fin 14) : cw s.val 4 = cw (s.val + 1) 0 := by unfold cw; split <;> split <;> omega

theorem tr_step (c : Dev nD) (s : Fin 14) :
    Tr (Ctx X Y κ ιs c) c iprop(ST X Y c s.val ∗ RS c s) (fun z => Body.step A0 (W0 c) s z) iprop(ST X Y c (s.val + 1) ∗ QS c s) := by
  have hs := s.isLt
  intro z Φ
  unfold Body.step ST RS QS
  rw [ofNat_cast, ofNat_succ]
  iintro ⟨#HC, ⟨⟨HO, HXW, HL, HCs, HH, Hcr⟩, HA, HB, HG⟩, Hz⟩
  iapply (tr_prods X Y (C := Ctx X Y κ ιs c) c s.castSucc _ Φ)
  isplitr; · iexact HC
  isplitl [HXW HL]
  · isplitl [HXW] <;> iassumption
  iintro ⟨HXW, HL⟩
  iapply (tr_loopA X Y κ ιs c s _ Φ)
  isplitr; · iexact HC
  isplitl [HO HL HCs HA]
  · isplitr [HA]
    · isplitl [HO]; · iexact HO
      isplitl [HL] <;> iassumption
    iexact HA
  iintro ⟨⟨HO, HL, HCs⟩, HQA⟩
  have eQ : (Qd (QA c s) : SP F) = iprop(Qd (fun d q => atPos ER (cell c (rsR d s.castSucc q)) 1 ∅ 0) ∗ Qd (fun d q => cred (tallyAt (cell c (rsS d s.succ q)) 0 Nrs))) := Qd_sep (F := F) (fun d q => atPos ER (cell c (rsR d s.castSucc q)) 1 ∅ 0) (fun d q => cred (tallyAt (cell c (rsS d s.succ q)) 0 Nrs))
  ihave HQA := (Entails.of_eq eQ) $$ HQA
  icases HQA with ⟨HQ1, HQ2⟩
  ihave HL := (locs_any X Y c s.castSucc) $$ HL
  iapply (tr_loopBB X Y κ ιs c s.castSucc (10 + 16 * s.val + 8) _ Φ)
  isplitr; · iexact HC
  isplitl [HO HB Hcr]
  · isplitl [HO]; · iexact HO
    isplitl [HB] <;> iassumption
  iintro ⟨HO, HB, HS⟩
  rw [cw_next]
  by_cases h : s.val ≤ 11
  · have e : Nat.ble s.val 11 = true := Nat.ble_eq.mpr h
    rw [e, cond_true]
    have eh : hc s.val = 4 * (⟨s.val, by omega⟩ : Fin 12).val := by unfold hc; rw [Nat.min_eq_left (by omega)]
    have eh' : hc (s.val + 1) = 4 * (⟨s.val, by omega⟩ : Fin 12).val + 4 := by
      show hc (s.val + 1) = 4 * s.val + 4
      unfold hc; rw [Nat.min_eq_left (by omega)]; omega
    rw [eh, eh']
    have eg : (Qd (giveR c s) : SP F) = Qd (giveRes c ⟨s.val, by omega⟩) := congrArg Qd (by funext d q; exact dif_pos h)
    ihave HG := (Entails.of_eq eg) $$ HG
    have ek : (Qd (keepS c s) : SP F) = iprop(emp) := by
      rw [show keepS c s = fun _ _ => (iprop(emp) : SP F) from by funext d q; exact if_pos h]
      unfold Qd
      rw [show (fun q : Fin 4 => (iprop(emp ∗ emp) : SP F)) = fun _ => iprop(emp) from by funext q; exact eq_of (by iintro -; iempintro) (by iintro -; isplitr <;> iempintro)]
      exact bigSep_emp_const _
    have es := Qd_sep (F := F) (giveRes c ⟨s.val, by omega⟩) (fun d q => slotAny c d (slotOf s) q)
    ihave HS := (Entails.of_eq es.symm) $$ [HG HS]
    · isplitl [HG]; · iexact HG
      iexact HS
    ihave HO := (ow_cast (k' := 18 + 16 * s.val) (by omega)) $$ HO
    iapply (tr_loopC X Y κ ιs c ⟨s.val, by omega⟩ z Φ)
    isplitr; · iexact HC
    isplitl [HO HH HS]
    · isplitl [HO HH]
      · isplitl [HO] <;> iassumption
      iexact HS
    iintro ⟨⟨HO, HH⟩, -⟩
    ihave HO := (ow_cast (k' := 10 + 16 * (s.val + 1)) (by show 18 + 16 * s.val + 8 = _; omega)) $$ HO
    iapply Hz
    isplitr [HQ1 HB]
    · isplitl [HO]; · iexact HO
      isplitl [HXW]; · iexact HXW
      isplitl [HL]; · iexact HL
      isplitl [HCs]; · iexact HCs
      isplitl [HH] <;> iassumption
    isplitl [HQ1]; · iexact HQ1
    isplitl [HB]; · iexact HB
    rw [ek]; iempintro
  · have e : Nat.ble s.val 11 = false := by
      rw [← Bool.not_eq_true]; intro hh; exact h (Nat.ble_eq.mp hh)
    rw [e, cond_false]
    have eh : hc s.val = hc (s.val + 1) := by unfold hc; rw [Nat.min_eq_right (by omega), Nat.min_eq_right (by omega)]
    rw [eh]
    have ek : (Qd (keepS c s) : SP F) = Qd fun d q => slotAny c d (slotOf s) q := congrArg Qd (by funext d q; exact if_neg h)
    rw [ek]
    ihave HO := (ow_skip c s.val (by omega) (by omega)) $$ HO
    iapply Hz
    isplitr [HQ1 HB HS]
    · isplitl [HO]; · iexact HO
      isplitl [HXW]; · iexact HXW
      isplitl [HL]; · iexact HL
      isplitl [HCs]; · iexact HCs
      isplitl [HH] <;> iassumption
    isplitl [HQ1]; · iexact HQ1
    isplitl [HB]; · iexact HB
    iexact HS

/-- All the steps but the last. -/
theorem tr_steps (c : Dev nD) :
    Tr (Ctx X Y κ ιs c) c iprop(ST X Y c 0 ∗ bigSep Finset.univ (RS c)) (fun z => each 14 (fun s k => Body.step A0 (W0 c) s k) z)
      iprop(ST X Y c 14 ∗ bigSep Finset.univ (QS c)) :=
  Tr.each 14 (ST X Y c) (RS c) (QS c) _ (fun s => tr_step X Y κ ιs c s)

end Cert.Ring
-- ==== Proof.Loops2.lean ====
/- The last step of the sum phase and the gather phase put together: the body from its barrier on. -/
module

public import proofs.«01_k».proof.Proof.Loops

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

attribute [local instance] Cert.KernelIdeal.Gen.facts

local notation "𝕄" => MT nD τ sig ℕ (Elt F) ℕ UU ℕ

variable (X : Dev nD → S8192x512.Idx → Elt F .bf16) (Y : Dev nD → S512x4096.Idx → Elt F .bf16)
variable (κ : GSem nD τ sig → ℕ) (ιs : Key → ℕ)

/-! ## What every device may consult -/

/-- A loop over the quarters of something done in both directions that threads nothing but what is owed. -/
theorem tr_both {C : SP F} [BI.Persistent C] (c : Dev nD) (o : ℕ → SP F) (R Q : Bool → Fin 4 → SP F) (f : Fin 4 → Bool → PU F → PU F)
    (h : ∀ d q, Tr C c iprop(o (2 * q.val + d.toNat) ∗ R d q) (f q d) iprop(o (2 * q.val + d.toNat + 1) ∗ Q d q)) :
    Tr C c iprop(o 0 ∗ Qd R) (fun z => each 4 (fun q k => f q false (f q true k)) z) iprop(o 8 ∗ Qd Q) := by
  refine Tr.each 4 (fun i => o (2 * i)) (fun q => iprop(R false q ∗ R true q)) (fun q => iprop(Q false q ∗ Q true q)) _ (fun q => ?_)
  intro z Φ
  iintro ⟨#HC, ⟨HO, ⟨HR, HR'⟩⟩, Hz⟩
  have h0 : Tr C c iprop(o (2 * q.val) ∗ R false q) (f q false) iprop(o (2 * q.val + 1) ∗ Q false q) := h false q
  have h1 : Tr C c iprop(o (2 * q.val + 1) ∗ R true q) (f q true) iprop(o (2 * (q.val + 1)) ∗ Q true q) := h true q
  iapply (h0 _ Φ)
  isplitr; · iexact HC
  isplitl [HO HR]
  · isplitl [HO]; · iexact HO
    iexact HR
  iintro ⟨HO, HQ⟩
  iapply (h1 z Φ)
  isplitr; · iexact HC
  isplitl [HO HR']
  · isplitl [HO]; · iexact HO
    iexact HR'
  iintro ⟨HO, HQ'⟩
  iapply Hz
  isplitl [HO]; · iexact HO
  isplitl [HQ] <;> iassumption

/-! ## The first sends -/

theorem ppos_rs0 (d : Bool) (q : Fin 4) : ppos (pRs d 0 q) = 2 + 4 * d.toNat + q.val := rfl

theorem tr_sends0 (c : Dev nD) (d : Bool) :
    Tr (Ctx X Y κ ιs c) c
      iprop(OW c (2 + 4 * d.toNat) ∗ bigSep Finset.univ fun q : Fin 4 => iprop(Own (A0.slot d 0 q) c fullShare (sentV X Y d q 0 c) ∗ sendRes c d 0 q))
      (fun z => each 4 (fun q k => Body.send A0 (W0 c) d 0 q k) z)
      iprop(OW c (2 + 4 * d.toNat + 4) ∗ bigSep Finset.univ fun q : Fin 4 => cred (tallyAt (cell c (rsS d 0 q)) 0 Nrs)) := by
  refine Tr.each 4 (fun i => OW c (2 + 4 * d.toNat + i)) _ _ _ (fun q => ?_)
  intro z Φ
  iintro ⟨#HC, ⟨HO, ⟨Hs, HR⟩⟩, Hz⟩
  iapply (tr_send X Y κ ιs c d 0 q z Φ)
  isplitr; · iexact HC
  isplitl [HO Hs HR]
  · isplitl [HO]; · iexact HO
    isplitl [Hs]; · iexact Hs
    isplitr
    · iapply (Ctx_first X Y κ ιs c d 0 (Nat.zero_le _) q) $$ HC
    iexact HR
  iintro ⟨HO, Hc⟩
  iapply Hz
  isplitl [HO]; · iexact HO
  iexact Hc

/-! ## The last step -/

def RL (c : Dev nD) (d : Bool) (q : Fin 4) : SP F :=
  iprop((atPos ER (cell c (rsR d 14 q)) 0 ∅ 0 ∗ cred (tallyAt (cell c (rsR d 14 q)) (plv (pRs d 14 q)) Nrs))
    ∗ (∃ f, Own (A0.finQ d q) c fullShare f) ∗ outAny (nx d c) (nx d c) d 0 q ∗ agRes c d 0 q)
def QL (c : Dev nD) (d : Bool) (q : Fin 4) : SP F :=
  iprop(atPos ER (cell c (rsR d 14 q)) 1 ∅ 0 ∗ slotAny c d (slotOf 15) q
        ∗ Own (A0.finQ d q) c fullShare.right (finV X Y d q c) ∗ cred (tallyAt (cell c (agS d 0 q)) 0 Nag))

theorem tr_loopL (c : Dev nD) :
    Tr (Ctx X Y κ ιs c) c
      iprop((OW c 234 ∗ locs X Y c 14) ∗ Qd (RL c))
      (fun z => each 4 (fun q k => Body.lastQ A0 (W0 c) q false (Body.lastQ A0 (W0 c) q true k)) z)
      iprop((OW c 242 ∗ locs X Y c 14) ∗ Qd (QL X Y c)) := by
  refine tr_both c (fun i => iprop(OW c (234 + i) ∗ locs X Y c 14)) (RL c) (QL X Y c) (fun q d => Body.lastQ A0 (W0 c) q d) (fun d q => ?_)
  intro z Φ
  unfold RL QL locs
  have e : ppos (pAg d 0 q) = 234 + (2 * q.val + d.toNat) := by show 234 + 8 * 0 + 2 * q.val + d.toNat = _; omega
  have e' : ppos (pAg d 0 q) + 1 = 234 + (2 * q.val + d.toNat + 1) := by rw [e]; rfl
  rw [← e, ← e']
  iintro ⟨#HC, ⟨⟨HO, ⟨Hl, Hl'⟩⟩, ⟨Ha, Hf, Ho, Hr⟩⟩, Hz⟩
  cases d
  · iapply (tr_lastQ X Y κ ιs c false q z Φ)
    isplitr; · iexact HC
    isplitr [Hz Hl']
    · isplitl [HO]; · iexact HO
      isplitl [Ha]; · iexact Ha
      isplitl [Hl]; · iexact Hl
      isplitl [Hf]; · iexact Hf
      isplitl [Ho] <;> iassumption
    iintro ⟨HO, Ha, Hs, Hl, Hf, Hc⟩
    iapply Hz
    isplitr [Ha Hs Hf Hc]
    · isplitl [HO]; · iexact HO
      isplitl [Hl] <;> iassumption
    isplitl [Ha]; · iexact Ha
    isplitl [Hs]; · iexact Hs
    isplitl [Hf] <;> iassumption
  · iapply (tr_lastQ X Y κ ιs c true q z Φ)
    isplitr; · iexact HC
    isplitr [Hz Hl]
    · isplitl [HO]; · iexact HO
      isplitl [Ha]; · iexact Ha
      isplitl [Hl']; · iexact Hl'
      isplitl [Hf]; · iexact Hf
      isplitl [Ho] <;> iassumption
    iintro ⟨HO, Ha, Hs, Hl', Hf, Hc⟩
    iapply Hz
    isplitr [Ha Hs Hf Hc]
    · isplitl [HO]; · iexact HO
      isplitl [Hl] <;> iassumption
    isplitl [Ha]; · iexact Ha
    isplitl [Hs]; · iexact Hs
    isplitl [Hf] <;> iassumption

/-! ## The gather phase -/

theorem tr_loopCopy (c : Dev nD) :
    Tr (Ctx X Y κ ιs c) c
      iprop(emp ∗ Qd fun d q => iprop(Own (A0.finQ d q) c fullShare.right (finV X Y d q c) ∗ outAny c c d 15 q ∗ dutyTok ER (cell c (cpC d q)) 0 0))
      (fun z => each 4 (fun q k => Body.copyQ A0 (W0 c) q false (Body.copyQ A0 (W0 c) q true k)) z)
      iprop(emp ∗ Qd fun d q => cred (tallyAt (cell c (cpC d q)) 0 Nag)) := by
  refine tr_both c (fun _ => iprop(emp)) _ _ (fun q d => Body.copyQ A0 (W0 c) q d) (fun d q => ?_)
  refine (tr_copyQ X Y κ ιs c d q).mono sep_elim_right ?_
  iintro H
  isplitr; · iempintro
  iexact H

def RF (c : Dev nD) (t : Fin 14) (d : Bool) (q : Fin 4) : SP F :=
  iprop((atPos ER (cell c (agR d t.castSucc q)) 0 ∅ 0 ∗ cred (tallyAt (cell c (agR d t.castSucc q)) (plv (pAg d t.castSucc q)) Nag))
        ∗ outAny (nx d c) (nx d c) d t.succ.castSucc q ∗ agRes c d t.succ q)
def QF (c : Dev nD) (t : Fin 14) (d : Bool) (q : Fin 4) : SP F :=
  iprop(atPos ER (cell c (agR d t.castSucc q)) 1 ∅ 0 ∗ cred (tallyAt (cell c (agS d t.succ q)) 0 Nag))

theorem tr_loopFwd (c : Dev nD) :
    Tr (Ctx X Y κ ιs c) c
      iprop(OW c 242 ∗ bigSep Finset.univ fun t : Fin 14 => Qd (RF c t))
      (fun z => each 14 (fun t k => each 4 (fun q k => Body.fwdQ A0 (W0 c) t q false (Body.fwdQ A0 (W0 c) t q true k)) k) z)
      iprop(OW c 354 ∗ bigSep Finset.univ fun t : Fin 14 => Qd (QF c t)) := by
  refine Tr.each 14 (fun t => OW c (242 + 8 * t)) _ _ _ (fun t => ?_)
  refine tr_both c (fun i => OW c (242 + 8 * t.val + i)) (RF c t) (QF c t) (fun q d => Body.fwdQ A0 (W0 c) t q d) (fun d q => ?_)
  have e : ppos (pAg d t.succ q) = 242 + 8 * t.val + (2 * q.val + d.toNat) := by
    show 234 + 8 * (t.val + 1) + 2 * q.val + d.toNat = _; omega
  have e' : ppos (pAg d t.succ q) + 1 = 242 + 8 * t.val + (2 * q.val + d.toNat + 1) := by rw [e]; rfl
  rw [← e, ← e']
  exact tr_fwdQ X Y κ ιs c d t q

theorem tr_loopGot (c : Dev nD) :
    Tr (Ctx X Y κ ιs c) c
      iprop(OW c 354 ∗ Qd fun d q => iprop(atPos ER (cell c (agR d 14 q)) 0 ∅ 0 ∗ cred (tallyAt (cell c (agR d 14 q)) (plv (pAg d 14 q)) Nag)))
      (fun z => each 4 (fun q k => Body.got A0 (W0 c) false 14 q (Body.got A0 (W0 c) true 14 q k)) z)
      iprop(OW c 354 ∗ Qd fun d q => iprop(atPos ER (cell c (agR d 14 q)) 1 ∅ 0 ∗ Own (oQ c d 14 q) c fullShare (gotV X Y d q 14 c))) := by
  refine tr_both c (fun _ => OW c 354) _ _ (fun q d => Body.got A0 (W0 c) d 14 q) (fun d q => ?_)
  exact tr_got X Y κ ιs c d 14 q 354 (ppos_le _)

theorem tr_loopCopied (c : Dev nD) :
    Tr (Ctx X Y κ ιs c) c
      iprop(OW c 354 ∗ Qd fun d q => iprop(atPos ER (cell c (cpC d q)) 0 ∅ 0 ∗ cred (tallyAt (cell c (cpC d q)) 0 Nag)))
      (fun z => each 4 (fun q k => Body.copied A0 (W0 c) q false (Body.copied A0 (W0 c) q true k)) z)
      iprop(OW c 354 ∗ Qd fun d q => iprop(atPos ER (cell c (cpC d q)) 1 ∅ 0 ∗ Own (oQ c d 15 q) c fullShare (finV X Y d q c) ∗ Own (A0.finQ d q) c fullShare.right (finV X Y d q c))) :=
  tr_both c (fun _ => OW c 354) _ _ (fun q d => Body.copied A0 (W0 c) q d) (fun d q => tr_copied X Y κ ιs c d q 354)

theorem tr_loopOwn (c : Dev nD) :
    Tr (Ctx X Y κ ιs c) c
      iprop(OW c 354 ∗ Qd fun d q => iprop(atPos ER (cell c (agS d 0 q)) 0 ∅ 0 ∗ cred (tallyAt (cell c (agS d 0 q)) 0 Nag)))
      (fun z => each 4 (fun q k => Body.ownGone A0 (W0 c) q false (Body.ownGone A0 (W0 c) q true k)) z)
      iprop(OW c 354 ∗ Qd fun d q => iprop(atPos ER (cell c (agS d 0 q)) 1 ∅ 0 ∗ Own (A0.finQ d q) c fullShare.left (finV X Y d q c))) :=
  tr_both c (fun _ => OW c 354) _ _ (fun q d => Body.ownGone A0 (W0 c) q d) (fun d q => tr_ownGone X Y κ ιs c d q 354)

def RG (c : Dev nD) (t : Fin 14) (d : Bool) (q : Fin 4) : SP F :=
  iprop(atPos ER (cell c (agS d t.succ q)) 0 ∅ 0 ∗ cred (tallyAt (cell c (agS d t.succ q)) 0 Nag))
def QG (c : Dev nD) (t : Fin 14) (d : Bool) (q : Fin 4) : SP F :=
  iprop(atPos ER (cell c (agS d t.succ q)) 1 ∅ 0 ∗ Own (oQ c d t.castSucc.castSucc q) c fullShare (gotV X Y d q t.val c))

theorem tr_loopGone (c : Dev nD) :
    Tr (Ctx X Y κ ιs c) c
      iprop(OW c 354 ∗ bigSep Finset.univ fun t : Fin 14 => Qd (RG c t))
      (fun z => each 14 (fun t k => each 4 (fun q k => Body.fwdGone A0 (W0 c) t q false (Body.fwdGone A0 (W0 c) t q true k)) k) z)
      iprop(OW c 354 ∗ bigSep Finset.univ fun t : Fin 14 => Qd (QG X Y c t)) := by
  refine Tr.each 14 (fun _ => OW c 354) _ _ _ (fun t => ?_)
  exact tr_both c (fun _ => OW c 354) (RG c t) (QG X Y c t) (fun q d => Body.fwdGone A0 (W0 c) t q d) (fun d q => tr_fwdGone X Y κ ιs c d t q 354)

end Cert.Ring
-- ==== Proof.Rest.lean ====
/- The body from its barrier on. -/
module

public import proofs.«01_k».proof.Proof.Loops2

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

attribute [local instance] Cert.KernelIdeal.Gen.facts

local notation "𝕄" => MT nD τ sig ℕ (Elt F) ℕ UU ℕ

variable (X : Dev nD → S8192x512.Idx → Elt F .bf16) (Y : Dev nD → S512x4096.Idx → Elt F .bf16)
variable (κ : GSem nD τ sig → ℕ) (ιs : Key → ℕ)

/-! ## What every device may consult -/

/-! ## The last step -/

/-- After the last step: the finished quarters under way. -/
def LAST (c : Dev nD) : SP F :=
  iprop((OW c 242 ∗ locsAny c) ∗ XW X Y c ∗ (atPos ER (cell c (crC false)) 1 ∅ 0 ∗ atPos ER (cell c (crC true)) 1 ∅ 0) ∗ Qd (QL X Y c)
    ∗ (Qd (fun d q => atPos ER (cell c (rsS d 14 q)) 1 ∅ 0) ∗ Qd (fun d q => slotAny c d (slotOf (14 : Fin 15).val) q)))

theorem crSt_end (c : Dev nD) (d : Bool) : (crSt c d (cw 14 0) : SP F) ⊢ atPos ER (cell c (crC d)) 1 ∅ 0 := by
  unfold crSt
  rw [if_neg (show ¬ cw 14 0 < 48 by decide)]

theorem tr_last (c : Dev nD) :
    Tr (Ctx X Y κ ιs c) c
      iprop(ST X Y c 14 ∗ Qd (RL c) ∗ Qd (fun d q => atPos ER (cell c (rsS d 14 q)) 0 ∅ 0))
      (fun z => Body.last A0 (W0 c) z)
      (LAST X Y c) := by
  unfold Body.last ST LAST
  intro z Φ
  iintro ⟨#HC, ⟨⟨HO, HXW, HL, ⟨Hc, Hc'⟩, -, HS⟩, HR, HA⟩, Hz⟩
  iapply (tr_prods X Y (C := Ctx X Y κ ιs c) c 14 _ Φ)
  isplitr; · iexact HC
  isplitl [HXW HL]
  · isplitl [HXW] <;> iassumption
  iintro ⟨HXW, HL⟩
  iapply (tr_loopL X Y κ ιs c _ Φ)
  isplitr; · iexact HC
  isplitl [HO HL HR]
  · isplitr [HR]
    · isplitl [HO]; · iexact HO
      iexact HL
    iexact HR
  iintro ⟨⟨HO, HL⟩, HQ⟩
  iapply (tr_loopBB X Y κ ιs c 14 242 z Φ)
  isplitr; · iexact HC
  isplitl [HO HA HS]
  · isplitl [HO]; · iexact HO
    isplitl [HA]; · iexact HA
    iexact HS
  iintro ⟨HO, HA, HS⟩
  iapply Hz
  isplitl [HO HL]
  · isplitl [HO]; · iexact HO
    iapply (locs_any X Y c 14) $$ HL
  isplitl [HXW]; · iexact HXW
  isplitl [Hc Hc']
  · isplitl [Hc]
    · iapply (crSt_end c false) $$ Hc
    · iapply (crSt_end c true) $$ Hc'
  isplitl [HQ]; · iexact HQ
  isplitl [HA]; · iexact HA
  iexact HS

/-! ## The gather phase, whole -/

/-- What the gather phase uses up, besides what the last step leaves. -/
def GRes (c : Dev nD) : SP F :=
  iprop(Qd (fun d q => iprop(outAny c c d 15 q ∗ dutyTok ER (cell c (cpC d q)) 0 0))
    ∗ (bigSep Finset.univ fun t : Fin 14 => Qd (RF c t))
    ∗ Qd (fun d q => iprop(atPos ER (cell c (agR d 14 q)) 0 ∅ 0 ∗ cred (tallyAt (cell c (agR d 14 q)) (plv (pAg d 14 q)) Nag)))
    ∗ Qd (fun d q => atPos ER (cell c (cpC d q)) 0 ∅ 0)
    ∗ Qd (fun d q => atPos ER (cell c (agS d 0 q)) 0 ∅ 0)
    ∗ (bigSep Finset.univ fun t : Fin 14 => Qd fun d q => atPos ER (cell c (agS d t.succ q)) 0 ∅ 0))

/-- What the gather phase leaves, besides the position of the arrivals of the sum phase. -/
def GEnd (c : Dev nD) : SP F :=
  iprop(OW c 354
    ∗ (bigSep Finset.univ fun t : Fin 14 => Qd fun d q => atPos ER (cell c (agR d t.castSucc q)) 1 ∅ 0)
    ∗ Qd (fun d q => iprop(atPos ER (cell c (agR d 14 q)) 1 ∅ 0 ∗ Own (oQ c d 14 q) c fullShare (gotV X Y d q 14 c)))
    ∗ Qd (fun d q => iprop(atPos ER (cell c (cpC d q)) 1 ∅ 0 ∗ Own (oQ c d 15 q) c fullShare (finV X Y d q c) ∗ Own (A0.finQ d q) c fullShare.right (finV X Y d q c)))
    ∗ Qd (fun d q => iprop(atPos ER (cell c (agS d 0 q)) 1 ∅ 0 ∗ Own (A0.finQ d q) c fullShare.left (finV X Y d q c)))
    ∗ (bigSep Finset.univ fun t : Fin 14 => Qd (QG X Y c t)))

/-- The gather phase. -/
def gather (c : Dev nD) (z : PU F) : PU F :=
  each 4 (fun q k => Body.copyQ A0 (W0 c) q false (Body.copyQ A0 (W0 c) q true k)) <|
  each 14 (fun t k => each 4 (fun q k => Body.fwdQ A0 (W0 c) t q false (Body.fwdQ A0 (W0 c) t q true k)) k) <|
  each 4 (fun q k => Body.got A0 (W0 c) false 14 q (Body.got A0 (W0 c) true 14 q k)) <|
  each 4 (fun q k => Body.copied A0 (W0 c) q false (Body.copied A0 (W0 c) q true k)) <|
  each 4 (fun q k => Body.ownGone A0 (W0 c) q false (Body.ownGone A0 (W0 c) q true k)) <|
  each 14 (fun t k => each 4 (fun q k => Body.fwdGone A0 (W0 c) t q false (Body.fwdGone A0 (W0 c) t q true k)) k) z

theorem tr_gather (c : Dev nD) :
    Tr (Ctx X Y κ ιs c) c
      iprop(OW c 242 ∗ Qd (fun d q => Own (A0.finQ d q) c fullShare.right (finV X Y d q c)) ∗ Qd (fun d q => cred (tallyAt (cell c (agS d 0 q)) 0 Nag)) ∗ GRes c)
      (fun z => gather c z) (GEnd X Y c) := by
  unfold gather GRes GEnd
  intro z Φ
  have e1 := Qd_sep (F := F) (fun d q => Own (A0.finQ d q) c fullShare.right (finV X Y d q c)) (fun d q => iprop(outAny c c d 15 q ∗ dutyTok ER (cell c (cpC d q)) 0 0))
  have e2 := Qd_sep (F := F) (fun d q => atPos ER (cell c (cpC d q)) 0 ∅ 0) (fun d q => cred (tallyAt (cell c (cpC d q)) 0 Nag))
  have e3 := Qd_sep (F := F) (fun d q => atPos ER (cell c (agS d 0 q)) 0 ∅ 0) (fun d q => cred (tallyAt (cell c (agS d 0 q)) 0 Nag))
  have e4 : (bigSep Finset.univ fun t : Fin 14 => Qd (QF (F := F) c t))
      = iprop((bigSep Finset.univ fun t : Fin 14 => Qd fun d q => atPos ER (cell c (agR d t.castSucc q)) 1 ∅ 0)
        ∗ (bigSep Finset.univ fun t : Fin 14 => Qd fun d q => cred (tallyAt (cell c (agS d t.succ q)) 0 Nag))) := by
    rw [← bigSep_sep']
    exact congrArg _ (funext fun t => Qd_sep (F := F) (fun d q => atPos ER (cell c (agR d t.castSucc q)) 1 ∅ 0) (fun d q => cred (tallyAt (cell c (agS d t.succ q)) 0 Nag)))
  have e5 : (bigSep Finset.univ fun t : Fin 14 => Qd (RG (F := F) c t))
      = iprop((bigSep Finset.univ fun t : Fin 14 => Qd fun d q => atPos ER (cell c (agS d t.succ q)) 0 ∅ 0)
        ∗ (bigSep Finset.univ fun t : Fin 14 => Qd fun d q => cred (tallyAt (cell c (agS d t.succ q)) 0 Nag))) := by
    rw [← bigSep_sep']
    exact congrArg _ (funext fun t => Qd_sep (F := F) (fun d q => atPos ER (cell c (agS d t.succ q)) 0 ∅ 0) (fun d q => cred (tallyAt (cell c (agS d t.succ q)) 0 Nag)))
  iintro ⟨#HC, ⟨HO, Hf, HS0, ⟨HP, HF, HG, Hcp, Hs0, Hs⟩⟩, Hz⟩
  iapply (tr_loopCopy X Y κ ιs c _ Φ)
  isplitr; · iexact HC
  isplitl [Hf HP]
  · isplitr; · iempintro
    iapply (Entails.of_eq e1.symm)
    isplitl [Hf] <;> iassumption
  iintro ⟨-, HP⟩
  iapply (tr_loopFwd X Y κ ιs c _ Φ)
  isplitr; · iexact HC
  isplitl [HO HF]
  · isplitl [HO]; · iexact HO
    iexact HF
  iintro ⟨HO, HF⟩
  ihave HF := (Entails.of_eq e4) $$ HF
  icases HF with ⟨HF, HFc⟩
  iapply (tr_loopGot X Y κ ιs c _ Φ)
  isplitr; · iexact HC
  isplitl [HO HG]
  · isplitl [HO]; · iexact HO
    iexact HG
  iintro ⟨HO, HG⟩
  iapply (tr_loopCopied X Y κ ιs c _ Φ)
  isplitr; · iexact HC
  isplitl [HO HP Hcp]
  · isplitl [HO]; · iexact HO
    iapply (Entails.of_eq e2.symm)
    isplitl [Hcp] <;> iassumption
  iintro ⟨HO, HP⟩
  iapply (tr_loopOwn X Y κ ιs c _ Φ)
  isplitr; · iexact HC
  isplitl [HO HS0 Hs0]
  · isplitl [HO]; · iexact HO
    iapply (Entails.of_eq e3.symm)
    isplitl [Hs0] <;> iassumption
  iintro ⟨HO, HS0⟩
  iapply (tr_loopGone X Y κ ιs c z Φ)
  isplitr; · iexact HC
  isplitl [HO Hs HFc]
  · isplitl [HO]; · iexact HO
    iapply (Entails.of_eq e5.symm)
    isplitl [Hs] <;> iassumption
  iintro ⟨HO, HS⟩
  iapply Hz
  isplitl [HO]; · iexact HO
  isplitl [HF]; · iexact HF
  isplitl [HG]; · iexact HG
  isplitl [HP]; · iexact HP
  isplitl [HS0]; · iexact HS0
  iexact HS

/-! ## From the barrier on -/

theorem Hist_zero (c : Dev nD) (d : Bool) : ⊢ (Hist c d 0 : SP F) := by
  unfold Hist; rw [Finset.range_zero, BI.bigSep_empty]; iempintro
theorem crSt_zero (c : Dev nD) (d : Bool) : (atPos ER (cell c (crC d)) 0 ∅ 0 : SP F) ⊢ crSt c d 0 := by
  unfold crSt
  rw [if_pos (show 0 < 48 by decide)]
  iintro H
  iexists ∅
  isplitr; · ipureintro; exact ⟨Finset.empty_subset _, le_rfl⟩
  isplitl [H]; · iexact H
  rw [BI.bigSep_empty]; iempintro

/-- What the body uses up from its barrier on, besides the operands and the local buffers. -/
def MRes (c : Dev nD) : SP F :=
  iprop(((crSt c false 0 ∗ crSt c true 0) ∗ Qd (sendRes c · 0 ·))
    ∗ (bigSep Finset.univ fun s : Fin 14 => RS c s)
    ∗ (Qd (RL c) ∗ Qd (fun d q => atPos ER (cell c (rsS d 14 q)) 0 ∅ 0))
    ∗ GRes c)

/-- What the body leaves. -/
def MEnd (c : Dev nD) : SP F :=
  iprop(locsAny c ∗ XW X Y c ∗ (atPos ER (cell c (crC false)) 1 ∅ 0 ∗ atPos ER (cell c (crC true)) 1 ∅ 0)
    ∗ (bigSep Finset.univ fun s : Fin 14 => QS c s)
    ∗ (Qd (fun d q => iprop(atPos ER (cell c (rsR d 14 q)) 1 ∅ 0)) ∗ Qd (fun d q => slotAny c d (slotOf 15) q))
    ∗ (Qd (fun d q => atPos ER (cell c (rsS d 14 q)) 1 ∅ 0) ∗ Qd (fun d q => slotAny c d (slotOf (14 : Fin 15).val) q))
    ∗ GEnd X Y c)

/-- The body after its barrier. -/
def main (c : Dev nD) (z : PU F) : PU F :=
  each 4 (fun q k => Body.send A0 (W0 c) false 0 q k) <|
  each 4 (fun q k => Body.send A0 (W0 c) true 0 q k) <|
  each 14 (fun s k => Body.step A0 (W0 c) s k) <|
  Body.last A0 (W0 c) <| gather c z

theorem tr_main (c : Dev nD) :
    Tr (Ctx X Y κ ιs c) c
      iprop(OW c 2 ∗ XW X Y c ∗ locsAny c ∗ Qd (fun d q => Own (A0.slot d 0 q) c fullShare (sentV X Y d q 0 c)) ∗ MRes c)
      (fun z => main c z) (MEnd X Y c) := by
  unfold main MRes MEnd
  intro z Φ
  have e1 := Qd_sep (F := F) (fun d q => Own (A0.slot d 0 q) c fullShare (sentV X Y d q 0 c)) (sendRes c · 0 ·)
  rw [Qd_split] at e1
  have e2 := Qd_split (F := F) (fun d q => cred (tallyAt (cell c (rsS d 0 q)) 0 Nrs))
  have eL : Qd (QL X Y c) = iprop(Qd (fun d q => atPos ER (cell c (rsR d 14 q)) 1 ∅ 0) ∗ Qd (fun d q => slotAny c d (slotOf 15) q)
        ∗ Qd (fun d q => Own (A0.finQ d q) c fullShare.right (finV X Y d q c)) ∗ Qd (fun d q => cred (tallyAt (cell c (agS d 0 q)) 0 Nag))) := by
    rw [← Qd_sep, ← Qd_sep, ← Qd_sep]; rfl
  iintro ⟨#HC, ⟨HO, HXW, HL, Hs, ⟨⟨Hcr, HR0⟩, HRS, ⟨HRL, HA⟩, HG⟩⟩, Hz⟩
  ihave H := (Entails.of_eq e1.symm) $$ [Hs HR0]
  · isplitl [Hs] <;> iassumption
  icases H with ⟨H, H'⟩
  iapply (tr_sends0 X Y κ ιs c false _ Φ)
  isplitr; · iexact HC
  isplitl [HO H]
  · isplitl [HO]; · iexact HO
    iexact H
  iintro ⟨HO, Hc⟩
  iapply (tr_sends0 X Y κ ιs c true _ Φ)
  isplitr; · iexact HC
  isplitl [HO H']
  · isplitl [HO]; · iexact HO
    iexact H'
  iintro ⟨HO, Hc'⟩
  iapply (tr_steps X Y κ ιs c _ Φ)
  isplitr; · iexact HC
  isplitl [HO HXW HL Hcr Hc Hc' HRS]
  · isplitr [HRS]
    · unfold ST
      isplitl [HO]; · iexact HO
      isplitl [HXW]; · iexact HXW
      isplitl [HL]; · iexact HL
      isplitl [Hcr]; · iexact Hcr
      isplitr
      · isplitl
        · iapply (Hist_zero c false)
        · iapply (Hist_zero c true)
      iapply (Entails.of_eq e2.symm)
      isplitl [Hc] <;> iassumption
    iexact HRS
  iintro ⟨HST, HQS⟩
  iapply (tr_last X Y κ ιs c _ Φ)
  isplitr; · iexact HC
  isplitl [HST HRL HA]
  · isplitl [HST]; · iexact HST
    isplitl [HRL]; · iexact HRL
    iexact HA
  unfold LAST
  iintro ⟨⟨HO, HL⟩, HXW, Hcr, HQL, HA⟩
  ihave HQL := (Entails.of_eq eL) $$ HQL
  icases HQL with ⟨HR14, Hs15, Hf, Hc0⟩
  iapply (tr_gather X Y κ ιs c z Φ)
  isplitr; · iexact HC
  isplitl [HO Hf Hc0 HG]
  · isplitl [HO]; · iexact HO
    isplitl [Hf]; · iexact Hf
    isplitl [Hc0]; · iexact Hc0
    iexact HG
  iintro HG
  iapply Hz
  isplitl [HL]; · iexact HL
  isplitl [HXW]; · iexact HXW
  isplitl [Hcr]; · iexact Hcr
  isplitl [HQS]; · iexact HQS
  isplitl [HR14 Hs15]
  · isplitl [HR14]; · iexact HR14
    iexact Hs15
  isplitl [HA]; · iexact HA
  iexact HG

end Cert.Ring
-- ==== Proof.Group.lean ====
/- What a device is dealt at launch, sorted the way its body uses it up. -/
module

public import proofs.«01_k».proof.Proof.Rest

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

attribute [local instance] Cert.KernelIdeal.Gen.facts

local notation "𝕄" => MT nD τ sig ℕ (Elt F) ℕ UU ℕ

variable (X : Dev nD → S8192x512.Idx → Elt F .bf16) (Y : Dev nD → S512x4096.Idx → Elt F .bf16)
variable (κ : GSem nD τ sig → ℕ) (ιs : Key → ℕ)

/-! ## What every device may consult -/

/-! ## Families by step, direction and quarter -/

theorem bool_two (Φ : Bool → SP F) : bigSep Finset.univ Φ = iprop(Φ false ∗ Φ true) := by
  rw [show (Finset.univ : Finset Bool) = {false, true} from by decide, BI.bigSep_insert (by decide), BI.bigSep_singleton]; rfl

def SQ (n : ℕ) (Φ : Fin n → Bool → Fin 4 → SP F) : SP F := bigSep Finset.univ fun s : Fin n => Qd (Φ s)

theorem SQ_sep (n : ℕ) (Φ Ψ : Fin n → Bool → Fin 4 → SP F) : SQ n (fun s d q => iprop(Φ s d q ∗ Ψ s d q)) = iprop(SQ n Φ ∗ SQ n Ψ) := by
  unfold SQ; simp only [Qd_sep]; exact bigSep_sep' ..

theorem SQ_mono {n : ℕ} {Φ Ψ : Fin n → Bool → Fin 4 → SP F} (h : ∀ s d q, Φ s d q ⊢ Ψ s d q) : SQ n Φ ⊢ SQ n Ψ :=
  bigSep_mono fun s _ => Qd_mono (h s)

theorem SQ_next (n : ℕ) (Φ : Fin (n + 1) → Bool → Fin 4 → SP F) : SQ (n + 1) Φ = iprop(Qd (Φ 0) ∗ SQ n fun s => Φ s.succ) :=
  bigSep_fin_next _

theorem SQ_last (n : ℕ) (Φ : Fin (n + 1) → Bool → Fin 4 → SP F) : SQ (n + 1) Φ = iprop((SQ n fun s => Φ s.castSucc) ∗ Qd (Φ (Fin.last n))) := by
  unfold SQ
  rw [Fin.univ_castSuccEmb, Finset.cons_eq_insert, BI.bigSep_insert (by simp), BI.bigSep_map]
  show iprop(Qd (Φ (Fin.last n)) ∗ bigSep Finset.univ fun s : Fin n => Qd (Φ s.castSucc)) = _
  refine eq_of ?_ ?_
  · iintro ⟨H, H'⟩; isplitl [H'] <;> iassumption
  · iintro ⟨H, H'⟩; isplitl [H'] <;> iassumption

theorem Qd_of (Φ : Bool × Fin 4 → SP F) : bigSep Finset.univ Φ = Qd fun d q => Φ (d, q) := by
  rw [bigSep_univ_prod, bool_two, Qd_split]

theorem SQ_of (n : ℕ) (Φ : Bool × Fin n × Fin 4 → SP F) : bigSep Finset.univ Φ = SQ n fun s d q => Φ (d, s, q) := by
  unfold SQ
  rw [bigSep_univ_prod, bool_two, bigSep_univ_prod, bigSep_univ_prod]
  simp only [Qd_split]
  exact (bigSep_sep' ..).symm

theorem Qd_emp : (Qd (fun _ _ => iprop(emp)) : SP F) = iprop(emp) := by
  unfold Qd
  rw [show (fun q : Fin 4 => (iprop(emp ∗ emp) : SP F)) = fun _ => iprop(emp) from by funext q; exact eq_of (by iintro -; iempintro) (by iintro -; isplitr <;> iempintro)]
  exact bigSep_emp_const _

theorem four (Φ : Fin 4 → SP F) : bigSep Finset.univ Φ = iprop(Φ 0 ∗ Φ 1 ∗ Φ 2 ∗ Φ 3) := by
  rw [show (Finset.univ : Finset (Fin 4)) = {0, 1, 2, 3} from by decide, BI.bigSep_insert (by decide), BI.bigSep_insert (by decide), BI.bigSep_insert (by decide), BI.bigSep_singleton]; rfl

/-- A family over a device's own cells. -/
theorem co_of (Φ : CO → SP F) : bigSep Finset.univ Φ =
    iprop(((SQ 15 fun s d q => Φ (rsS d s q)) ∗ (SQ 15 fun s d q => Φ (rsR d s q)) ∗ (SQ 15 fun s d q => Φ (agS d s q)) ∗ (SQ 15 fun s d q => Φ (agR d s q)))
      ∗ (Qd fun d q => Φ (cpC d q)) ∗ (Φ (crC false) ∗ Φ (crC true))) := by
  rw [bigSep_univ_sum, bigSep_univ_sum, bigSep_univ_prod, four, SQ_of, SQ_of, SQ_of, SQ_of, Qd_of, bool_two]; rfl

/-- A family over a device's payments. -/
theorem p_of (Φ : P → SP F) : bigSep Finset.univ Φ =
    iprop(((Φ (pBar false) ∗ Φ (pBar true)) ∗ (SQ 15 fun s d q => Φ (pRs d s q)))
      ∗ (SQ 12 fun s d q => Φ (pCr d s q)) ∗ (SQ 15 fun s d q => Φ (pAg d s q))) := by
  rw [bigSep_univ_sum, bigSep_univ_sum, bigSep_univ_sum, SQ_of, SQ_of, SQ_of, bool_two]; rfl

/-! ## What the body uses up, from what a device is dealt -/

/-- The positions of a device's own cells, at round `r`. -/
def Pos (c : Dev nD) (r : ℕ) : SP F := bigSep Finset.univ fun i : CO => atPos ER (cell c i) r ∅ 0
/-- The tokens of its payments: the unit of the barrier, and the rest. -/
def pduty : P → ℕ
  | .inl (.inl d) => d.toNat
  | .inl (.inr _) => 0
  | .inr (.inl (_, s, q)) => 4 * s.val + q.val
  | .inr (.inr _) => 0
abbrev pcell (c : Dev nD) (p : P) : GSem nD τ sig := ((pdev c p : Thread nD τ), psem p)
def PTok (c : Dev nD) : SP F := bigSep Finset.univ fun p : P => dutyTok ER (pcell c p) 0 (pduty p)
/-- The tokens of its own cells that it pays itself. -/
abbrev OI : Type := (Bool × Fin 15 × Fin 4) ⊕ ((Bool × Fin 15 × Fin 4) ⊕ (Bool × Fin 4))
def ocell : OI → CO
  | .inl (d, s, q) => rsS d s q
  | .inr (.inl (d, s, q)) => agS d s q
  | .inr (.inr (d, q)) => cpC d q
def OTok (c : Dev nD) : SP F := bigSep Finset.univ fun i : OI => dutyTok ER (cell c (ocell i)) 0 0
/-- What it is promised. -/
def PCred (c : Dev nD) : SP F := bigSep Finset.univ fun p : P => cred (tallyAt ((c : Thread nD τ), psem p) (plv p) (pamt p))
/-- The right to write its neighbours' slots, and the positions of its own. -/
def WTok (c : Dev nD) : SP F := bigSep Finset.univ fun x : Bool × Fin 15 × Fin 4 => writeTok ES (key (nx x.1 c) x.1 x.2.1 x.2.2) 1
def RPos (c : Dev nD) : SP F := bigSep Finset.univ fun x : Bool × Fin 15 × Fin 4 => readerAt ES (key c x.1 x.2.1 x.2.2) 0

/-- All of it. -/
def Dealt (c : Dev nD) : SP F := iprop((Pos c 0 ∗ PTok c ∗ OTok c) ∗ PCred c ∗ (WTok c ∗ RPos c))

/-- What of it is used before the barrier is passed. -/
def Early (c : Dev nD) : SP F :=
  iprop((dutyTok ER (barCell (pv false c)) 0 0 ∗ dutyTok ER (barCell (pv true c)) 0 1)
    ∗ (cred (tallyAt (barCell c) 1 1) ∗ cred (tallyAt (barCell c) 1 1))
    ∗ (Qd (fun d q => readerAt ES (key c d 0 q) 0) ∗ Qd (fun d q => readerAt ES (key c d 1 q) 0) ∗ Qd (fun d q => readerAt ES (key c d 2 q) 0)))

/-- What of it is used after. -/
def Late (c : Dev nD) : SP F :=
  iprop(Pos c 0
    ∗ (OTok c ∗ ((SQ 15 fun s d q => dutyTok ER (cell (nx d c) (rsR d s q)) 0 0) ∗ (SQ 12 fun s d q => dutyTok ER (cell (pv d c) (crC d)) 0 (4 * s.val + q.val))
        ∗ (SQ 15 fun s d q => dutyTok ER (cell (nx d c) (agR d s q)) 0 0)))
    ∗ ((SQ 15 fun s d q => cred (tallyAt (cell c (rsR d s q)) (plv (pRs d s q)) Nrs)) ∗ (SQ 12 fun s d q => cred (tallyAt (cell c (crC d)) (plv (pCr d s q)) 1))
        ∗ (SQ 15 fun s d q => cred (tallyAt (cell c (agR d s q)) (plv (pAg d s q)) Nag)))
    ∗ WTok c ∗ (SQ 12 fun s d q => readerAt ES (key c d ⟨s.val + 3, by omega⟩ q) 0))

theorem dealt_split (c : Dev nD) : (Dealt c : SP F) ⊢ iprop(Early c ∗ Late c) := by
  unfold Dealt Early Late PTok PCred RPos
  rw [p_of, p_of, SQ_of]
  have e := SQ_next 14 (fun s d q => (readerAt ES (key c d s q) 0 : SP F))
  rw [SQ_next 13, SQ_next 12] at e
  rw [e]
  iintro ⟨⟨HP, ⟨⟨Hb, Ht1⟩, Ht2, Ht3⟩, HO⟩, ⟨⟨Hc, Hc1⟩, Hc2, Hc3⟩, HW, ⟨Hr0, Hr1, Hr2, Hr⟩⟩
  isplitl [Hb Hc Hr0 Hr1 Hr2]
  · isplitl [Hb]; · iexact Hb
    isplitl [Hc]; · iexact Hc
    isplitl [Hr0]; · iexact Hr0
    isplitl [Hr1]; · iexact Hr1
    iexact Hr2
  isplitl [HP]; · iexact HP
  isplitl [HO Ht1 Ht2 Ht3]
  · isplitl [HO]; · iexact HO
    isplitl [Ht1]; · iexact Ht1
    isplitl [Ht2]; · iexact Ht2
    iexact Ht3
  isplitl [Hc1 Hc2 Hc3]
  · isplitl [Hc1]; · iexact Hc1
    isplitl [Hc2]; · iexact Hc2
    iexact Hc3
  isplitl [HW]; · iexact HW
  iexact Hr

theorem credPer_of (c : Dev nD) : (SQ 12 fun s d q => cred (tallyAt (cell c (crC d)) (plv (pCr d s q)) 1)) ⊢ (SQ 14 fun s d q => credPer c d s q : SP F) := by
  rw [SQ_next 13, SQ_next 12]
  have e0 : (Qd fun d q => (credPer c d 0 q : SP F)) = iprop(emp) := Qd_emp
  have e1 : (Qd fun d q => (credPer c d (Fin.succ 0) q : SP F)) = iprop(emp) := Qd_emp
  rw [e0, e1]
  iintro H
  isplitr; · iempintro
  isplitr; · iempintro
  iexact H

theorem giveR_of (c : Dev nD) : (SQ 12 fun s d q => giveRes c s d q) ⊢ (SQ 14 fun s d q => giveR c s d q : SP F) := by
  rw [SQ_last 13, SQ_last 12]
  have e0 : (Qd fun d q => (giveR c (Fin.last 13) d q : SP F)) = iprop(emp) := Qd_emp
  have e1 : (Qd fun d q => (giveR c (Fin.castSucc (Fin.last 12)) d q : SP F)) = iprop(emp) := Qd_emp
  have e2 : (SQ 12 fun s => fun d q => (giveR c s.castSucc.castSucc d q : SP F)) = SQ 12 fun s d q => giveRes c s d q := by
    congr 1; funext s d q
    exact dif_pos (show s.val ≤ 11 by omega)
  rw [e0, e1, e2]
  iintro H
  isplitl
  · isplitl; · iexact H
    iempintro
  iempintro

/-- The rest of what the body uses: the neighbours' places, its own, and its buffer for finished quarters. -/
def Mem (c : Dev nD) : SP F :=
  iprop(Qd (fun d q => iprop(∃ f, Own (A0.finQ d q) c fullShare f)) ∗ Qd (fun d q => outAny c c d 15 q) ∗ (SQ 15 fun t d q => outAny (nx d c) (nx d c) d t.castSucc q))

theorem main_res (c : Dev nD) : iprop(Late c ∗ Mem c) ⊢ (MRes c : SP F) := by
  have eS (a : Dev nD) : (SQ 15 fun s d q => (sendRes a d s q : SP F)) = iprop((SQ 15 fun s d q => dutyTok ER (cell a (rsS d s q)) 0 0)
      ∗ (SQ 15 fun s d q => dutyTok ER (cell (nx d a) (rsR d s q)) 0 0) ∗ (SQ 15 fun s d q => writeTok ES (key (nx d a) d s q) 1)) := by
    rw [← SQ_sep, ← SQ_sep]; rfl
  have eG : (SQ 15 fun s d q => (agRes c d s q : SP F)) = iprop((SQ 15 fun s d q => dutyTok ER (cell c (agS d s q)) 0 0)
      ∗ (SQ 15 fun s d q => dutyTok ER (cell (nx d c) (agR d s q)) 0 0)) := by
    rw [← SQ_sep]; rfl
  have eGive : (SQ 12 fun s d q => (giveRes c s d q : SP F)) = iprop((SQ 12 fun s d q => dutyTok ER (cell (pv d c) (crC d)) 0 (4 * s.val + q.val))
      ∗ (SQ 12 fun s d q => readerAt ES (key c d ⟨s.val + 3, by omega⟩ q) 0)) := by
    rw [← SQ_sep]; rfl
  have eRS : (bigSep Finset.univ fun s : Fin 14 => (RS c s : SP F)) = iprop(((SQ 14 fun s d q => atPos ER (cell c (rsR d s.castSucc q)) 0 ∅ 0) ∗ (SQ 14 fun s d q => cred (tallyAt (cell c (rsR d s.castSucc q)) (plv (pRs d s.castSucc q)) Nrs)))
      ∗ ((SQ 14 fun s d q => sendRes c d s.succ q) ∗ (SQ 14 fun s d q => credPer c d s q)) ∗ ((SQ 14 fun s d q => atPos ER (cell c (rsS d s.castSucc q)) 0 ∅ 0) ∗ (SQ 14 fun s d q => giveR c s d q))) := by
    rw [← SQ_sep, ← SQ_sep, ← SQ_sep]
    have := bigSep_sep' (Finset.univ : Finset (Fin 14)) (fun s => (Qd (RA c s) : SP F)) (fun s => iprop(Qd (fun d q => atPos ER (cell c (rsS d s.castSucc q)) 0 ∅ 0) ∗ Qd (giveR c s)))
    refine (this.trans ?_)
    refine eq_of ?_ ?_
    · iintro ⟨H, H'⟩
      have h1 : (bigSep Finset.univ fun s : Fin 14 => (Qd (RA c s) : SP F)) ⊢ iprop((SQ 14 fun s d q => iprop(atPos ER (cell c (rsR d s.castSucc q)) 0 ∅ 0 ∗ cred (tallyAt (cell c (rsR d s.castSucc q)) (plv (pRs d s.castSucc q)) Nrs)))
        ∗ (SQ 14 fun s d q => iprop(sendRes c d s.succ q ∗ credPer c d s q))) := Entails.of_eq (SQ_sep 14 _ _)
      have h2 : (bigSep Finset.univ fun s : Fin 14 => (iprop(Qd (fun d q => atPos ER (cell c (rsS d s.castSucc q)) 0 ∅ 0) ∗ Qd (giveR c s)) : SP F)) ⊢ SQ 14 fun s d q => iprop(atPos ER (cell c (rsS d s.castSucc q)) 0 ∅ 0 ∗ giveR c s d q) := by
        unfold SQ; simp only [Qd_sep]; exact .rfl
      ihave H := h1 $$ H
      ihave H' := h2 $$ H'
      icases H with ⟨H1, H2⟩
      isplitl [H1]; · iexact H1
      isplitl [H2] <;> iassumption
    · iintro ⟨H1, H2, H'⟩
      have h1 : iprop((SQ 14 fun s d q => iprop(atPos ER (cell c (rsR d s.castSucc q)) 0 ∅ 0 ∗ cred (tallyAt (cell c (rsR d s.castSucc q)) (plv (pRs d s.castSucc q)) Nrs)))
        ∗ (SQ 14 fun s d q => iprop(sendRes c d s.succ q ∗ credPer c d s q))) ⊢ (bigSep Finset.univ fun s : Fin 14 => (Qd (RA c s) : SP F)) := Entails.of_eq (SQ_sep 14 _ _).symm
      have h2 : (SQ 14 fun s d q => (iprop(atPos ER (cell c (rsS d s.castSucc q)) 0 ∅ 0 ∗ giveR c s d q) : SP F)) ⊢ (bigSep Finset.univ fun s : Fin 14 => (iprop(Qd (fun d q => atPos ER (cell c (rsS d s.castSucc q)) 0 ∅ 0) ∗ Qd (giveR c s)) : SP F)) := by
        unfold SQ; simp only [Qd_sep]; exact .rfl
      isplitl [H1 H2]
      · iapply h1; isplitl [H1] <;> iassumption
      · iapply h2 $$ H'
  have eRF : (bigSep Finset.univ fun t : Fin 14 => (Qd (RF c t) : SP F)) = iprop(((SQ 14 fun s d q => atPos ER (cell c (agR d s.castSucc q)) 0 ∅ 0) ∗ (SQ 14 fun s d q => cred (tallyAt (cell c (agR d s.castSucc q)) (plv (pAg d s.castSucc q)) Nag)))
      ∗ ((SQ 14 fun s d q => outAny (nx d c) (nx d c) d s.succ.castSucc q) ∗ (SQ 14 fun s d q => agRes c d s.succ q))) := by
    rw [← SQ_sep, ← SQ_sep, ← SQ_sep]; rfl
  have eRL : (Qd (RL c) : SP F) = iprop((Qd (fun d q => atPos ER (cell c (rsR d 14 q)) 0 ∅ 0) ∗ Qd (fun d q => cred (tallyAt (cell c (rsR d 14 q)) (plv (pRs d 14 q)) Nrs)))
      ∗ Qd (fun d q => iprop(∃ f, Own (A0.finQ d q) c fullShare f)) ∗ Qd (fun d q => outAny (nx d c) (nx d c) d 0 q) ∗ Qd (fun d q => agRes c d 0 q)) := by
    rw [← Qd_sep, ← Qd_sep, ← Qd_sep, ← Qd_sep]; rfl
  have eC : (Qd (fun d q => iprop(outAny c c d 15 q ∗ dutyTok ER (cell c (cpC d q)) 0 0)) : SP F) = iprop(Qd (fun d q => outAny c c d 15 q) ∗ Qd (fun d q => dutyTok ER (cell c (cpC d q)) 0 0)) := by
    rw [← Qd_sep]
  have eA : (Qd (fun d q => iprop(atPos ER (cell c (agR d 14 q)) 0 ∅ 0 ∗ cred (tallyAt (cell c (agR d 14 q)) (plv (pAg d 14 q)) Nag))) : SP F)
      = iprop(Qd (fun d q => atPos ER (cell c (agR d 14 q)) 0 ∅ 0) ∗ Qd (fun d q => cred (tallyAt (cell c (agR d 14 q)) (plv (pAg d 14 q)) Nag))) := by
    rw [← Qd_sep]
  have eO : (OTok c : SP F) = iprop((SQ 15 fun s d q => dutyTok ER (cell c (rsS d s q)) 0 0) ∗ (SQ 15 fun s d q => dutyTok ER (cell c (agS d s q)) 0 0) ∗ Qd (fun d q => dutyTok ER (cell c (cpC d q)) 0 0)) := by
    unfold OTok; rw [bigSep_univ_sum, bigSep_univ_sum, SQ_of, SQ_of, Qd_of]; rfl
  have eW : (WTok c : SP F) = SQ 15 fun s d q => writeTok ES (key (nx d c) d s q) 1 := by unfold WTok; rw [SQ_of]
  unfold Late Mem MRes GRes Pos
  rw [eRS, eRF, eRL, eC, eA, eO, eW, co_of]
  iintro ⟨⟨⟨⟨Aa, Ab, Ac, Ad⟩, Ae, Af, Af'⟩, ⟨⟨Ta, Tb, Tc⟩, Td, Te, Tf⟩, ⟨Ca, Cb, Cc⟩, HW, HR⟩, ⟨Hf, Ho, Hn⟩⟩
  ihave HS := (Entails.of_eq (eS c).symm) $$ [Ta Td HW]
  · isplitl [Ta]; · iexact Ta
    isplitl [Td]; · iexact Td
    iexact HW
  ihave HS := (Entails.of_eq (SQ_next 14 fun s d q => (sendRes c d s q : SP F))) $$ HS
  icases HS with ⟨HS0, HS⟩
  ihave HG := (Entails.of_eq eG.symm) $$ [Tb Tf]
  · isplitl [Tb]; · iexact Tb
    iexact Tf
  ihave HG := (Entails.of_eq (SQ_next 14 fun s d q => (agRes c d s q : SP F))) $$ HG
  icases HG with ⟨HG0, HG⟩
  ihave Hv := (Entails.of_eq eGive.symm) $$ [Te HR]
  · isplitl [Te]; · iexact Te
    iexact HR
  ihave Hv := (giveR_of c) $$ Hv
  ihave Cb := (credPer_of c) $$ Cb
  ihave Ca := (Entails.of_eq (SQ_last 14 fun s d q => (cred (tallyAt (cell c (rsR d s q)) (plv (pRs d s q)) Nrs) : SP F))) $$ Ca
  icases Ca with ⟨Ca, Ca'⟩
  ihave Cc := (Entails.of_eq (SQ_last 14 fun s d q => (cred (tallyAt (cell c (agR d s q)) (plv (pAg d s q)) Nag) : SP F))) $$ Cc
  icases Cc with ⟨Cc, Cc'⟩
  ihave Aa := (Entails.of_eq (SQ_last 14 fun s d q => (atPos ER (cell c (rsS d s q)) 0 ∅ 0 : SP F))) $$ Aa
  icases Aa with ⟨Aa, Aa'⟩
  ihave Ab := (Entails.of_eq (SQ_last 14 fun s d q => (atPos ER (cell c (rsR d s q)) 0 ∅ 0 : SP F))) $$ Ab
  icases Ab with ⟨Ab, Ab'⟩
  ihave Ac := (Entails.of_eq (SQ_next 14 fun s d q => (atPos ER (cell c (agS d s q)) 0 ∅ 0 : SP F))) $$ Ac
  icases Ac with ⟨Ac, Ac'⟩
  ihave Ad := (Entails.of_eq (SQ_last 14 fun s d q => (atPos ER (cell c (agR d s q)) 0 ∅ 0 : SP F))) $$ Ad
  icases Ad with ⟨Ad, Ad'⟩
  ihave Hn := (Entails.of_eq (SQ_next 14 fun s d q => (outAny (nx d c) (nx d c) d s.castSucc q : SP F))) $$ Hn
  icases Hn with ⟨Hn, Hn'⟩
  isplitl [Af Af' HS0]
  · isplitr [HS0]
    · isplitl [Af]
      · iapply (crSt_zero c false) $$ Af
      · iapply (crSt_zero c true) $$ Af'
    iexact HS0
  isplitl [Ab Ca HS Cb Aa Hv]
  · isplitl [Ab Ca]
    · isplitl [Ab]; · iexact Ab
      iexact Ca
    isplitl [HS Cb]
    · isplitl [HS]; · iexact HS
      iexact Cb
    isplitl [Aa]; · iexact Aa
    iexact Hv
  isplitl [Ab' Ca' Hf Hn HG0 Aa']
  · isplitr [Aa']
    · isplitl [Ab' Ca']
      · isplitl [Ab']; · iexact Ab'
        iexact Ca'
      isplitl [Hf]; · iexact Hf
      isplitl [Hn]; · iexact Hn
      iexact HG0
    iexact Aa'
  isplitl [Ho Tc]
  · isplitl [Ho]; · iexact Ho
    iexact Tc
  isplitl [Ad Cc Hn' HG]
  · isplitl [Ad Cc]
    · isplitl [Ad]; · iexact Ad
      iexact Cc
    isplitl [Hn']; · iexact Hn'
    iexact HG
  isplitl [Ad' Cc']
  · isplitl [Ad']; · iexact Ad'
    iexact Cc'
  isplitl [Ae]; · iexact Ae
  isplitl [Ac]; · iexact Ac
  have eq : (SQ 14 fun s d q => (atPos ER (cell c (agS d s.succ q)) 0 ∅ 0 : SP F)) ⊢ bigSep Finset.univ fun t : Fin 14 => Qd fun d q => atPos ER (cell c (agS d t.succ q)) 0 ∅ 0 := .rfl
  iapply eq $$ Ac'

end Cert.Ring
-- ==== Proof.Finish.lean ====
/- The buffers cut into the pieces the body uses, and joined again at its end. -/
module

public import proofs.«01_k».proof.Proof.Group

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

attribute [local instance] Cert.KernelIdeal.Gen.facts

local notation "𝕄" => MT nD τ sig ℕ (Elt F) ℕ UU ℕ

variable (X : Dev nD → S8192x512.Idx → Elt F .bf16) (Y : Dev nD → S512x4096.Idx → Elt F .bf16)
variable (κ : GSem nD τ sig → ℕ) (ιs : Key → ℕ)

/-! ## What every device may consult -/

/-! ## The finished halves -/

def finAny (c : Dev nD) (d : Bool) : SP F := iprop(∃ f, Own (A0.fin d) c fullShare f)

theorem mem_q {q : Fin 4} {i : S256x4096.Idx} : i ∈ (Ops.qRect q).set ↔ (i 0).val / 64 = q.val := by
  rw [Rect.mem_set_unit, Fin.forall_fin_succ, Fin.forall_fin_one]
  have h1 : (i 1).val < 4096 := (i 1).isLt
  show ((64 * q.val ≤ (i 0).val ∧ (i 0).val < 64 * q.val + 64) ∧ (0 ≤ (i 1).val ∧ (i 1).val < 0 + 4096)) ↔ _
  omega
theorem q_disj (q q' : Fin 4) (h : q ≠ q') : Disjoint (Ops.qRect q).set (Ops.qRect q').set := by
  have hq : q.val ≠ q'.val := fun e => h (Fin.ext e)
  refine Rect.unit_disjoint 0 ?_
  show 64 * q.val + 64 ≤ 64 * q'.val ∨ 64 * q'.val + 64 ≤ 64 * q.val
  omega
theorem q_cover : Finset.univ.biUnion (fun q : Fin 4 => (Ops.qRect q).set) = Finset.univ := by
  ext i
  have h0 : (i 0).val < 256 := (i 0).isLt
  simp only [Finset.mem_biUnion, Finset.mem_univ, true_and, iff_true]
  exact ⟨⟨(i 0).val / 64, by omega⟩, mem_q.mpr rfl⟩

theorem fin_cut (c : Dev nD) (d : Bool) : (finAny c d : SP F) ⊢ bigSep Finset.univ fun q : Fin 4 => iprop(∃ f, Own (A0.finQ d q) c fullShare f) := by
  unfold finAny
  iintro ⟨%f, H⟩
  ihave H := (own_pieces (A0.fin d) c fullShare (fun q : Fin 4 => ![64 * q.val, 0]) (fun q => inbQ q)
    (fun t t' h => q_disj t t' h)
    (fun i => by have := Finset.mem_univ i; rw [← q_cover] at this; obtain ⟨t, -, ht⟩ := Finset.mem_biUnion.mp this; exact ⟨t, ht⟩) f) $$ H
  have hm : (bigSep Finset.univ fun q : Fin 4 => (Own (piece (A0.fin d) (fun q : Fin 4 => ![64 * q.val, 0]) (fun q => inbQ q) q) c fullShare
        (fun x => f ((Ops.qRect q).emb x)) : SP F))
      ⊢ bigSep Finset.univ fun q : Fin 4 => iprop(∃ f, Own (A0.finQ d q) c fullShare f) := by
    refine bigSep_mono fun t _ => ?_
    show (_ : SP F) ⊢ _
    iintro H; iexists _; iexact H
  iapply hm $$ H

theorem fin_mend (c : Dev nD) (d : Bool) : (bigSep Finset.univ fun q : Fin 4 => iprop(∃ f, Own (A0.finQ d q) c fullShare f)) ⊢ (finAny c d : SP F) := by
  unfold finAny
  refine (parts_join (A0.fin d) c fullShare (Rect.unit (s := S256x4096) (fun _ => 0) S256x4096.size (fun a => (Nat.zero_add _).le)) (fun _ => rfl) (fun q : Fin 4 => Ops.qRect q) (fun _ _ => rfl)
    (fun t t' h => q_disj t t' h) (q_cover.trans ?_)).trans (own_all (A0.fin d) c fullShare _ (fun _ => rfl) ?_)
  · ext i; simp only [Rect.mem_set_unit, Finset.mem_univ, true_iff]
    exact fun a => ⟨Nat.zero_le _, (i a).isLt.trans_eq (Nat.zero_add _).symm⟩
  · ext i; simp only [Rect.mem_set_unit, Finset.mem_univ, iff_true]
    exact fun a => ⟨Nat.zero_le _, (i a).isLt.trans_eq (Nat.zero_add _).symm⟩

/-! ## The result -/

theorem mem_out {c : Dev nD} {d : Bool} {t : Fin 16} {q : Fin 4} {i : S8192x4096.Idx} :
    i ∈ (Rect.unit (s := S8192x4096) (Body.oOff (W0 c) d t q) S64x4096.size (Body.oOff_inb (W0 c) d t q)).set
      ↔ (i 0).val / 512 = blk c d t.val ∧ ((i 0).val / 256) % 2 = d.toNat ∧ ((i 0).val / 64) % 4 = q.val := by
  rw [Rect.mem_set_unit, Fin.forall_fin_succ, Fin.forall_fin_one, oOff_eq]
  have h1 : (i 1).val < 4096 := (i 1).isLt
  have := toNat_le d; have := q.isLt
  show ((512 * blk c d t.val + 256 * d.toNat + 64 * q.val ≤ (i 0).val ∧ (i 0).val < 512 * blk c d t.val + 256 * d.toNat + 64 * q.val + 64) ∧ (0 ≤ (i 1).val ∧ (i 1).val < 0 + 4096)) ↔ _
  omega

abbrev OT : Type := Bool × Fin 16 × Fin 4
abbrev oOffT (c : Dev nD) (x : OT) : Fin 2 → ℕ := Body.oOff (W0 c) x.1 x.2.1 x.2.2
abbrev oInbT (c : Dev nD) (x : OT) : ∀ a, oOffT c x a + S64x4096.size a ≤ S8192x4096.size a := Body.oOff_inb (W0 c) x.1 x.2.1 x.2.2

theorem out_disj (c : Dev nD) (x y : OT) (h : x ≠ y) :
    Disjoint (Rect.unit (s := S8192x4096) (oOffT c x) S64x4096.size (oInbT c x)).set (Rect.unit (s := S8192x4096) (oOffT c y) S64x4096.size (oInbT c y)).set := by
  rw [Finset.disjoint_left]
  intro i hx hy
  obtain ⟨d, t, q⟩ := x
  obtain ⟨d', t', q'⟩ := y
  have hx := mem_out.mp hx
  have hy := mem_out.mp hy
  have hd : d = d' := toNat_inj (hx.2.1.symm.trans hy.2.1)
  have hq : q = q' := Fin.ext (hx.2.2.symm.trans hy.2.2)
  subst hd hq
  have ht : t = t' := blk_inj c d t t' (hx.1.symm.trans hy.1)
  exact h (by rw [ht])
theorem out_cover (c : Dev nD) (i : S8192x4096.Idx) : ∃ x : OT, i ∈ (Rect.unit (s := S8192x4096) (oOffT c x) S64x4096.size (oInbT c x)).set := by
  have h0 : (i 0).val < 8192 := (i 0).isLt
  obtain ⟨d, hd⟩ : ∃ d : Bool, d.toNat = ((i 0).val / 256) % 2 := by
    rcases Nat.mod_two_eq_zero_or_one ((i 0).val / 256) with h | h
    · exact ⟨false, h.symm⟩
    · exact ⟨true, h.symm⟩
  obtain ⟨t, ht⟩ := blk_surj c d ⟨(i 0).val / 512, by omega⟩
  exact ⟨(d, t, ⟨((i 0).val / 64) % 4, by omega⟩), mem_out.mpr ⟨ht.symm, hd.symm, rfl⟩⟩

theorem out_cut (c : Dev nD) : (iprop(∃ f, Own A0.out c fullShare f) : SP F) ⊢ SQ 16 fun t d q => outAny c c d t q := by
  iintro ⟨%f, H⟩
  ihave H := (own_pieces A0.out c fullShare (oOffT c) (oInbT c) (out_disj c) (out_cover c) f) $$ H
  have hm : (bigSep Finset.univ fun x : OT => (Own (piece A0.out (oOffT c) (oInbT c) x) c fullShare
        (fun y => f ((Rect.unit (s := S8192x4096) (oOffT c x) S64x4096.size (oInbT c x)).emb y)) : SP F))
      ⊢ SQ 16 fun t d q => outAny c c d t q := by
    rw [← SQ_of 16 (fun x : OT => (outAny c c x.1 x.2.1 x.2.2 : SP F))]
    refine bigSep_mono fun t _ => ?_
    unfold outAny
    show (_ : SP F) ⊢ _
    iintro H; iexists _; iexact H
  iapply hm $$ H

/-- The device that finishes a block's half. -/
def owner (d : Bool) (b : ℕ) : Dev nD := ((List.finRange 16).find? fun c => blk c d 15 == b).getD 0
theorem owner_blk (d : Bool) (c : Dev nD) : owner d (blk c d 15) = c := by revert d c; decide +kernel
theorem owner_pv (d : Bool) (c : Dev nD) : owner d (blk c d 0) = pv d c := by revert d c; decide +kernel

theorem mod4 (n : ℕ) : n % 4 < 4 := Nat.mod_lt _ (by decide)
/-- The result: each quarter as its owner finishes it. -/
def fullV : S8192x4096.Idx → Elt F .f32 := fun i =>
  finV X Y ((i 0).val / 256 % 2 == 1) ⟨(i 0).val / 64 % 4, mod4 _⟩ (owner ((i 0).val / 256 % 2 == 1) ((i 0).val / 512))
    ((fun a => match a with | 0 => ⟨(i 0).val % 64, Nat.mod_lt _ (by decide)⟩ | 1 => i 1 : (a : Fin 2) → Fin (S64x4096.size a)) : S64x4096.Idx)

theorem gotV_eq (c : Dev nD) (d : Bool) (q : Fin 4) (t : ℕ) (ht : t < 15) : gotV X Y d q t c = finV X Y d q (owner d (blk c d t)) := by
  induction t generalizing c with
  | zero => rw [owner_pv]; rfl
  | succ t ih =>
    show gotV X Y d q t (pv d c) = _
    rw [ih (pv d c) (by omega)]
    have := blk_nx (pv d c) d ⟨t, by omega⟩
    rw [nx_pv] at this
    rw [this]
theorem outV_eq (c : Dev nD) (d : Bool) (t : Fin 16) (q : Fin 4) : outV X Y d t q c = finV X Y d q (owner d (blk c d t.val)) := by
  unfold outV
  split
  · rename_i h; rw [h, owner_blk]
  · exact gotV_eq X Y c d q t.val (by omega)

theorem full_at (c : Dev nD) (x : OT) (y : S64x4096.Idx) :
    fullV X Y ((Rect.unit (s := S8192x4096) (oOffT c x) S64x4096.size (oInbT c x)).emb y) = outV X Y x.1 x.2.1 x.2.2 c y := by
  obtain ⟨d, t, q⟩ := x
  rw [outV_eq]
  have hm := mem_out.mp (show (Rect.unit (s := S8192x4096) (Body.oOff (W0 c) d t q) S64x4096.size (Body.oOff_inb (W0 c) d t q)).emb y ∈ _ by
    rw [← Rect.map_emb_univ]; exact Finset.mem_map_of_mem _ (Finset.mem_univ y))
  obtain ⟨h1, h2, h3⟩ := hm
  have e0 : (((Rect.unit (s := S8192x4096) (Body.oOff (W0 c) d t q) S64x4096.size (Body.oOff_inb (W0 c) d t q)).emb y) 0).val % 64 = (y 0).val := by
    show (Body.oOff (W0 c) d t q 0 + 1 * (y 0).val) % 64 = _
    rw [oOff_eq]
    have := (y 0).isLt
    have h : (y 0).val < 64 := this
    show (512 * blk c d t.val + 256 * d.toNat + 64 * q.val + 1 * (y 0).val) % 64 = _
    omega
  have e1 : (((Rect.unit (s := S8192x4096) (Body.oOff (W0 c) d t q) S64x4096.size (Body.oOff_inb (W0 c) d t q)).emb y) 1).val = (y 1).val := by
    show Body.oOff (W0 c) d t q 1 + 1 * (y 1).val = _
    rw [oOff_eq]
    show 0 + 1 * (y 1).val = _
    omega
  show fullV X Y ((Rect.unit (s := S8192x4096) (Body.oOff (W0 c) d t q) S64x4096.size (Body.oOff_inb (W0 c) d t q)).emb y) = _
  generalize (Rect.unit (s := S8192x4096) (Body.oOff (W0 c) d t q) S64x4096.size (Body.oOff_inb (W0 c) d t q)).emb y = i at *
  unfold fullV
  have hd : ((i 0).val / 256 % 2 == 1) = d := by rw [h2]; cases d <;> rfl
  have hq : (⟨(i 0).val / 64 % 4, mod4 _⟩ : Fin 4) = q := Fin.ext h3
  rw [hd, hq, h1]
  congr 1
  funext a
  apply Fin.ext
  match a with
  | 0 => exact e0
  | 1 => exact e1

theorem out_join (c : Dev nD) : (SQ 16 fun t d q => Own (oQ c d t q) c fullShare (outV X Y d t q c)) ⊢ (Own A0.out c fullShare (fullV X Y) : SP F) := by
  have : Nonempty (S8192x4096.Idx → Elt F .f32) := ⟨fun _ => Scalar.ofBits (F := F) .f32 0⟩
  rw [← SQ_of 16 (fun x : OT => (Own (oQ c x.1 x.2.1 x.2.2) c fullShare (outV X Y x.1 x.2.1 x.2.2 c) : SP F))]
  exact own_join A0.out c fullShare (oOffT c) (oInbT c) (out_disj c) (out_cover c) (fun x => outV X Y x.1 x.2.1 x.2.2 c) (fullV X Y) (full_at X Y c) (fun _ => Scalar.ofBits (F := F) .f32 0)

/-! ## The end -/

/-- What the body ends with. -/
def End (c : Dev nD) : SP F :=
  iprop(OW c 354 ∗ XW X Y c ∗ locsAny c ∗ (accAny c false ∗ accAny c true) ∗ (finAny c false ∗ finAny c true) ∗ Own A0.out c fullShare (fullV X Y) ∗ Pos c 1)

theorem slots_end (c : Dev nD) (d : Bool) :
    iprop((bigSep Finset.univ fun q => slotAny c d 0 q) ∗ (bigSep Finset.univ fun q => slotAny c d 1 q) ∗ (bigSep Finset.univ fun q => slotAny c d 2 q) ∗ (bigSep Finset.univ fun q => slotAny c d 3 q)) ⊢ (accAny c d : SP F) := by
  refine BIBase.Entails.trans ?_ (acc_mend c d)
  rw [bigSep_univ_prod, four (fun a => bigSep Finset.univ fun q => slotAny c d a q)]

theorem keep_end (c : Dev nD) : (SQ 14 fun s d q => (keepS c s d q : SP F)) ⊢ iprop(Qd (fun d q => slotAny c d 0 q) ∗ Qd (fun d q => slotAny c d 1 q)) := by
  rw [SQ_last 13, SQ_last 12]
  iintro ⟨⟨-, H⟩, H'⟩
  isplitl [H]; · iexact H
  iexact H'

theorem out_all (c : Dev nD) :
    iprop((SQ 14 fun t d q => Own (oQ c d t.castSucc.castSucc q) c fullShare (gotV X Y d q t.val c)) ∗ Qd (fun d q => Own (oQ c d 14 q) c fullShare (gotV X Y d q 14 c))
        ∗ Qd (fun d q => Own (oQ c d 15 q) c fullShare (finV X Y d q c)))
      ⊢ (SQ 16 fun t d q => Own (oQ c d t q) c fullShare (outV X Y d t q c) : SP F) := by
  rw [SQ_last 15, SQ_last 14]
  have e : (SQ 14 fun t d q => (Own (oQ c d t.castSucc.castSucc q) c fullShare (outV X Y d t.castSucc.castSucc q c) : SP F))
      = SQ 14 fun t d q => Own (oQ c d t.castSucc.castSucc q) c fullShare (gotV X Y d q t.val c) := by
    congr 1; funext t d q
    rw [show outV X Y d t.castSucc.castSucc q c = gotV X Y d q t.val c from if_neg (show t.val ≠ 15 by omega)]
  rw [e]
  iintro ⟨H, H1, H2⟩
  isplitr [H2]
  · isplitl [H]; · iexact H
    iexact H1
  iexact H2

theorem main_end (c : Dev nD) : MEnd X Y c ⊢ (End X Y c : SP F) := by
  have eQS : (bigSep Finset.univ fun s : Fin 14 => (QS c s : SP F)) = iprop((SQ 14 fun s d q => atPos ER (cell c (rsR d s.castSucc q)) 1 ∅ 0)
      ∗ (SQ 14 fun s d q => atPos ER (cell c (rsS d s.castSucc q)) 1 ∅ 0) ∗ (SQ 14 fun s d q => keepS c s d q)) := by
    unfold SQ; rw [← bigSep_sep', ← bigSep_sep']; rfl
  have eG : (bigSep Finset.univ fun t : Fin 14 => Qd (QG X Y c t)) = iprop((SQ 14 fun t d q => atPos ER (cell c (agS d t.succ q)) 1 ∅ 0)
      ∗ (SQ 14 fun t d q => (Own (oQ c d t.castSucc.castSucc q) c fullShare (gotV X Y d q t.val c) : SP F))) := by
    rw [← SQ_sep]; rfl
  have eg : (Qd fun d q => iprop(atPos ER (cell c (agR d 14 q)) 1 ∅ 0 ∗ Own (oQ c d 14 q) c fullShare (gotV X Y d q 14 c)))
      = iprop((Qd fun d q => atPos ER (cell c (agR d 14 q)) 1 ∅ 0) ∗ (Qd fun d q => (Own (oQ c d 14 q) c fullShare (gotV X Y d q 14 c) : SP F))) := Qd_sep _ _
  have ec : (Qd fun d q => iprop(atPos ER (cell c (cpC d q)) 1 ∅ 0 ∗ Own (oQ c d 15 q) c fullShare (finV X Y d q c) ∗ Own (A0.finQ d q) c fullShare.right (finV X Y d q c)))
      = iprop((Qd fun d q => atPos ER (cell c (cpC d q)) 1 ∅ 0) ∗ (Qd fun d q => Own (oQ c d 15 q) c fullShare (finV X Y d q c)) ∗ (Qd fun d q => (Own (A0.finQ d q) c fullShare.right (finV X Y d q c) : SP F))) := by
    rw [← Qd_sep, ← Qd_sep]
  have eo : (Qd fun d q => iprop(atPos ER (cell c (agS d 0 q)) 1 ∅ 0 ∗ Own (A0.finQ d q) c fullShare.left (finV X Y d q c)))
      = iprop((Qd fun d q => atPos ER (cell c (agS d 0 q)) 1 ∅ 0) ∗ (Qd fun d q => (Own (A0.finQ d q) c fullShare.left (finV X Y d q c) : SP F))) := Qd_sep _ _
  have ef : iprop((Qd fun d q => Own (A0.finQ d q) c fullShare.left (finV X Y d q c)) ∗ (Qd fun d q => (Own (A0.finQ d q) c fullShare.right (finV X Y d q c) : SP F)))
      ⊢ (iprop(finAny c false ∗ finAny c true) : SP F) := by
    rw [← Qd_sep]
    simp only [← own_share]
    rw [Qd_split]
    have h (d : Bool) : (bigSep Finset.univ fun q : Fin 4 => (Own (A0.finQ d q) c fullShare (finV X Y d q c) : SP F)) ⊢ finAny c d := by
      refine BIBase.Entails.trans (bigSep_mono fun q _ => ?_) (fin_mend c d)
      show (_ : SP F) ⊢ _
      iintro H; iexists _; iexact H
    exact BIClass.sep_mono (h false) (h true)
  have es : iprop((Qd (fun d q => slotAny c d 0 q) ∗ Qd (fun d q => slotAny c d 1 q)) ∗ Qd (fun d q => slotAny c d 2 q) ∗ Qd (fun d q => slotAny c d 3 q))
      ⊢ (iprop(accAny c false ∗ accAny c true) : SP F) := by
    simp only [Qd_split]
    refine BIBase.Entails.trans ?_ (BIClass.sep_mono (slots_end c false) (slots_end c true))
    iintro ⟨⟨⟨H0, H0'⟩, ⟨H1, H1'⟩⟩, ⟨H2, H2'⟩, ⟨H3, H3'⟩⟩
    isplitl [H0 H1 H2 H3]
    · isplitl [H0]; · iexact H0
      isplitl [H1]; · iexact H1
      isplitl [H2] <;> iassumption
    · isplitl [H0']; · iexact H0'
      isplitl [H1']; · iexact H1'
      isplitl [H2'] <;> iassumption
  unfold MEnd End GEnd Pos
  rw [eQS, eG, eg, ec, eo, co_of]
  iintro ⟨HL, HXW, Hcr, ⟨Ab, Aa, HK⟩, ⟨Ab', Hs3⟩, ⟨Aa', Hs2⟩, ⟨HO, Ad, ⟨Ad', Ho14⟩, ⟨Ae, Ho15, Hfr⟩, ⟨Ac, Hfl⟩, ⟨Ac', Ho⟩⟩⟩
  isplitl [HO]; · iexact HO
  isplitl [HXW]; · iexact HXW
  isplitl [HL]; · iexact HL
  isplitl [HK Hs2 Hs3]
  · iapply es
    ihave HK := (keep_end c) $$ HK
    isplitl [HK]; · iexact HK
    isplitl [Hs2]; · iexact Hs2
    iexact Hs3
  isplitl [Hfl Hfr]
  · iapply ef
    isplitl [Hfl] <;> iassumption
  isplitl [Ho Ho14 Ho15]
  · iapply (out_join X Y c)
    iapply (out_all X Y c)
    isplitl [Ho]; · iexact Ho
    isplitl [Ho14] <;> iassumption
  isplitl [Aa Aa' Ab Ab' Ac Ac' Ad Ad']
  · isplitl [Aa Aa']
    · iapply (Entails.of_eq (SQ_last 14 fun s d q => (atPos ER (cell c (rsS d s q)) 1 ∅ 0 : SP F)).symm)
      isplitl [Aa]; · iexact Aa
      iexact Aa'
    isplitl [Ab Ab']
    · iapply (Entails.of_eq (SQ_last 14 fun s d q => (atPos ER (cell c (rsR d s q)) 1 ∅ 0 : SP F)).symm)
      isplitl [Ab]; · iexact Ab
      iexact Ab'
    isplitl [Ac Ac']
    · iapply (Entails.of_eq (SQ_next 14 fun s d q => (atPos ER (cell c (agS d s q)) 1 ∅ 0 : SP F)).symm)
      isplitl [Ac]; · iexact Ac
      iexact Ac'
    · iapply (Entails.of_eq (SQ_last 14 fun s d q => (atPos ER (cell c (agR d s q)) 1 ∅ 0 : SP F)).symm)
      isplitl [Ad]
      · have eq : (bigSep Finset.univ fun t : Fin 14 => Qd fun d q => (atPos ER (cell c (agR d t.castSucc q)) 1 ∅ 0 : SP F)) ⊢ SQ 14 fun t d q => atPos ER (cell c (agR d t.castSucc q)) 1 ∅ 0 := .rfl
        iapply eq $$ Ad
      iexact Ad'
  isplitl [Ae]; · iexact Ae
  iexact Hcr

end Cert.Ring
-- ==== Proof.Entry.lean ====
/- The whole body: its table, the barrier, and what follows. -/
module

public import proofs.«01_k».proof.Proof.Finish

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

attribute [local instance] Cert.KernelIdeal.Gen.facts

local notation "𝕄" => MT nD τ sig ℕ (Elt F) ℕ UU ℕ

variable (X : Dev nD → S8192x512.Idx → Elt F .bf16) (Y : Dev nD → S512x4096.Idx → Elt F .bf16)
variable (κ : GSem nD τ sig → ℕ) (ιs : Key → ℕ)

/-! ## What every device may consult -/

/-! ## Before the barrier -/

/-- The table's words, as the body reads them. -/
def TabOK (c : Dev nD) (f : S3.Idx → Elt F .i32) : Prop :=
  f ((Rect.unit (s := S3) ![0] S1.size inb_S3_S1_0).emb (Shape.Idx.first (numel1_S1.symm ▸ Nat.one_pos))) = (W0 c).v0
    ∧ f ((Rect.unit (s := S3) ![1] S1.size inb_S3_S1_1).emb (Shape.Idx.first (numel1_S1.symm ▸ Nat.one_pos))) = (W0 c).v1
    ∧ f ((Rect.unit (s := S3) ![2] S1.size inb_S3_S1_2).emb (Shape.Idx.first (numel1_S1.symm ▸ Nat.one_pos))) = (W0 c).v2

theorem own_word {m : Memref sig .tc .smem S3 .i32} {c : Dev nD} {q : PosShare TreeShare} {Φ : PUnit → SP F} {f : S3.Idx → Elt F .i32} {r : Rect S3}
    {hw : (m.access r).Loads} {x : r.shape.Idx} {k : Elt F .i32 → PU F} {w : Elt F .i32} (h : f (r.emb x) = w) :
    (Own m c q f : SP F) ⊢ iprop((Own m c q f -∗ WP c (k w) Φ) -∗ WP c (smemLoadElt m r hw x k) Φ) := by
  subst h
  exact own_load_in r (k := fun g => k (g x))

/-- The own slots of the first three arrivals handed over. -/
theorem release_first (c : Dev nD) (d : Bool) :
    iprop(Inv X Y κ ιs ∗ bigSep Finset.univ fun x : Fin 3 × Fin 4 => iprop(readerAt ES (key c d (c3 x.1) x.2) 0 ∗ slotAny c d (slotOf ((c3 x.1).val + 1)) x.2))
      ⊢ (|={Set.univ}=> bigSep Finset.univ fun x : Fin 3 × Fin 4 => released ES (key c d (c3 x.1) x.2) 1 : SP F) := by
  refine BIBase.Entails.trans ?_ (bigSep_fupd _ _)
  have hs (x : Fin 3 × Fin 4) : (slotAny c d (slotOf ((c3 x.1).val + 1)) x.2 : SP F) ⊢ Sl (key c d (c3 x.1) x.2) := .rfl
  refine bigSep_with_persistent fun x _ => ?_
  show (_ : SP F) ⊢ _
  iintro ⟨#HI, Hr, Hs⟩
  imod (slot_release (E := ES) (k := key c d (c3 x.1) x.2) (S := Sl (F := F) (key c d (c3 x.1) x.2)) (Es := Set.univ) (Set.mem_univ _)
    (Sl_excl _) 0) $$ [Hr Hs] with ⟨-, Hrel⟩
  · isplitr
    · iapply (Inv_slot X Y κ ιs (key c d (c3 x.1) x.2)) $$ HI
    isplitl [Hr]; · iexact Hr
    iapply (hs x) $$ Hs
  imodintro
  iexact Hrel

/-- The unit to a neighbour's barrier. -/
theorem tr_signal (c : Dev nD) (b : Bool) :
    Tr (Ctx1 X Y κ ιs c) c
      iprop(OW c b.toNat ∗ dutyTok ER (barCell (pv b c)) 0 b.toNat ∗ (bigSep Finset.univ fun x : Fin 3 × Fin 4 => released ES (key c b (c3 x.1) x.2) 1)
        ∗ (bigSep Finset.univ fun x : Fin 15 × Fin 4 => outAny c c b x.1.castSucc x.2))
      (fun z => .op (.semSignal ((pv b c : Dev nD), .tc) barSem (1#32).toInt) fun _ => z)
      (OW c (b.toNat + 1)) := by
  intro z Φ
  unfold OW
  iintro ⟨#HC, ⟨⟨%W, HO⟩, Ht, #Hrel, Hout⟩, Hz⟩
  have hd : b.toNat ∈ (Rd X Y).duties (barCell (pv b c)) 0 := by
    rw [duties_bar]; cases b <;> decide
  have hp : (Rd X Y).payload (barCell (pv b c)) 0 b.toNat = (iprop((bigSep Finset.univ fun i : CO => reached ER (cell c i) 0)
    ∗ (bigSep Finset.univ fun x : Fin 3 × Fin 4 => released ES (key c b (c3 x.1) x.2) 1)
    ∗ (bigSep Finset.univ fun x : Fin 15 × Fin 4 => outAny c c b x.1.castSucc x.2)) : SP F) := by
    rw [payload_bar]; unfold barPay outAny; rw [nx_pv]
  iapply (Rounds.wp_signal 𝒱₀ ER (Rd X Y) (c : Thread nD τ) none (dst := ((pv b c : Dev nD) : Thread nD τ)) (sem := barSem) (κ := κ (barCell (pv b c)))
    (r := 0) (d := b.toNat) (k' := 1) hd (amount_bar X Y (pv b c) _) (plv (pBar b)) (owe c (ppos (pBar b) + 1)) (owe_take c (pBar b)) (W := W)) $$ [HO Ht Hout]
  · unfold Ctx1
    icases HC with ⟨#HI, #Hop⟩
    isplitr
    · iapply (Inv_bar X Y κ ιs (pv b c)) $$ HI
    isplitl [HO]; · iexact HO
    isplitl [Ht]; · iexact Ht
    isplitl
    · iapply (Entails.of_eq hp.symm)
      isplitr; · iexact Hop
      isplitr; · iexact Hrel
      iexact Hout
    iapply (Inv_barReached X Y κ ιs (pv b c)) $$ HI
  iintro HO
  iapply Hz
  iexists _; iexact HO

set_option maxRecDepth 20000 in
theorem Ctx1_mayWait (c : Dev nD) : Ctx1 X Y κ ιs c ⊢ (MayWait (c : Thread nD τ) (.reg barSem) 1 (owe c 2) : SP F) := by
  have h1 : Ctx1 X Y κ ιs c ⊢ (levAts L lv : SP F) := by
    unfold Ctx1; iintro ⟨H, -⟩; iapply (Inv_lev X Y κ ιs) $$ H
  exact h1.trans (mayWait (F := F) (n := 1) (k := 2) c (.reg barSem) (by omega) (.inr ⟨le_rfl, by omega⟩))

theorem two_units (c : Dev nD) : iprop(cred (tallyAt (barCell c) 1 1) ∗ cred (tallyAt (barCell c) 1 1)) ⊢ (cred (tallyAt (barCell c) 1 2) : SP F) := by
  have h : (tallyAt (barCell c) 1 2 : CellTallies nD τ sig ℕ) = tallyAt (barCell c) 1 1 + tallyAt (barCell c) 1 1 := by
    exact (tallyAt_add (barCell c) 1 1 1).symm
  rw [h]
  exact (cred_add _ _).2

/-- The barrier passed. -/
theorem tr_barrier (c : Dev nD) :
    Tr (Ctx1 X Y κ ιs c) c
      iprop(OW c 2 ∗ atPos ER (barCell c) 0 ∅ 0 ∗ (cred (tallyAt (barCell c) 1 1) ∗ cred (tallyAt (barCell c) 1 1)))
      (fun z => .op (.semWait barSem (2#32).toInt) fun _ => z)
      iprop(OW c 2 ∗ atPos ER (barCell c) 1 ∅ 0 ∗ (barPay c false ∗ barPay c true)) := by
  intro z Φ
  unfold OW
  iintro ⟨#HC, ⟨⟨%W, HO⟩, Hat, Hcr⟩, Hz⟩
  ihave Hcr := (two_units c) $$ Hcr
  ihave Hmw := (Ctx1_mayWait X Y κ ιs c) $$ HC
  have hexp := expect_bar X Y c
  have hrest := rest_bar X Y c
  iapply (Rounds.wp_wait_rest_token 𝒱₀ ER (Rd X Y) (c : Thread nD τ) none (κ := κ (barCell c)) (sm := .reg barSem) (k' := 2)
      (wpE_semWait_eq 𝒱₀ (c : Thread nD τ) none Set.univ) (Set.mem_univ _) 1 (O := owe c 2) (W := W)
      (R := 0) (m := 0) (T := ∅) (by rw [hexp])) $$ [Hcr HO Hat Hmw]
  · isplitr
    · unfold Ctx1
      icases HC with ⟨#HI, -⟩
      iapply (Inv_bar X Y κ ιs c) $$ HI
    isplitl [Hcr]; · iexact Hcr
    isplitl [HO]; · iexact HO
    isplitl [Hmw]; · iexact Hmw
    iexact Hat
  iintro ⟨HO, Hat, -, Hp⟩
  ihave Hp := (Entails.of_eq hrest) $$ Hp
  iapply Hz
  isplitl [HO]; · iexists _; iexact HO
  isplitl [Hat] <;> iassumption

/-! ## The whole body -/

theorem rest_eq (c : Dev nD) : (Body.rest A0 (W0 c) : PU F) =
    Body.init A0 (W0 c) false (Body.init A0 (W0 c) true (.op (.semWait barSem (2#32).toInt) fun _ => main c (.ret ⟨⟩))) := rfl

theorem SQ_pair (n : ℕ) (Φ : Fin n → Bool → Fin 4 → SP F) :
    SQ n Φ = iprop((bigSep Finset.univ fun x : Fin n × Fin 4 => Φ x.1 false x.2) ∗ (bigSep Finset.univ fun x : Fin n × Fin 4 => Φ x.1 true x.2)) := by
  rw [bigSep_univ_prod, bigSep_univ_prod]
  exact (bigSep_congr fun s _ => Qd_split (Φ s)).trans (bigSep_sep' ..)

theorem slots_entry (c : Dev nD) (d : Bool) :
    (accAny c d : SP F) ⊢ iprop((bigSep Finset.univ fun q => slotAny c d 0 q) ∗ bigSep Finset.univ fun x : Fin 3 × Fin 4 => slotAny c d (slotOf ((c3 x.1).val + 1)) x.2) := by
  refine (acc_cut c d).trans ?_
  have e1 := bigSep_univ_prod (fun x : Fin 4 × Fin 4 => (slotAny c d x.1 x.2 : SP F))
  have e2 := bigSep_fin_next (n := 3) (fun a : Fin 4 => (bigSep Finset.univ fun q : Fin 4 => slotAny c d a q : SP F))
  have e3 := bigSep_univ_prod (fun x : Fin 3 × Fin 4 => (slotAny c d x.1.succ x.2 : SP F))
  have hf : ∀ a : Fin 3, slotOf ((c3 a).val + 1) = a.succ := by decide
  have hs (x : Fin 3 × Fin 4) : (slotAny c d x.1.succ x.2 : SP F) = slotAny c d (slotOf ((c3 x.1).val + 1)) x.2 := by
    rw [show slotOf ((c3 x.1).val + 1) = x.1.succ from hf x.1]
  rw [e1, e2, ← e3]
  exact BIClass.sep_mono .rfl (Entails.of_eq (bigSep_congr fun x _ => hs x))

theorem readers_entry (c : Dev nD) :
    iprop(Qd (fun d q => readerAt ES (key c d 0 q) 0) ∗ Qd (fun d q => readerAt ES (key c d 1 q) 0) ∗ Qd (fun d q => readerAt ES (key c d 2 q) 0))
      ⊢ (iprop((bigSep Finset.univ fun x : Fin 3 × Fin 4 => readerAt ES (key c false (c3 x.1) x.2) 0) ∗ (bigSep Finset.univ fun x : Fin 3 × Fin 4 => readerAt ES (key c true (c3 x.1) x.2) 0)) : SP F) := by
  have e := SQ_pair 3 (fun s d q => (readerAt ES (key c d (c3 s) q) 0 : SP F))
  refine BIBase.Entails.trans ?_ (Entails.of_eq e)
  have e2 := SQ_next 2 (fun s d q => (readerAt ES (key c d (c3 s) q) 0 : SP F))
  have e1 := SQ_next 1 (fun s d q => (readerAt ES (key c d (c3 s.succ) q) 0 : SP F))
  have e0 := SQ_next 0 (fun s d q => (readerAt ES (key c d (c3 s.succ.succ) q) 0 : SP F))
  refine BIBase.Entails.trans ?_ (Entails.of_eq (e2.trans (congrArg (fun Z => iprop(_ ∗ Z)) (e1.trans (congrArg (fun Z => iprop(_ ∗ Z)) e0)))).symm)
  show (_ : SP F) ⊢ _
  iintro ⟨H0, H1, H2⟩
  isplitl [H0]; · iexact H0
  isplitl [H1]; · iexact H1
  isplitl [H2]; · iexact H2
  unfold SQ
  rw [show (Finset.univ : Finset (Fin 0)) = ∅ from rfl, BI.bigSep_empty]
  iempintro

theorem init_both (c : Dev nD) :
    Tr (Ctx1 X Y κ ιs c) c
      iprop(XW X Y c ∗ (bigSep Finset.univ fun q => slotAny c false 0 q) ∗ (bigSep Finset.univ fun q => slotAny c true 0 q))
      (fun z => Body.init A0 (W0 c) false (Body.init A0 (W0 c) true z))
      iprop(XW X Y c ∗ Qd (fun d q => Own (A0.slot d 0 q) c fullShare (sentV X Y d q 0 c))) := by
  have e := Qd_split (fun d q => (Own (A0.slot d 0 q) c fullShare (sentV X Y d q 0 c) : SP F))
  unfold XW
  intro z Φ
  iintro ⟨#HC, ⟨⟨Hx, Hw⟩, Hs, Hs'⟩, Hz⟩
  iapply (tr_init X Y (C := Ctx1 X Y κ ιs c) c fullShare fullShare false _ Φ)
  isplitr; · iexact HC
  isplitl [Hx Hw Hs]
  · isplitl [Hx]; · iexact Hx
    isplitl [Hw]; · iexact Hw
    iexact Hs
  iintro ⟨Hx, Hw, Hs⟩
  iapply (tr_init X Y (C := Ctx1 X Y κ ιs c) c fullShare fullShare true z Φ)
  isplitr; · iexact HC
  isplitl [Hx Hw Hs']
  · isplitl [Hx]; · iexact Hx
    isplitl [Hw]; · iexact Hw
    iexact Hs'
  iintro ⟨Hx, Hw, Hs'⟩
  iapply Hz
  isplitl [Hx Hw]
  · isplitl [Hx] <;> iassumption
  iapply (Entails.of_eq e.symm)
  isplitl [Hs] <;> iassumption

/-- What the body starts from, besides what every device may consult. -/
def Start (c : Dev nD) : SP F :=
  iprop(OW c 0 ∗ XW X Y c ∗ locsAny c ∗ (accAny c false ∗ accAny c true) ∗ (finAny c false ∗ finAny c true) ∗ (∃ f, Own A0.out c fullShare f)
    ∗ Dealt c ∗ atPos ER (barCell c) 0 ∅ 0)

theorem run_rest (c : Dev nD) (Φ : PUnit → SP F) :
    iprop(Ctx1 X Y κ ιs c ∗ Start X Y c ∗ ((End X Y c ∗ atPos ER (barCell c) 1 ∅ 0) -∗ Φ ⟨⟩))
      ⊢ WP c (Body.tail A0 (W0 c)) Φ := by
  have ht : (Body.tail A0 (W0 c) : PU F) = .op (.semSignal ((pv false c : Dev nD), .tc) barSem (1#32).toInt) fun _ =>
          .op (.semSignal ((pv true c : Dev nD), .tc) barSem (1#32).toInt) fun _ => Body.rest A0 (W0 c) := by
    unfold Body.tail pv; rfl
  rw [ht]
  unfold Start
  iintro ⟨#HC, ⟨HO, HXW, HL, ⟨Ha, Ha'⟩, ⟨Hf, Hf'⟩, Hout, HD, Hb⟩, Hz⟩
  ihave HD := (dealt_split c) $$ HD
  icases HD with ⟨HE, HLate⟩
  unfold Early
  icases HE with ⟨⟨Ht, Ht'⟩, Hcr, Hrd⟩
  ihave Hrd := (readers_entry c) $$ Hrd
  icases Hrd with ⟨Hrd, Hrd'⟩
  ihave Ha := (slots_entry c false) $$ Ha
  icases Ha with ⟨Ha0, Ha⟩
  ihave Ha' := (slots_entry c true) $$ Ha'
  icases Ha' with ⟨Ha0', Ha'⟩
  ihave #HI : (Inv X Y κ ιs : SP F) $$ []
  · unfold Ctx1; icases HC with ⟨H, -⟩; iexact H
  have hz (d : Bool) := bigSep_sep' (Finset.univ : Finset (Fin 3 × Fin 4)) (fun x => (readerAt ES (key c d (c3 x.1) x.2) 0 : SP F)) (fun x => slotAny c d (slotOf ((c3 x.1).val + 1)) x.2)
  imod (release_first X Y κ ιs c false) $$ [Hrd Ha] with #Hrel
  · isplitr; · iexact HI
    iapply (Entails.of_eq (hz false).symm)
    isplitl [Hrd] <;> iassumption
  imod (release_first X Y κ ιs c true) $$ [Hrd' Ha'] with #Hrel'
  · isplitr; · iexact HI
    iapply (Entails.of_eq (hz true).symm)
    isplitl [Hrd'] <;> iassumption
  ihave Hout := (out_cut c) $$ Hout
  ihave Hout := (Entails.of_eq (SQ_last 15 fun t d q => (outAny c c d t q : SP F))) $$ Hout
  icases Hout with ⟨Hout, Hmine⟩
  ihave Hout := (Entails.of_eq (SQ_pair 15 fun t d q => (outAny c c d t.castSucc q : SP F))) $$ Hout
  icases Hout with ⟨Ho, Ho'⟩
  iapply (tr_signal X Y κ ιs c false _ Φ)
  isplitr; · iexact HC
  isplitl [HO Ht Ho]
  · isplitl [HO]; · iexact HO
    isplitl [Ht]; · iexact Ht
    isplitr; · iexact Hrel
    iexact Ho
  iintro HO
  iapply (tr_signal X Y κ ιs c true _ Φ)
  isplitr; · iexact HC
  isplitl [HO Ht' Ho']
  · isplitl [HO]; · iexact HO
    isplitl [Ht']; · iexact Ht'
    isplitr; · iexact Hrel'
    iexact Ho'
  iintro HO
  rw [rest_eq]
  iapply (init_both X Y κ ιs c _ Φ)
  isplitr; · iexact HC
  isplitl [HXW Ha0 Ha0']
  · isplitl [HXW]; · iexact HXW
    isplitl [Ha0] <;> iassumption
  iintro ⟨HXW, Hs⟩
  iapply (tr_barrier X Y κ ιs c _ Φ)
  isplitr; · iexact HC
  isplitl [HO Hb Hcr]
  · isplitl [HO]; · iexact HO
    isplitl [Hb]; · iexact Hb
    iexact Hcr
  iintro ⟨HO, Hb, ⟨Hp, Hp'⟩⟩
  unfold barPay
  icases Hp with ⟨#Hr1, #Hr2, Hn⟩
  icases Hp' with ⟨#Hr1', #Hr2', Hn'⟩
  have hret : (iprop(MEnd X Y c -∗ Φ ⟨⟩) : SP F) ⊢ iprop(MEnd X Y c -∗ WP c (.ret ⟨⟩) Φ) := by
    iintro H H'
    rw [WP, wp_ret]
    imodintro
    iapply H $$ H'
  iapply (tr_main X Y κ ιs c (.ret ⟨⟩) Φ)
  isplitr
  · unfold Ctx Told
    isplitr; · iexact HC
    isplitr
    · isplitr; · iexact Hr1
      iexact Hr2
    · isplitr; · iexact Hr1'
      iexact Hr2'
  isplitr [Hz Hb]
  · isplitl [HO]; · iexact HO
    isplitl [HXW]; · iexact HXW
    isplitl [HL]; · iexact HL
    isplitl [Hs]; · iexact Hs
    iapply (main_res c)
    isplitl [HLate]; · iexact HLate
    unfold Mem
    isplitl [Hf Hf']
    · rw [Qd_split]
      isplitl [Hf]
      · iapply (fin_cut c false) $$ Hf
      · iapply (fin_cut c true) $$ Hf'
    isplitl [Hmine]; · iexact Hmine
    iapply (Entails.of_eq (SQ_pair 15 fun t d q => (outAny (nx d c) (nx d c) d t.castSucc q : SP F)).symm)
    isplitl [Hn]; · iexact Hn
    iexact Hn'
  iapply hret
  iintro HE
  iapply Hz
  isplitl [HE]
  · iapply (main_end X Y c) $$ HE
  iexact Hb

theorem chk2_all (c : Dev nD) : k0_chk2 (W0 c).v1 := by revert c; decide +kernel
theorem chk1_all (c : Dev nD) : k0_chk1 (W0 c).v2 := by revert c; decide +kernel

/-- The body's run. -/
theorem run_body (c : Dev nD) (qt : PosShare TreeShare) (f : S3.Idx → Elt F .i32) (hf : TabOK c f) (Φ : PUnit → SP F) :
    iprop(Ctx1 X Y κ ιs c ∗ (Own A0.tab c qt f ∗ Start X Y c) ∗ ((Own A0.tab c qt f ∗ End X Y c ∗ atPos ER (barCell c) 1 ∅ 0) -∗ Φ ⟨⟩))
      ⊢ WP c (Body.body A0) Φ := by
  iintro ⟨#HC, ⟨HT, HS⟩, Hz⟩
  unfold Body.body
  iapply (own_word (Φ := Φ) hf.1) $$ HT
  iintro HT
  iapply (wp_assume 𝒱₀ (c : Thread nD τ) none Set.univ (W0 c).h0)
  iapply (own_word (Φ := Φ) hf.2.1) $$ HT
  iintro HT
  iapply (wp_assume 𝒱₀ (c : Thread nD τ) none Set.univ (chk2_all c))
  iapply (own_word (Φ := Φ) hf.2.2) $$ HT
  iintro HT
  iapply (wp_assume 𝒱₀ (c : Thread nD τ) none Set.univ (chk1_all c))
  iapply (run_rest X Y κ ιs c Φ)
  isplitr; · iexact HC
  isplitl [HS]; · iexact HS
  iintro ⟨HE, Hb⟩
  iapply Hz
  isplitl [HT]; · iexact HT
  isplitl [HE] <;> iassumption

end Cert.Ring
-- ==== Proof.Host.lean ====
/- What the kernel's operands hold when it starts: the rounded arguments, and the device's table of words. -/
module

public import proofs.«01_k».proof.Proof.Entry
public import proofs.«01_k».proof.Proof.Gen.KernelIdeal.Regions
public import proofs.«01_k».proof.Proof.Gen.KernelIdeal.Points
public import Idealize.ShloMosaic.Lib.StableHlo.RunRead

@[expose] public section

noncomputable section

namespace Cert.Ring

open Idealize.ShloMosaic Idealize.ShloMosaic.TcCoe
open Idealize.SL Idealize.SL.RA Idealize.SL.BI
open Cert.KernelIdeal Cert.KernelIdeal.Gen

variable {F : FTy → Type} [FloatOps F]

attribute [local instance] Cert.KernelIdeal.Gen.facts

variable (m : (ℓ : Loc nD τ sig) → Buf (Elt F) ℓ)

/-- The operands at the kernel's start. -/
def tabV (c : Dev nD) : S3.Idx → Elt F .i32 := V1 m c main_v25
def Xm (c : Dev nD) : S8192x512.Idx → Elt F .bf16 := V1 m c main_v1
def Ym (c : Dev nD) : S512x4096.Idx → Elt F .bf16 := V1 m c main_v2

theorem Xm_eq (c : Dev nD) : Xm m c = truncf .bf16 (m ((c : Thread nD τ).loc main_arg0) : S8192x512.Idx → Elt F .f32) bitsLt_bf16_f32 := by
  unfold Xm V1
  after_reads_simp
theorem Ym_eq (c : Dev nD) : Ym m c = truncf .bf16 (m ((c : Thread nD τ).loc main_arg1) : S512x4096.Idx → Elt F .f32) bitsLt_bf16_f32 := by
  unfold Ym V1
  after_reads_simp

theorem ds_const (x : S16.Idx → BitVec 32) (g : Fin 1 → ℤ) (h) :
    Host.dynamicSlice S1 x g h = Host.dynamicSlice S1 x (fun _ => g 0) h := by
  congr 1
  funext k
  rw [Subsingleton.elim k 0]

def one (k : Fin 16) : S16.Idx := fun a => ⟨k.val, by fin_cases a; exact k.isLt⟩
theorem row_one (k : Fin 16) : (S16.rowMajor (one k) : Fin 16) = k := by
  fin_cases k <;> with_unfolding_all rfl

/-- Entry `k` of a table, as the host picks it. -/
theorem pick (l : Fin 16 → BitVec 32) (k : Fin 16) (z : ℤ) (hz : z = (k.val : ℤ)) (h1 h2 h3) (i : S1.Idx) :
    broadcastInDim S1 ![] h1 (fun i => shapeCast S_
      (Host.dynamicSlice S1 (fun i => l (S16.rowMajor i)) (fun _ => z) h2) h3 i) i = l k := by
  subst hz
  have e : (min (max (k.val : ℤ) 0) ((16 - 1 : ℕ) : ℤ)).toNat = k.val := by omega
  show l (S16.rowMajor _) = l k
  refine congrArg l ((congrArg S16.rowMajor ?_).trans (row_one k))
  funext a
  apply Fin.ext
  fin_cases a
  exact (congrArg₂ (· + ·) e (Fin.val_eq_zero _)).trans (Nat.add_zero _)
theorem cat0 (a b c : S1.Idx → BitVec 32) (h) (h') : ∃ i, concatenate S3 0 [⟨S1, a⟩, ⟨S1, b⟩, ⟨S1, c⟩] h
    ((Rect.unit ![0] ![1] inb_S3_S1_0).emb (Shape.Idx.first h')) = a i := by
  refine ⟨?i, ?h⟩
  case h => with_unfolding_all rfl
theorem cat1 (a b c : S1.Idx → BitVec 32) (h) (h') : ∃ i, concatenate S3 0 [⟨S1, a⟩, ⟨S1, b⟩, ⟨S1, c⟩] h
    ((Rect.unit ![1] ![1] inb_S3_S1_1).emb (Shape.Idx.first h')) = b i := by
  refine ⟨?i, ?h⟩
  case h => with_unfolding_all rfl
theorem cat2 (a b c : S1.Idx → BitVec 32) (h) (h') : ∃ i, concatenate S3 0 [⟨S1, a⟩, ⟨S1, b⟩, ⟨S1, c⟩] h
    ((Rect.unit ![2] ![1] inb_S3_S1_2).emb (Shape.Idx.first h')) = c i := by
  refine ⟨?i, ?h⟩
  case h => with_unfolding_all rfl

theorem tab_ok (c : Dev nD) : TabOK c (tabV m c) := by
  unfold TabOK tabV V1
  after_reads_simp
  simp only [Matrix.cons_val_zero, Matrix.cons_val_one, Matrix.cons_val]
  after_reads_simp
  simp only [ds_const _ (fun k => BitVec.toInt _), Matrix.cons_val_zero]
  after_reads_simp
  refine ⟨(cat0 _ _ _ _ _).choose_spec.trans ((pick lit0 c _ ?_ _ _ _ _).trans ?_), (cat1 _ _ _ _ _).choose_spec.trans ((pick lit1 c _ ?_ _ _ _ _).trans ?_),
    (cat2 _ _ _ _ _).choose_spec.trans ((pick lit2 c _ ?_ _ _ _ _).trans ?_)⟩
  · revert c; intro c; fin_cases c <;> with_unfolding_all rfl
  · revert c; intro c; fin_cases c <;> with_unfolding_all rfl
  · revert c; intro c; fin_cases c <;> with_unfolding_all rfl
  · revert c; intro c; fin_cases c <;> with_unfolding_all rfl
  · revert c; intro c; fin_cases c <;> with_unfolding_all rfl
  · revert c; intro c; fin_cases c <;> with_unfolding_all rfl

/-- The windows are the whole operands. -/
theorem blk_tab (c : Dev nD) : ((cfg0.win 0).blk t0_0).view.read (Elt F) (V1 m c main_v25) = tabV m c := by
  funext x
  show V1 m c main_v25 _ = V1 m c main_v25 x
  congr 1
  funext a
  apply Fin.ext
  show 0 * _ + 1 * (x a).val = (x a).val
  omega
theorem blk_x (c : Dev nD) : ((cfg0.win 1).blk t0_0).view.read (Elt F) (V1 m c main_v1) = Xm m c := by
  funext x
  show V1 m c main_v1 _ = V1 m c main_v1 x
  congr 1
  funext a
  apply Fin.ext
  fin_cases a <;> (show 0 * _ + 1 * (x _).val = (x _).val; omega)
theorem blk_w (c : Dev nD) : ((cfg0.win 2).blk t0_0).view.read (Elt F) (V1 m c main_v2) = Ym m c := by
  funext x
  show V1 m c main_v2 _ = V1 m c main_v2 x
  congr 1
  funext a
  apply Fin.ext
  fin_cases a <;> (show 0 * _ + 1 * (x _).val = (x _).val; omega)

end Cert.Ring
-- ==== Proof.Region.lean ====
/- The kernel's call as a segment of the program: its proof data, its body's obligation, its record. -/
module

public import proofs.«01_k».proof.Proof.Host

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

attribute [local instance] Cert.KernelIdeal.Gen.facts

local notation "𝕄" => MT nD τ sig ℕ (Elt F) ℕ UU ℕ

variable (m : (ℓ : Loc nD τ sig) → Buf (Elt F) ℓ)

/-! ## Whole buffers -/

theorem whole_own (r : Ref sig .tc) (c : Dev nD) (f : Buf (Elt F) ((c : Thread nD τ).loc r)) :
    (((c : Thread nD τ).loc r ↦{fullShare} f) : SP F) ⊢ Own (Memref.whole r) c fullShare f := by
  have h : (((c : Thread nD τ).loc r ↦{fullShare} f) : SP F) = ((Memref.whole r).view.loc (c : Thread nD τ) ↦[(Memref.whole r).view.set]{fullShare} f) := by
    rw [show (Memref.whole r).view.set = Finset.univ from View.set_whole r]
  rw [h]
  exact own_intro (m := Memref.whole r) (c := c) (q := fullShare) f
theorem own_whole (r : Ref sig .tc) (c : Dev nD) (f : Buf (Elt F) ((c : Thread nD τ).loc r)) :
    (Own (Memref.whole r) c fullShare f : SP F) ⊢ ((c : Thread nD τ).loc r ↦{fullShare} f) := by
  unfold Own
  iintro ⟨%g, %hg, H⟩
  have e : g = f := hg
  subst e
  have h : (((c : Thread nD τ).loc r ↦{fullShare} g) : SP F) = ((Memref.whole r).view.loc (c : Thread nD τ) ↦[(Memref.whole r).view.set]{fullShare} g) := by
    rw [show (Memref.whole r).view.set = Finset.univ from View.set_whole r]
  rw [h]
  iexact H
theorem whole_any (r : Ref sig .tc) (c : Dev nD) :
    (iprop(∃ f : Buf (Elt F) ((c : Thread nD τ).loc r), (c : Thread nD τ).loc r ↦{fullShare} f) : SP F) ⊢ iprop(∃ f, Own (Memref.whole r) c fullShare f) := by
  iintro ⟨%f, H⟩; iexists f; iapply (whole_own r c f) $$ H
theorem any_whole (r : Ref sig .tc) (c : Dev nD) :
    (iprop(∃ f, Own (Memref.whole r) c fullShare f) : SP F) ⊢ iprop(∃ f : Buf (Elt F) ((c : Thread nD τ).loc r), (c : Thread nD τ).loc r ↦{fullShare} f) := by
  iintro ⟨%f, H⟩; iexists f; iapply (own_whole r c f) $$ H

theorem each_pair {ι : Type} [DecidableEq ι] {s : Finset ι} {Φ Ψ : ι → SP F} : iprop(bigSep s Φ ∗ bigSep s Ψ) ⊢ bigSep s fun i => iprop(Φ i ∗ Ψ i) :=
  Entails.of_eq (bigSep_sep' ..).symm
theorem each_unpair {ι : Type} [DecidableEq ι] {s : Finset ι} {Φ Ψ : ι → SP F} : (bigSep s fun i => iprop(Φ i ∗ Ψ i)) ⊢ iprop(bigSep s Φ ∗ bigSep s Ψ) :=
  Entails.of_eq (bigSep_sep' ..)

/-- The kernel's scratch buffers. -/
def Scratch (c : Dev nD) : SP F := iprop(locsAny c ∗ (accAny c false ∗ accAny c true) ∗ (finAny c false ∗ finAny c true))

abbrev WAny (r : Ref sig .tc) (c : Dev nD) : SP F := iprop(∃ f, Own (Memref.whole r) c fullShare f)
theorem Scratch_eq (c : Dev nD) : (Scratch c : SP F) = iprop((WAny cc0_scratch2 c ∗ WAny cc0_scratch3 c) ∗ (WAny cc0_scratch0 c ∗ WAny cc0_scratch1 c)
    ∗ (WAny cc0_scratch4 c ∗ WAny cc0_scratch5 c)) := rfl

theorem scratch_in (c : Dev nD) : (Pipeline.scopedRest (Ix := ℕ) (Name := ℕ) (U := UU) (Lvl := ℕ) (Val := Elt F) spec0 c : SP F) ⊢ Scratch c := by
  rw [scopedRest0_eq]
  iintro ⟨H0, H1, H2, H3, H4, H5⟩
  rw [Scratch_eq]
  isplitl [H2 H3]
  · isplitl [H2]; · iapply (whole_any cc0_scratch2 c) $$ H2
    iapply (whole_any cc0_scratch3 c) $$ H3
  isplitl [H0 H1]
  · isplitl [H0]; · iapply (whole_any cc0_scratch0 c) $$ H0
    iapply (whole_any cc0_scratch1 c) $$ H1
  isplitl [H4]; · iapply (whole_any cc0_scratch4 c) $$ H4
  iapply (whole_any cc0_scratch5 c) $$ H5
theorem scratch_out (c : Dev nD) : (Scratch c : SP F) ⊢ Pipeline.scopedRest (Ix := ℕ) (Name := ℕ) (U := UU) (Lvl := ℕ) (Val := Elt F) spec0 c := by
  rw [scopedRest0_eq]
  rw [Scratch_eq]
  iintro ⟨⟨H2, H3⟩, ⟨H0, H1⟩, H4, H5⟩
  isplitl [H0]; · iapply (any_whole cc0_scratch0 c) $$ H0
  isplitl [H1]; · iapply (any_whole cc0_scratch1 c) $$ H1
  isplitl [H2]; · iapply (any_whole cc0_scratch2 c) $$ H2
  isplitl [H3]; · iapply (any_whole cc0_scratch3 c) $$ H3
  isplitl [H4]; · iapply (any_whole cc0_scratch4 c) $$ H4
  iapply (any_whole cc0_scratch5 c) $$ H5

/-! ## The proof data -/

/-- What a device brings to the call. -/
def Tk (c : Dev nD) : SP F :=
  iprop(∃ κ ιs, Inv (Xm m) (Ym m) κ ιs ∗ (bigSep Finset.univ fun i : CO => openTok ER (cell c i)) ∗ (PTok c ∗ OTok c) ∗ PCred c ∗ (WTok c ∗ RPos c)
    ∗ atPos ER (barCell c) 0 ∅ 0)
/-- With its own cells open. -/
def Xk (c : Dev nD) : SP F := iprop(∃ κ ιs, Ctx1 (Xm m) (Ym m) κ ιs c ∗ Dealt c ∗ atPos ER (barCell c) 0 ∅ 0)

theorem hopen (c : Dev nD) : iprop(Tk m c ∗ Pipeline.ownSems0 osem c ∗ levAts L lv) ⊢ (|={Set.univ}=> Xk m c : SP F) := by
  unfold Tk Xk
  iintro ⟨⟨%κ, %ιs, #HI, Ho, ⟨HP, HO⟩, HC, HW, Hb⟩, Hs, -⟩
  have h (i : CO) : iprop(Inv (Xm m) (Ym m) κ ιs ∗ (openTok ER (cell c i) ∗ semVal (cell c i) 0)) ⊢ (|={Set.univ}=> (atPos ER (cell c i) 0 ∅ 0 ∗ reached ER (cell c i) 0) : SP F) := by
    iintro ⟨#HI, H1, H2⟩
    iapply (Rounds.cell_open ER (Rd (Xm m) (Ym m)) (g := cell c i) (Set.mem_univ (κ (cell c i))))
    isplitr; · iapply (Inv_cell (Xm m) (Ym m) κ ιs c i) $$ HI
    isplitl [H1] <;> iassumption
  have h2 : iprop(Inv (Xm m) (Ym m) κ ιs ∗ bigSep Finset.univ fun i : CO => iprop(openTok ER (cell c i) ∗ semVal (cell c i) 0))
      ⊢ (|={Set.univ}=> bigSep Finset.univ fun i : CO => iprop(atPos ER (cell c i) 0 ∅ 0 ∗ reached ER (cell c i) 0) : SP F) :=
    (bigSep_with_persistent fun i _ => h i).trans (fun x => bigSep_fupd _ _ x)
  imod h2 $$ [Ho Hs] with H
  · isplitr; · iexact HI
    iapply each_pair
    isplitl [Ho]; · iexact Ho
    unfold Pipeline.ownSems0; iexact Hs
  ihave H' := each_unpair $$ H
  icases H' with ⟨Ha, #Hr⟩
  imodintro
  iexists κ, ιs
  isplitr
  · unfold Ctx1; isplitr; · iexact HI
    iexact Hr
  isplitr [Hb]
  · unfold Dealt Pos
    isplitl [Ha HP HO]
    · isplitl [Ha]; · iexact Ha
      isplitl [HP] <;> iassumption
    isplitl [HC] <;> iassumption
  iexact Hb

def resAny (c : Dev nD) : SP F := iprop(∃ f, Own A0.out c fullShare f)
def Φ0 (c : Dev nD) : SP F := iprop(Xk m c ∗ Scratch c ∗ resAny c ∗ ∃ r, prngReg c r)
def Φ1 (c : Dev nD) : SP F :=
  iprop(Scratch c ∗ (∃ r, prngReg c r) ∗ Own A0.out c fullShare (fullV (Xm m) (Ym m)) ∗ Pipeline.ownSems0 osem c ∗ semVal (barCell c) 0)

/-- Before the one point, and after it. -/
def sel {α : Type} (a b : α) (n : ℕ) : α := if n = 0 then a else b

def dat (c : Dev nD) : Pipeline.Dat τ (Elt F) ℕ ℕ UU ℕ cfg0 c where
  A w := match w with
    | 0 => V1 m c main_v25
    | 1 => V1 m c main_v1
    | 2 => V1 m c main_v2
  after w t := match w with
    | 0 => tabV m c
    | 1 => Xm m c
    | 2 => Ym m c
  Φ t := sel (Φ0 m c) (Φ1 m c) t.val
  q _ := fullShare
  owed t := sel (owe c 0) 0 t.val

def pdats : (p : Fin 1) → (c : Dev nD) → Pipeline.Dat τ (Elt F) ℕ ℕ UU ℕ (cfgs p) c := fun _ => dat m

theorem owesAt_intro (c : Dev nD) (t : Fin (cfg0.N + 1)) {O : CellTallies nD τ sig ℕ} (h0 : (dat m c).owed t = O) :
    (iprop(∃ W, owes (c : Thread nD τ) O W) : SP F) ⊢ (dat m c).owesAt 0 t := by
  subst h0
  iintro ⟨%W, HO⟩
  unfold Pipeline.Dat.owesAt Pipeline.owesWithin Pipeline.Dat.bound
  iexists W
  isplitr; · ipureintro; exact fun _ _ => Or.inl trivial
  iexact HO
theorem owesAt_elim (c : Dev nD) (t : Fin (cfg0.N + 1)) {O : CellTallies nD τ sig ℕ} (h0 : (dat m c).owed t = O) :
    (dat m c).owesAt 0 t ⊢ (iprop(∃ W, owes (c : Thread nD τ) O W) : SP F) := by
  subst h0
  unfold Pipeline.Dat.owesAt Pipeline.owesWithin
  iintro ⟨%W, -, HO⟩
  iexists W; iexact HO

theorem before_0 (c : Dev nD) (d) : (dat m c).before 0 t0_0 d = tabV m c := by
  unfold Pipeline.Dat.before; rw [if_pos (fetch0_0 t0_0)]; exact blk_tab m c
theorem before_1 (c : Dev nD) (d) : (dat m c).before 1 t0_0 d = Xm m c := by
  unfold Pipeline.Dat.before; rw [if_pos (fetch0_1 t0_0)]; exact blk_x m c
theorem before_2 (c : Dev nD) (d) : (dat m c).before 2 t0_0 d = Ym m c := by
  unfold Pipeline.Dat.before; rw [if_pos (fetch0_2 t0_0)]; exact blk_w m c

/-- Every counter of the kernel back at zero. -/
theorem closing (κ : GSem nD τ sig → ℕ) (ιs : Key → ℕ) (c : Dev nD) :
    iprop(Ctx1 (Xm m) (Ym m) κ ιs c ∗ Pos c 1 ∗ atPos ER (barCell c) 1 ∅ 0) ⊢ (|={Set.univ}=> (Pipeline.ownSems0 osem c ∗ semVal (barCell c) 0) : SP F) := by
  have h (i : CO) : iprop(Inv (Xm m) (Ym m) κ ιs ∗ atPos ER (cell c i) 1 ∅ 0) ⊢ (|={Set.univ}=> semVal (cell c i) 0 : SP F) := by
    iintro ⟨#HI, H⟩
    iapply (Rounds.cell_close ER (Rd (Xm m) (Ym m)) (g := cell c i) (Set.mem_univ (κ (cell c i))) id (duties_later (Xm m) (Ym m) _))
    isplitr; · iapply (Inv_cell (Xm m) (Ym m) κ ιs c i) $$ HI
    iexact H
  have h2 : iprop(Inv (Xm m) (Ym m) κ ιs ∗ Pos c 1) ⊢ (|={Set.univ}=> Pipeline.ownSems0 osem c : SP F) :=
    (bigSep_with_persistent fun i _ => h i).trans (fun x => bigSep_fupd _ _ x)
  unfold Ctx1
  iintro ⟨⟨#HI, -⟩, HP, Hb⟩
  imod h2 $$ [HP] with H
  · isplitr; · iexact HI
    iexact HP
  imod (Rounds.cell_close ER (Rd (Xm m) (Ym m)) (g := barCell c) (Set.mem_univ (κ (barCell c))) id (duties_later (Xm m) (Ym m) _)) $$ [Hb] with Hb
  · isplitr; · iapply (Inv_bar (Xm m) (Ym m) κ ιs c) $$ HI
    iexact Hb
  imodintro
  isplitl [H] <;> iassumption

theorem call_eq : (defs₀ (F := F) .tc cfg0.body (cfg0.bodyArgs t0_0 (cfg0.slots t0_0)) : PU F) = Body.body A0 :=
  (show _ = bodyAt0 t0_0 from rfl).trans (body_eq ..)

/-- What the body is given, and what it leaves. -/
theorem run_call (c : Dev nD) :
    iprop(Φ0 m c ∗ (∃ W, owes (c : Thread nD τ) (owe c 0) W) ∗ (Own A0.tab c fullShare (tabV m c) ∗ Own A0.x c fullShare (Xm m c) ∗ Own A0.w c fullShare (Ym m c)))
      ⊢ WP c (Body.body A0) fun _ => iprop(Φ1 m c ∗ (∃ W, owes (c : Thread nD τ) (0 : CellTallies nD τ sig ℕ) W)
        ∗ (Own A0.tab c fullShare (tabV m c) ∗ Own A0.x c fullShare (Xm m c) ∗ Own A0.w c fullShare (Ym m c))) := by
  refine BIBase.Entails.trans ?_ (wp_fupd (Fr := frame) (wpE := wpE (defs₀ (F := F)) 𝒱₀ (c : Thread nD τ) none) (E := Set.univ) (Body.body A0) _)
  unfold Φ0 Xk Scratch resAny
  iintro ⟨⟨⟨%κ, %ιs, #HC, HD, Hb⟩, ⟨Hl, Ha, Hf⟩, Ho, Hp⟩, HO, Ht, Hx, Hw⟩
  iapply (run_body (Xm m) (Ym m) κ ιs c fullShare (tabV m c) (tab_ok m c))
  isplitr; · iexact HC
  isplitl [HD Hb Hl Ha Hf Ho HO Ht Hx Hw]
  · isplitl [Ht]; · iexact Ht
    unfold Start OW XW
    isplitl [HO]; · iexact HO
    isplitl [Hx Hw]; · isplitl [Hx] <;> iassumption
    isplitl [Hl]; · iexact Hl
    isplitl [Ha]; · iexact Ha
    isplitl [Hf]; · iexact Hf
    isplitl [Ho]; · iexact Ho
    isplitl [HD] <;> iassumption
  unfold End OW XW
  rw [owe_end]
  iintro ⟨Ht, ⟨HO, ⟨Hx, Hw⟩, Hl, Ha, Hf, Ho, HP⟩, Hb⟩
  imod (closing m κ ιs c) $$ [HP Hb] with ⟨Hs, Hb⟩
  · isplitr; · iexact HC
    isplitl [HP] <;> iassumption
  imodintro
  unfold Φ1 Scratch
  isplitl [Hl Ha Hf Hp Ho Hs Hb]
  · isplitl [Hl Ha Hf]
    · isplitl [Hl]; · iexact Hl
      isplitl [Ha] <;> iassumption
    isplitl [Hp]; · iexact Hp
    isplitl [Ho]; · iexact Ho
    isplitl [Hs] <;> iassumption
  isplitl [HO]; · iexact HO
  isplitl [Ht]; · iexact Ht
  isplitl [Hx] <;> iassumption

theorem val_last : (Fin.last cfg0.N).val = 1 := N_0
theorem owed_at (c : Dev nD) (t) : (dat m c).owed t = sel (owe c 0) 0 t.val := by
  unfold dat; dsimp only
theorem Φ_at (c : Dev nD) (t) : (dat m c).Φ t = sel (Φ0 m c) (Φ1 m c) t.val := by
  unfold dat; dsimp only
theorem owed_first (c : Dev nD) : (dat m c).owed t0_0.castSucc = owe c 0 := by
  rw [owed_at]; exact if_pos rfl
theorem owed_zero (c : Dev nD) : (dat m c).owed 0 = owe c 0 := by
  rw [owed_at]; exact if_pos rfl
theorem owed_last (c : Dev nD) : (dat m c).owed (Fin.last cfg0.N) = 0 := by
  rw [owed_at]; rw [val_last]; exact if_neg (by decide)
theorem Φ_zero (c : Dev nD) : (dat m c).Φ 0 = Φ0 m c := by
  rw [Φ_at]; exact if_pos rfl
theorem Φ_first (c : Dev nD) : (dat m c).Φ t0_0.castSucc = Φ0 m c := by
  rw [Φ_at]; exact if_pos rfl
theorem Φ_last (c : Dev nD) : (dat m c).Φ (Fin.last cfg0.N) = Φ1 m c := by
  rw [Φ_at]; rw [val_last]; exact if_neg (by decide)
theorem last_eq : (t0_0 : Fin cfg0.N).succ = Fin.last cfg0.N := Fin.ext (by rw [Fin.val_succ, Fin.val_last]; exact N_0.symm)

abbrev st (w : Fin 3) := (cfg0.win w).stage (cfg0.slots t0_0 w)
theorem st_0 (c : Dev nD) (f) : (owns (c : Thread nD τ) (st 0) fullShare f : SP F) = Own A0.tab c fullShare f := rfl
theorem st_1 (c : Dev nD) (f) : (owns (c : Thread nD τ) (st 1) fullShare f : SP F) = Own A0.x c fullShare f := rfl
theorem st_2 (c : Dev nD) (f) : (owns (c : Thread nD τ) (st 2) fullShare f : SP F) = Own A0.w c fullShare f := rfl

theorem body_ob (c : Dev nD) : Pipeline.BodyObligation (dat m c) defs₀ 𝒱₀ 0 Set.univ := fun t => by
  obtain rfl := fin_N0 t
  rw [bigSep_W0, bigSep_W0, call_eq, Φ_first, last_eq, Φ_last]
  have h := run_call m c
  generalize (Body.body A0 : PU F) = B at h ⊢
  refine BIBase.Entails.trans ?_ (h.trans (Idealize.SL.Sem.wp_mono (Fr := Idealize.ShloMosaic.frame) (wpE := wpE (defs₀ (F := F)) 𝒱₀ (c : Thread nD τ) none) (E := Set.univ) (p := B) fun _ => ?_))
  · iintro ⟨HF, HO, ⟨%d0, H0⟩, ⟨%d1, H1⟩, ⟨%d2, H2⟩⟩
    isplitl [HF]; · iexact HF
    isplitl [HO]; · iapply (owesAt_elim m c _ (owed_first m c)) $$ HO
    rw [before_0, before_1, before_2]
    isplitl [H0]; · iapply (Entails.of_eq (st_0 c (tabV m c))) $$ H0
    isplitl [H1]; · iapply (Entails.of_eq (st_1 c (Xm m c))) $$ H1
    iapply (Entails.of_eq (st_2 c (Ym m c))) $$ H2
  · refine BIBase.Entails.trans (?_ : _ ⊢ iprop(Φ1 m c ∗ (dat m c).owesAt 0 (Fin.last cfg0.N)
      ∗ (owns (c : Thread nD τ) (st 0) fullShare (tabV m c) ∗ owns (c : Thread nD τ) (st 1) fullShare (Xm m c) ∗ owns (c : Thread nD τ) (st 2) fullShare (Ym m c)))) .rfl
    rw [st_0, st_1, st_2]
    iintro ⟨HF, HO, H⟩
    isplitl [HF]; · iexact HF
    isplitl [HO]; · iapply (owesAt_intro m c _ (owed_last m c)) $$ HO
    iexact H

/-! ## The record -/

/-- The buffers after the call. -/
def Wend (c : Dev nD) : Valuation τ sig (Elt F) := Function.update (V1 m c) (Proc.devRef .tc main_v26) (fullV (Xm m) (Ym m))

theorem Wend_out (c : Dev nD) : Wend m c (Proc.devRef .tc main_v26) = fullV (Xm m) (Ym m) := by
  unfold Wend; exact Function.update_self ..
theorem Wend_ne (c : Dev nD) {b : DevRef τ sig} (h : b ≠ Proc.devRef .tc main_v26) : Wend m c b = V1 m c b := by
  unfold Wend; exact Function.update_of_ne h ..

def Hs : Finset (DevRef τ sig) := {Proc.devRef .tc main_v26}
def Ar : Finset (DevRef τ sig) := Pipeline.arrRefs (τ := τ) spec0
def Sr : Finset (DevRef τ sig) := Pipeline.ucRefs τ sig \ Ar

theorem Ar_sub : Ar ⊆ Pipeline.ucRefs τ sig := by decide +kernel
theorem Hs_sub : Hs ⊆ Sr := by decide +kernel
theorem out_notin : Proc.devRef .tc main_v26 ∉ Ar := by decide +kernel

theorem held_Hs (c : Dev nD) (W : Valuation τ sig (Elt F)) (f) (h : W (Proc.devRef .tc main_v26) = f) :
    (StableHlo.held (c : Thread nD τ) Hs W : SP F) = ((c : Thread nD τ).loc main_v26 ↦{fullShare} f) := by
  subst h
  unfold StableHlo.held Hs
  rw [BI.bigSep_singleton]

theorem hin (c : Dev nD) : iprop(Pipeline.scopedRest spec0 c ∗ (∃ r, prngReg c r) ∗ StableHlo.held (c.tc : Thread nD τ) Hs (V1 m c) ∗ Xk m c)
    ⊢ (dat m c).Φ 0 := by
  rw [Φ_zero, held_Hs c _ _ rfl]
  unfold Φ0 resAny
  iintro ⟨Hs, Hp, Ho, HX⟩
  isplitl [HX]; · iexact HX
  isplitl [Hs]; · iapply (scratch_in c) $$ Hs
  isplitl [Ho]
  · iexists _; iapply (whole_own main_v26 c _) $$ Ho
  iexact Hp

theorem hout (c : Dev nD) : (dat m c).Φ (Fin.last cfg0.N)
    ⊢ iprop(Pipeline.scopedRest spec0 c ∗ (∃ r, prngReg c r) ∗ StableHlo.held (c.tc : Thread nD τ) Hs (Wend m c) ∗ Pipeline.ownSems0 osem c ∗ semVal (barCell c) 0) := by
  rw [Φ_last, held_Hs c _ _ (Wend_out m c)]
  have e : (Own A0.out c fullShare (fullV (Xm m) (Ym m)) : SP F) ⊢ ((c : Thread nD τ).loc main_v26 ↦{fullShare} fullV (Xm m) (Ym m)) := own_whole main_v26 c _
  unfold Φ1
  iintro ⟨Hs, Hp, Ho, Hk, Hb⟩
  isplitl [Hs]; · iapply (scratch_out c) $$ Hs
  isplitl [Hp]; · iexact Hp
  isplitl [Ho]; · iapply e $$ Ho
  isplitl [Hk] <;> iassumption

theorem cutD (c : Dev nD) (t : Fin (cfg0.N + 1)) (g : GSem nD τ sig) (i : ℕ) (h : 0 < (dat m c).owed t g i) :
    i ∈ L g ∧ (0 : ℕ) < lv g i := by
  rw [owed_at] at h
  unfold sel at h
  split at h
  · obtain ⟨p, -, rfl, rfl⟩ := owe_pos h
    exact ⟨by rw [L_tc]; exact Finset.mem_range.mpr (plv_le p), plv_pos p⟩
  · exact absurd h (Nat.lt_irrefl 0)

theorem arr_never : ∀ (w : Fin 3) (t : Fin grid0.N), (cfg0.win w).flush t = false := by decide +kernel
theorem arr_stay (c : Dev nD) (w : Fin 3) : ∀ n, (dat m c).arrAt w n = (dat m c).A w
  | 0 => rfl
  | n + 1 => by
    have ih := arr_stay c w n
    unfold Pipeline.Dat.arrAt
    dsimp only
    split
    · next h => rw [if_neg (by rw [arr_never w ⟨n, h⟩]; decide)]; exact ih
    · exact ih

set_option backward.isDefEq.respectTransparency.types false in
def reg : Pipeline.RegionSeg (pcfgs (F := F)) adm (pdats m) 0 defs₀ 𝒱₀ L lv 0 :=
  Pipeline.RegionSeg.ofTalk (pcfgs (F := F)) adm (pdats m) 0 defs₀ 𝒱₀ L lv 0 osem ownSemFacts
    Hs Sr Hs_sub launch0.toP rfl (fun c => (body_ob m c).loose)
    (fun _ => 0) (fun c => owe c 0) (fun c => (owed_zero m c).trans (zero_add _).symm) (owed_last m) (fun _ => rfl)
    (fun c w => by fin_cases w <;> rfl)
    (V1 m) (Wend m) (fun c b hb => Wend_ne m c fun e => (Finset.mem_sdiff.mp hb).2 (by rw [e]; exact Finset.mem_singleton_self _))
    (Tk m) (fun c => semVal (barCell c) 0) (Xk m) (fun c => semVal (barCell c) 0) (hopen m) (hin m) (hout m)
    (fun c => by iintro H; imodintro; iexact H)
    (fun _ => 0)
    ⟨fun c w s => by rw [L_tc]; exact Finset.mem_range.mpr (by decide), fun _ _ _ => le_refl 0, fun c t g i h => cutD m c t g i h⟩
    (fun _ => iprop(emp))
    (fun c w => by fin_cases w <;> rfl)
    (fun c w => (arr_stay m c w _).trans (by
      fin_cases w
      · exact (Wend_ne m c (b := Proc.devRef .tc main_v25) (by decide)).symm
      · exact (Wend_ne m c (b := Proc.devRef .tc main_v1) (by decide)).symm
      · exact (Wend_ne m c (b := Proc.devRef .tc main_v2) (by decide)).symm))

end Cert.Ring
-- ==== Proof.Launch.lean ====
/- The launch: the ghost state every device starts from, and the run of the whole program. -/
module

public import proofs.«01_k».proof.Proof.Region

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

attribute [local instance] Cert.KernelIdeal.Gen.facts

local notation "𝕄" => MT nD τ sig ℕ (Elt F) ℕ UU ℕ

variable (m : (ℓ : Loc nD τ sig) → Buf (Elt F) ℓ)

/-! ## Whole buffers -/

variable (m : (ℓ : Loc nD τ sig) → Buf (Elt F) ℓ) (ρ : Dev nD → PrngReg)

/-! ## Cells and tokens as finite sets -/

def barEmb : Dev nD ↪ GSem nD τ sig := ⟨barCell, fun _ _ h => congrArg (fun g : GSem nD τ sig => g.1.1) h⟩
def coEmb : Dev nD × CO ↪ GSem nD τ sig :=
  ⟨fun x => cell x.1 x.2, fun _ _ h => Prod.ext (congrArg (fun g : GSem nD τ sig => g.1.1) h) (osem_inj (congrArg Prod.snd h))⟩
abbrev bars : Finset (GSem nD τ sig) := Finset.univ.map barEmb
abbrev cos : Finset (GSem nD τ sig) := Finset.univ.map coEmb

theorem bars_cos : Disjoint bars cos := by
  rw [Finset.disjoint_left]
  intro g h1 h2
  obtain ⟨c, -, rfl⟩ := Finset.mem_map.mp h1
  obtain ⟨x, -, h⟩ := Finset.mem_map.mp h2
  exact osem_ne_bar x.2 (congrArg Prod.snd h)

/-- The own cell a payment lands on, or the barrier. -/
def pco : P → Option CO
  | .inl (.inl _) => none
  | .inl (.inr (d, s, q)) => some (rsR d s q)
  | .inr (.inl (d, _, _)) => some (crC d)
  | .inr (.inr (d, s, q)) => some (agR d s q)
def semO : Option CO → SemLoc sig
  | none => .reg barSem
  | some i => osem i
theorem psem_eq (p : P) : psem p = semO (pco p) := by
  rcases p with (d | ⟨d, s, q⟩) | (⟨d, s, q⟩ | ⟨d, s, q⟩) <;> rfl
theorem semO_inj : Function.Injective semO := by
  rintro (_ | i) (_ | j) h
  · rfl
  · exact absurd h.symm (osem_ne_bar j)
  · exact absurd h (osem_ne_bar i)
  · exact congrArg some (osem_inj h)

/-- The device that pays a device's cell. -/
def pinv (c : Dev nD) : P → Dev nD
  | .inl (.inl d) => nx d c
  | .inl (.inr (d, _, _)) => pv d c
  | .inr (.inl (d, _, _)) => nx d c
  | .inr (.inr (d, _, _)) => pv d c
theorem pdev_pinv (c : Dev nD) (p : P) : pdev (pinv c p) p = c := by
  rcases p with (d | ⟨d, s, q⟩) | (⟨d, s, q⟩ | ⟨d, s, q⟩)
  · exact pv_nx d c
  · exact nx_pv d c
  · exact pv_nx d c
  · exact nx_pv d c
theorem pinv_pdev (c : Dev nD) (p : P) : pinv (pdev c p) p = c := by
  rcases p with (d | ⟨d, s, q⟩) | (⟨d, s, q⟩ | ⟨d, s, q⟩)
  · exact nx_pv d c
  · exact pv_nx d c
  · exact nx_pv d c
  · exact pv_nx d c

theorem pco_duty_inj (p p' : P) (h1 : pco p = pco p') (h2 : pduty p = pduty p') : p = p' := by
  rcases p with (d | ⟨d, s, q⟩) | (⟨d, s, q⟩ | ⟨d, s, q⟩) <;> rcases p' with (d' | ⟨d', s', q'⟩) | (⟨d', s', q'⟩ | ⟨d', s', q'⟩) <;>
    simp only [pco, Option.some.injEq, Sum.inl.injEq, Sum.inr.injEq, Prod.mk.injEq, reduceCtorEq] at h1 <;> try exact h1.elim
  · have h : d.toNat = d'.toNat := h2
    have : d = d' := by revert h; cases d <;> cases d' <;> simp
    rw [this]
  · obtain ⟨-, rfl, rfl, rfl⟩ := h1; rfl
  · exact absurd h1.1 (by decide)
  · subst h1
    have h : 4 * s.val + q.val = 4 * s'.val + q'.val := h2
    have := q.isLt; have := q'.isLt
    have e1 : s = s' := Fin.ext (by omega)
    have e2 : q = q' := Fin.ext (by omega)
    rw [e1, e2]
  · exact absurd h1.1 (by decide)
  · obtain ⟨-, rfl, rfl, rfl⟩ := h1; rfl

theorem pco_ne_ocell (p : P) (i : OI) : pco p ≠ some (ocell i) := by
  rcases p with (d | ⟨d, s, q⟩) | (⟨d, s, q⟩ | ⟨d, s, q⟩) <;> rcases i with ⟨d', s', q'⟩ | (⟨d', s', q'⟩ | ⟨d', q'⟩) <;>
    simp [pco, ocell]
theorem ocell_inj : Function.Injective ocell := by
  intro i j h
  rcases i with ⟨d, s, q⟩ | (⟨d, s, q⟩ | ⟨d, q⟩) <;> rcases j with ⟨d', s', q'⟩ | (⟨d', s', q'⟩ | ⟨d', q'⟩) <;>
    simp [ocell] at h ⊢ <;> exact h

/-- The token of a payment, by its payer. -/
def tokAt (c : Dev nD) : P ⊕ OI → GSem nD τ sig × ℕ × ℕ
  | .inl p => (pcell c p, 0, pduty p)
  | .inr i => (cell c (ocell i), 0, 0)
theorem tokAt_inj {c c' : Dev nD} {x x' : P ⊕ OI} (h : tokAt c x = tokAt c' x') : c = c' ∧ x = x' := by
  have hd : (tokAt c x).1.1.1 = (tokAt c' x').1.1.1 := congrArg (fun t : GSem nD τ sig × ℕ × ℕ => t.1.1.1) h
  have hs : (tokAt c x).1.2 = (tokAt c' x').1.2 := congrArg (fun t : GSem nD τ sig × ℕ × ℕ => t.1.2) h
  have hn : (tokAt c x).2.2 = (tokAt c' x').2.2 := congrArg (fun t : GSem nD τ sig × ℕ × ℕ => t.2.2) h
  rcases x with p | i <;> rcases x' with p' | i'
  · replace hd : pdev c p = pdev c' p' := hd
    replace hs : psem p = psem p' := hs
    replace hn : pduty p = pduty p' := hn
    rw [psem_eq, psem_eq] at hs
    obtain rfl := pco_duty_inj p p' (semO_inj hs) hn
    exact ⟨by rw [← pinv_pdev c p, hd, pinv_pdev], rfl⟩
  · replace hs : psem p = semO (some (ocell i')) := hs
    rw [psem_eq] at hs
    exact absurd (semO_inj hs) (pco_ne_ocell p i')
  · replace hs : semO (some (ocell i)) = psem p' := hs
    rw [psem_eq] at hs
    exact absurd (semO_inj hs).symm (pco_ne_ocell p' i)
  · exact ⟨hd, congrArg Sum.inr (ocell_inj (osem_inj hs))⟩
def tokEmb : Dev nD × (P ⊕ OI) ↪ GSem nD τ sig × ℕ × ℕ :=
  ⟨fun x => tokAt x.1 x.2, fun _ _ h => Prod.ext (tokAt_inj h).1 (tokAt_inj h).2⟩
def toks : Finset (GSem nD τ sig × ℕ × ℕ) := Finset.univ.map tokEmb

theorem toks_eq : bigSep toks (fun x => (dutyTok ER x.1 x.2.1 x.2.2 : SP F)) = bigSep Finset.univ fun c : Dev nD => iprop(PTok c ∗ OTok c) := by
  unfold toks
  rw [bigSep_map, bigSep_univ_prod]
  exact bigSep_congr fun c _ => by rw [bigSep_univ_sum]; rfl

/-! ## The slots' tokens -/

/-- A slot's writer. -/
def keyE : Key ≃ Key := ⟨fun k => (nx k.2.1 k.1, k.2), fun k => (pv k.2.1 k.1, k.2), fun k => by simp [pv_nx], fun k => by simp [nx_pv]⟩
theorem wtok_eq : bigSep (Finset.univ ×ˢ Finset.range 1) (fun x : Key × ℕ => (writeTok ES x.1 (x.2 + 1) : SP F)) = bigSep Finset.univ fun c : Dev nD => WTok c := by
  have h1 : bigSep (Finset.univ ×ˢ Finset.range 1) (fun x : Key × ℕ => (writeTok ES x.1 (x.2 + 1) : SP F)) = bigSep Finset.univ fun k : Key => (writeTok ES k 1 : SP F) := by
    have e : (Finset.univ : Finset Key) ×ˢ Finset.range 1 = Finset.univ.map ⟨fun k : Key => (k, 0), fun _ _ h => congrArg Prod.fst h⟩ := by
      ext ⟨k, n⟩
      rw [Finset.mem_product, Finset.mem_map, Finset.range_one, Finset.mem_singleton]
      exact ⟨fun h => ⟨k, Finset.mem_univ _, Prod.ext rfl h.2.symm⟩, fun ⟨a, _, h⟩ => ⟨Finset.mem_univ _, (congrArg Prod.snd h).symm⟩⟩
    rw [e, bigSep_map]; rfl
  rw [h1, bigSep_univ_equiv keyE, bigSep_univ_prod]
  rfl
theorem rpos_eq : bigSep (Finset.univ : Finset Key) (fun k => (readerAt ES k 0 : SP F)) = bigSep Finset.univ fun c : Dev nD => RPos c := by
  rw [bigSep_univ_prod]; rfl

/-! ## The credit -/

theorem pcred_of (c : Dev nD) : (Pipeline.launchCred (fun c => owe c 0) c : SP F) ⊢ PCred c := by
  have e : (fun c : Dev nD => owe c 0) = fun d => ∑ p ∈ (Finset.univ : Finset P), ptally d p := funext fun d => by
    unfold owe; rw [Finset.filter_true_of_mem fun p _ => Nat.zero_le _]
  rw [e, Pipeline.launchCred_sum Finset.univ (fun p d => ptally d p)]
  unfold PCred
  exact bigSep_mono fun p _ =>
    Pipeline.launchCred_tallyAt (psem p) (fun d => pdev d p) (fun d => pinv d p) (fun c => pdev_pinv c p) (fun c => pinv_pdev c p) (plv p) (pamt p) c

/-! ## The launch element -/

def u₀ : UU :=
  (initOf (Pipeline.cells (Pipeline.pin (pcfgs (F := F)) adm) cellOf_inj) (Pipeline.launchToks (Pipeline.pin (pcfgs (F := F)) adm) cellOf_inj),
    (launchOf bars cos toks, initSlots Finset.univ 1))

/-- Everything at device `0`. -/
def at0 (X : SP F) (c : Dev nD) : SP F := if c = 0 then X else iprop(emp)
theorem at0_all (X : SP F) : bigSep Finset.univ (at0 X) = X := by
  rw [bigSep_univ_at _ (0 : Dev nD), bigSep_congr (s := Finset.univ.erase 0) (Ψ := fun _ => (BI.emp : SP F))
      fun c hc => by unfold at0; rw [if_neg (Finset.ne_of_mem_erase hc)]; rfl, BI.bigSep_emp_const]
  unfold at0; rw [if_pos rfl]
  exact BI.equiv_iff.mp sep_emp
def G0 : SP F := iprop(BI.own ((ER : Emb _ 𝕄) (launchOf bars cos toks)) ∗ BI.own ((ES : Emb _ 𝕄) (initSlots Finset.univ 1)))
def G : Dev nD → SP F := at0 G0

theorem fund : (ownU (u₀ (F := F)) : SP F)
    ⊢ |={Set.univ}=> iprop(BI.own (EP (initOf (Pipeline.cells (Pipeline.pin (pcfgs (F := F)) adm) cellOf_inj) (Pipeline.launchToks (Pipeline.pin (pcfgs (F := F)) adm) cellOf_inj))) ∗ bigSep Finset.univ G) := by
  have h : (BI.own ((embR : Emb _ 𝕄) (launchOf bars cos toks, initSlots Finset.univ 1)) : SP F) ⊢ G0 :=
    BI.own_op_elim ((embR : Emb (URounds (GSem nD τ sig) ℕ × USlots Key) 𝕄).op_of_mem (Prod.mk_mem_op (URA.mem_op_one _) (URA.mem_one_op _)))
  unfold u₀ G
  iintro Hu
  ihave H := (ownU_pair _ _) $$ Hu
  icases H with ⟨HP, HX⟩
  imodintro
  isplitl [HP]; · iexact HP
  rw [at0_all]
  iapply h $$ HX

/-! ## What each device starts from -/

def Hold (c : Dev nD) : SP F :=
  iprop((bigSep Finset.univ fun i : CO => openTok ER (cell c i)) ∗ (PTok c ∗ OTok c) ∗ PCred c ∗ (WTok c ∗ RPos c) ∗ atPos ER (barCell c) 0 ∅ 0)
/-- What a device starts with beside its buffers. -/
def E0 (c : Dev nD) : SP F := iprop(Tk m c ∗ (∃ r, prngReg c r) ∗ ∃ W, owes (c : Thread nD τ) (owe c 0) W)

theorem sems0 (c : Dev nD) : (unscopedSems0 c : SP F) = semVal (barCell c) 0 := by
  unfold unscopedSems0
  rw [show (Finset.univ.filter fun sm : SemLoc sig => ¬ sm.isScoped .tc = true) = {SemLoc.reg barSem} from by decide +kernel, bigSep_singleton]

theorem init0 : iprop((bigSep Finset.univ fun c : Dev nD => iprop(unscopedSems0 c ∗ owes (c : Thread nD τ) (owe c 0) ∅ ∗ Pipeline.launchCred (fun c => owe c 0) c ∗ prngReg c (ρ c) ∗ G c)) ∗ levAts L lv)
    ⊢ (|={Set.univ}=> bigSep Finset.univ (E0 m) : SP F) := by
  have hcore (c : Dev nD) : iprop(unscopedSems0 c ∗ owes (c : Thread nD τ) (owe c 0) ∅ ∗ Pipeline.launchCred (fun c => owe c 0) c ∗ prngReg c (ρ c) ∗ G c)
      ⊢ (iprop((semVal (barCell c) 0 ∗ G c) ∗ (PCred c ∗ ((∃ r, prngReg c r) ∗ ∃ W, owes (c : Thread nD τ) (owe c 0) W))) : SP F) := by
    rw [sems0]
    iintro ⟨Hs, HO, HC, Hp, HG⟩
    isplitl [Hs HG]
    · isplitl [Hs] <;> iassumption
    isplitl [HC]
    · iapply (pcred_of c) $$ HC
    isplitl [Hp]
    · iexists _; iexact Hp
    iexists _; iexact HO
  have hv : bigSep Finset.univ (fun c : Dev nD => (semVal (barCell c) 0 : SP F)) ⊢ bigSep bars (fun g => (semVal g 0 : SP F)) :=
    Entails.of_eq (bigSep_map (s := Finset.univ) barEmb (Φ := fun g : GSem nD τ sig => (semVal g 0 : SP F))).symm
  have hat : bigSep bars (fun g => (atPos ER g 0 ∅ 0 : SP F)) ⊢ bigSep Finset.univ (fun c : Dev nD => (atPos ER (barCell c) 0 ∅ 0 : SP F)) :=
    Entails.of_eq (bigSep_map (s := Finset.univ) barEmb (Φ := fun g : GSem nD τ sig => (atPos ER g 0 ∅ 0 : SP F)))
  have hre : bigSep bars (fun g => (reached ER g 0 : SP F)) ⊢ bigSep Finset.univ (fun c : Dev nD => (reached ER (barCell c) 0 : SP F)) :=
    Entails.of_eq (bigSep_map (s := Finset.univ) barEmb (Φ := fun g : GSem nD τ sig => (reached ER g 0 : SP F)))
  have hop : bigSep cos (fun g => (openTok ER g : SP F)) ⊢ bigSep Finset.univ (fun c : Dev nD => bigSep Finset.univ fun i : CO => (openTok ER (cell c i) : SP F)) :=
    Entails.of_eq (by rw [bigSep_map, bigSep_univ_prod]; rfl)
  have hci (κ : GSem nD τ sig → ℕ) : bigSep (bars ∪ cos) (fun g => (cellInv ER (Rd (Xm m) (Ym m)) (κ g) g : SP F))
      ⊢ iprop((bigSep Finset.univ fun c : Dev nD => cellInv ER (Rd (Xm m) (Ym m)) (κ (barCell c)) (barCell c))
        ∗ (bigSep Finset.univ fun x : Dev nD × CO => cellInv ER (Rd (Xm m) (Ym m)) (κ (cell x.1 x.2)) (cell x.1 x.2))) :=
    Entails.of_eq (by rw [bigSep_union bars_cos, bigSep_map, bigSep_map]; rfl)
  have hone (κ : GSem nD τ sig → ℕ) (ιs : Key → ℕ) (c : Dev nD) :
      iprop(Inv (Xm m) (Ym m) κ ιs ∗ (Hold c ∗ ((∃ r, prngReg c r) ∗ ∃ W, owes (c : Thread nD τ) (owe c 0) W))) ⊢ (E0 m c : SP F) := by
    unfold E0 Tk Hold
    iintro ⟨#HI, HH, HR⟩
    isplitl [HH]
    · iexists κ, ιs
      isplitr; · iexact HI
      iexact HH
    iexact HR
  iintro ⟨H, #HL⟩
  ihave H' := (show (bigSep Finset.univ fun c : Dev nD => iprop(unscopedSems0 c ∗ owes (c : Thread nD τ) (owe c 0) ∅ ∗ Pipeline.launchCred (fun c => owe c 0) c ∗ prngReg c (ρ c) ∗ G c))
      ⊢ (bigSep Finset.univ fun c : Dev nD => iprop((semVal (barCell c) 0 ∗ G c) ∗ (PCred c ∗ ((∃ r, prngReg c r) ∗ ∃ W, owes (c : Thread nD τ) (owe c 0) W))) : SP F)
    from bigSep_mono fun c _ => hcore c) $$ H
  ihave H2 := each_unpair $$ H'; icases H2 with ⟨H3, H4⟩
  ihave H5 := each_unpair $$ H3; icases H5 with ⟨Hv, HG⟩
  ihave H6 := each_unpair $$ H4; icases H6 with ⟨HC, HR⟩
  ihave Hu := (show bigSep Finset.univ (G (F := F)) ⊢ G0 from Entails.of_eq (at0_all G0)) $$ HG
  unfold G0
  icases Hu with ⟨H7, H8⟩
  imod (Rounds.fund_launch ER (Rd (Xm m) (Ym m)) bars_cos (fun g _ h => h) toks) $$ [Hv H7] with ⟨%κ, -, Hinv, #Hr, Hat, Hopen, Htok⟩
  · isplitl [Hv]
    · iapply hv $$ Hv
    · iexact H7
  imod (slots_init ES Finset.univ 1 Sl) $$ H8 with ⟨%ιs, -, #Hsl, Hrd, Hwr⟩
  ihave Hi := (hci κ) $$ Hinv
  icases Hi with ⟨#Hib, #Hic⟩
  imodintro
  iapply (bigSep_with_persistent (R := Inv (Xm m) (Ym m) κ ιs) fun c _ => hone κ ιs c)
  isplitr
  · unfold Inv
    isplitr; · iexact Hic
    isplitr; · iexact Hib
    isplitr; · iexact Hsl
    isplitr; · iapply hre $$ Hr
    iexact HL
  iapply each_pair
  isplitr [HR]
  · unfold Hold
    iapply each_pair; isplitl [Hopen]; · iapply hop $$ Hopen
    iapply each_pair; isplitl [Htok]; · iapply (Entails.of_eq toks_eq) $$ Htok
    iapply each_pair; isplitl [HC]; · iexact HC
    iapply each_pair; isplitl [Hrd Hwr]
    · iapply each_pair; isplitl [Hwr]
      · iapply (Entails.of_eq wtok_eq) $$ Hwr
      · iapply (Entails.of_eq rpos_eq) $$ Hrd
    iapply hat $$ Hat
  iexact HR

end Cert.Ring
-- ==== Proof.Run.lean ====
/- The run of the whole program on all devices. -/
module

public import proofs.«01_k».proof.Proof.Launch

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

attribute [local instance] Cert.KernelIdeal.Gen.facts

local notation "𝕄" => MT nD τ sig ℕ (Elt F) ℕ UU ℕ

variable (m : (ℓ : Loc nD τ sig) → Buf (Elt F) ℓ)

/-! ## Whole buffers -/

variable (m : (ℓ : Loc nD τ sig) → Buf (Elt F) ℓ) (ρ : Dev nD → PrngReg)

def Tn (c : Dev nD) : SP F := iprop(StableHlo.held (c : Thread nD τ) (Pipeline.ucRefs τ sig) (Wend m c) ∗ semVal (barCell c) 0)

theorem split_held (c : Dev nD) (W : Valuation τ sig (Elt F)) :
    (StableHlo.held (c : Thread nD τ) (Pipeline.ucRefs τ sig) W : SP F) = iprop(StableHlo.held (c : Thread nD τ) Ar W ∗ StableHlo.held (c : Thread nD τ) Sr W) :=
  StableHlo.held_sub_split (c : Thread nD τ) Ar_sub W

set_option backward.isDefEq.respectTransparency.types false in
theorem reg_pre (c : Dev nD) : iprop(StableHlo.held (c : Thread nD τ) (Pipeline.ucRefs τ sig) (V1 m c) ∗ E0 m c) ⊢ (reg m).pre c := by
  show (_ : SP F) ⊢ iprop(StableHlo.held (c : Thread nD τ) Ar (V1 m c) ∗ (∃ r, prngReg c r) ∗ (StableHlo.held (c : Thread nD τ) Sr (V1 m c) ∗ emp) ∗ Tk m c
    ∗ ∃ W, owes (c : Thread nD τ) (0 + owe c 0) W)
  rw [split_held, zero_add]
  unfold E0
  iintro ⟨⟨Ha, Hs⟩, HT, Hp, HO⟩
  isplitl [Ha]; · iexact Ha
  isplitl [Hp]; · iexact Hp
  isplitl [Hs]
  · isplitl; · iexact Hs
    iempintro
  isplitl [HT]; · iexact HT
  iexact HO

set_option backward.isDefEq.respectTransparency.types false in
theorem reg_post (c : Dev nD) : (reg m).post c ⊢ iprop(Tn m c ∗ ∃ W, owes (c : Thread nD τ) (0 : CellTallies nD τ sig ℕ) W) := by
  show iprop(StableHlo.held (c : Thread nD τ) Ar (Wend m c) ∗ (∃ r, prngReg c r) ∗ (StableHlo.held (c : Thread nD τ) Sr (Wend m c) ∗ emp) ∗ semVal (barCell c) 0
    ∗ ∃ W, owes (c : Thread nD τ) (0 : CellTallies nD τ sig ℕ) W) ⊢ (_ : SP F)
  unfold Tn
  rw [split_held]
  iintro ⟨Ha, -, ⟨Hs, -⟩, Hb, HO⟩
  isplitr [HO]
  · isplitl [Ha Hs]
    · isplitl [Ha] <;> iassumption
    iexact Hb
  iexact HO

theorem unscoped_bar : ∀ sm : SemLoc sig, sm.isScoped .tc = false → sm = .reg barSem := by decide +kernel

theorem Wend_arg0 (c : Dev nD) : Wend m c (Proc.devRef .tc main_arg0) = m ((c : Thread nD τ).loc main_arg0) := by
  rw [Wend_ne m c (by decide)]
  exact V1_of m c main_arg0 (by decide)
theorem Wend_arg1 (c : Dev nD) : Wend m c (Proc.devRef .tc main_arg1) = m ((c : Thread nD τ).loc main_arg1) := by
  rw [Wend_ne m c (by decide)]
  exact V1_of m c main_arg1 (by decide)

set_option backward.isDefEq.respectTransparency.types false in
/-- From any memory with zero counters every weakly fair run ends, the output of every device holding the ring's result,
    the arguments as they were, every counter at zero. -/
theorem run_main : θ_run defs (onTc (τ := τ) (Cert.KernelIdeal.main (F := F))) ⟨m, fun _ => 0, ρ⟩
    (fun r => (∀ c : Dev nD, r.2.mem ((c.tc : Thread nD τ).loc main_v26) = fullV (Xm m) (Ym m)
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) := by
  refine Pipeline.θ_run_regions_kit_dev_sems (pcfgs (F := F)) adm (pdats m) 0 cellOf_inj EP defs₀ 𝒱₀ L lv m ρ Cert.KernelIdeal.main
    (segs m 𝒱₀ L lv (fun _ => E0 m) 0 (pdats m) (reg m))
    (fun c Q => by
      rewrite [main_chain c, Pipeline.Seg.run_eq_chain,
        show (segs m 𝒱₀ L lv (fun _ => E0 m) 0 (pdats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) (fun c => owe c 0) L_of_ne G u₀ fund
    (T₀ := fun c => iprop(StableHlo.held (c : Thread nD τ) (Pipeline.ucRefs τ sig) (V0 m c) ∗ E0 m c))
    (Tₙ := Tn m)
    (hch := fun c => ⟨.rfl, reg_pre m c, reg_post m c⟩)
    (hinit := ?_)
    (QY := fun c s => (s.mem ((c.tc : Thread nD τ).loc main_v26) = fullV (Xm m) (Ym m)
      ∧ s.mem ((c.tc : Thread nD τ).loc main_arg0) = m ((c.tc : Thread nD τ).loc main_arg0)
      ∧ s.mem ((c.tc : Thread nD τ).loc main_arg1) = m ((c.tc : Thread nD τ).loc main_arg1)) ∧ s.sem (barCell c) = 0)
    (hfin := fun c s' => ?_)
    (hQ := fun s h hs => ⟨fun c => (h c).1, sem_eq_zero hs fun c sm hsm => by
        obtain rfl := unscoped_bar sm hsm
        exact (h c).2⟩)
  · have hsplit : (bigSep Finset.univ fun c : Dev nD => iprop(unscopedBufs c (fun b => m ((c.tc : Thread nD τ).loc b)) ∗ unscopedSems0 c
          ∗ owes (c.tc : Thread nD τ) (owe c 0) ∅ ∗ Pipeline.launchCred (fun c => owe c 0) c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owe c 0) ∅ ∗ Pipeline.launchCred (fun c => owe c 0) c ∗ prngReg c (ρ c) ∗ G c))
            : SP F) := by
      rw [← bigSep_sep']
      exact bigSep_mono fun c _ => by rw [← Pipeline.unscopedBufs_held (Ix := ℕ) (Name := ℕ) (U := UU) (Lvl := ℕ) c (V0 m c)]; exact BI.Entails.refl _
    iintro ⟨H, Hla⟩
    ihave H' := hsplit $$ H
    icases H' with ⟨Hh, Hr⟩
    imod (init0 m ρ) $$ [Hr Hla] with HE
    · isplitl [Hr]; · iexact Hr
      iexact Hla
    imodintro
    iapply each_pair
    isplitl [Hh]; · iexact Hh
    iexact HE
  · unfold Tn StableHlo.held
    iintro ⟨⟨Hh, Hb⟩, HSI⟩
    icombine HSI Hb gives %hb
    ihave Hr := (pointsTo_read_all (Pipeline.ucRefs τ sig) (fun b => ((c : Thread nD τ).1, b)) (Wend m c) s') $$ [Hh HSI]
    · isplitl [Hh] <;> iassumption
    icases Hr with ⟨%h, HSI⟩
    imodintro
    isplitr
    · ipureintro
      exact ⟨⟨(h (Proc.devRef .tc main_v26) (Finset.mem_filter.mpr ⟨StableHlo.devRef_mem_tcRefs main_v26, by decide⟩)).trans (Wend_out m c),
        (h (Proc.devRef .tc main_arg0) (Finset.mem_filter.mpr ⟨StableHlo.devRef_mem_tcRefs main_arg0, by decide⟩)).trans (Wend_arg0 m c),
        (h (Proc.devRef .tc main_arg1) (Finset.mem_filter.mpr ⟨StableHlo.devRef_mem_tcRefs main_arg1, by decide⟩)).trans (Wend_arg1 m c)⟩, by simpa using hb⟩
    · iexact HSI

end Cert.Ring
-- ==== Proof.Same.lean ====
/- The kernel as printed and the kernel read over the extended reals are one program. -/
module

public import proofs.«01_k».proof.Proof.Run
public import proofs.«01_k».proof.Proof.Gen.Kernel.Regions
public import proofs.«01_k».proof.Proof.Gen.Kernel

@[expose] public section

set_option maxRecDepth 65536
set_option maxHeartbeats 4000000

noncomputable section

namespace Cert.Ring

open Idealize.ShloMosaic Idealize.SL.Sem

variable {F : FTy → Type} [FloatOps F]

theorem body_same : @Cert.Kernel.cc0__body F _ Cert.Kernel.Gen.facts = @Cert.KernelIdeal.cc0__body F _ Cert.KernelIdeal.Gen.facts := rfl
theorem host_same (c : Dev Cert.Kernel.nD) : @Cert.Kernel.Gen.hostOps0 F _ c = @Cert.KernelIdeal.Gen.hostOps0 F _ c := rfl
theorem bodies_same : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => funext fun a => ?_)
  match l, a with
  | 0, (t, s) => rfl
theorem defs_same : @Cert.Kernel.defs F _ Cert.Kernel.Gen.facts = @Cert.KernelIdeal.defs F _ Cert.KernelIdeal.Gen.facts :=
  congrArg (Pipeline.defs (Cert.KernelIdeal.pcfgs (F := F))) bodies_same
theorem main_same : @Cert.Kernel.main F _ Cert.Kernel.Gen.facts = @Cert.KernelIdeal.main F _ Cert.KernelIdeal.Gen.facts :=
  funext fun c => (Cert.Kernel.Gen.main_chain c).trans (Eq.trans
    (congrArg (fun l => Pipeline.chain [StableHlo.seq l, Prog.lift (.customCall (Pipeline.entry 0) ())]) (host_same c)) (Cert.KernelIdeal.Gen.main_chain c).symm)

/-- So a run of the one is a run of the other. -/
theorem run_same (s : MemSt Cert.KernelIdeal.nD Cert.KernelIdeal.τ Cert.KernelIdeal.sig (Elt F)) (Q) :
    θ_run (@Cert.Kernel.defs F _ Cert.Kernel.Gen.facts) (onTc (τ := Cert.Kernel.τ) (@Cert.Kernel.main F _ Cert.Kernel.Gen.facts)) s Q
      = θ_run (@Cert.KernelIdeal.defs F _ Cert.KernelIdeal.Gen.facts) (onTc (τ := Cert.KernelIdeal.τ) (@Cert.KernelIdeal.main F _ Cert.KernelIdeal.Gen.facts)) s Q :=
  congrArg₂ (fun d p => θ_run d (onTc (τ := Cert.KernelIdeal.τ) p) s Q) defs_same main_same

end Cert.Ring
-- ==== Proof.Frames.lean ====
/- The frames: the run with its values dropped. -/
module

public import proofs.«01_k».proof.Defs
public import proofs.«01_k».proof.Proof.Same
public import proofs.«01_k».proof.Proof.Gen.Kernel
public import proofs.«01_k».proof.Proof.Gen.ReferenceIdeal.Run

@[expose] public section

noncomputable section

namespace Cert.Ring

open Idealize.ShloMosaic Idealize.SL.Sem

/-- The kernel as printed: it runs, leaves its arguments as they were and every counter at zero. -/
theorem frame_kernel : Cert.quiescent_Kernel (hKernel := Cert.Kernel.Gen.facts) := fun m ρ _ => by
  rw [run_same]
  exact (θ_run (Cert.KernelIdeal.defs (F := Bits)) _ _).mono (fun _ h => ⟨fun c => ⟨(h.1 c).2.1, (h.1 c).2.2⟩, h.2⟩) (run_main (F := Bits) m ρ)

/-- The same over the extended reals. -/
theorem frame_ideal : Cert.quiescent_KernelIdeal (hKernelIdeal := Cert.KernelIdeal.Gen.facts) := fun m ρ _ =>
  (θ_run (Cert.KernelIdeal.defs (F := Ideal)) _ _).mono (fun _ h => ⟨fun c => ⟨(h.1 c).2.1, (h.1 c).2.2⟩, h.2⟩) (run_main (F := Ideal) m ρ)

/-- The reference declares no semaphore. -/
theorem frame_ref : Cert.quiescent_ReferenceIdeal (hReferenceIdeal := Cert.ReferenceIdeal.Gen.facts) := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

end Cert.Ring
-- ==== Proof.Value.lean ====
/- The result over the extended reals: each entry is the sum of the sixteen devices' products, cut off below at zero. -/
module

public import proofs.«01_k».proof.Proof.Frames
public import Idealize.ShloMosaic.Lib.ValueIdx
public import Idealize.ShloMosaic.Lib.MatmulPlain
public import Idealize.ShloMosaic.Lib.StackMember
public import Idealize.ShloMosaic.Lib.Pipeline.Value

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

open Idealize.ShloMosaic.ValueIdx

attribute [local instance] Cert.KernelIdeal.Gen.facts

variable (X : Dev nD → S8192x512.Idx → Elt Ideal .bf16) (Y : Dev nD → S512x4096.Idx → Elt Ideal .bf16)

/-- Device `c`'s part of the product's entry at row `r` and column `j`. -/
def part (c : Dev nD) (r : Fin 8192) (j : Fin 4096) : EReal := ∑ k : Fin 512, (X c (ix2 r k) : EReal) * (Y c (ix2 k j) : EReal)

/-! ## A block's product -/

theorem dims_plain : dot_S256x512_S512x4096_S256x4096_1_0_0_1_n_n = DotDims.plain 256 512 4096 := rfl

/-- A local product into zero, at an entry. -/
theorem prod_apply (A : FVec Ideal S256x512 .bf16) (B : FVec Ideal S512x4096 .bf16) (a : Fin 256) (j : Fin 4096) :
    matmul dot_S256x512_S512x4096_S256x4096_1_0_0_1_n_n none A B (constant S256x4096 .f32 0x00000000#32) (ix2 a j)
      = ∑ k : Fin 512, (A (ix2 a k) : EReal) * (B (ix2 k j) : EReal) := by
  rw [dims_plain]
  refine (Ideal.matmul_plain_apply _ _ _ _ _ _).trans ?_
  show Ideal.ofBits .f32 0x00000000#32 + _ = _
  rw [Ideal.ofBits_zero_f32, zero_add]

theorem row_lt (c : Dev nD) (d : Bool) (t a : ℕ) (ha : a < 256) : 512 * blk c d t + 256 * d.toNat + a < 8192 := by
  have := blk_lt c d t
  cases d <;> simp <;> omega

theorem wAll_apply (c : Dev nD) (k : Fin 512) (j : Fin 4096) : wAll Y c (ix2 k j) = Y c (ix2 k j) := by
  unfold wAll
  congr 1
  funext i
  apply Fin.ext
  rw [Rect.emb_apply]
  fin_cases i
  · show 0 + 1 * k.val = k.val; omega
  · show 0 + 1 * j.val = j.val; omega

theorem xRows_apply (d : Bool) (s : Fin 15) (c : Dev nD) (a : Fin 256) (k : Fin 512) :
    xRows X d s c (ix2 a k) = X c (ix2 ⟨512 * blk c d (s.val + 1) + 256 * d.toNat + a.val, row_lt c d _ _ a.isLt⟩ k) := by
  unfold xRows
  congr 1
  funext i
  apply Fin.ext
  rw [Rect.emb_apply]
  have e := xOff_eq c d s
  fin_cases i
  · show Body.xOff (W0 c) d s 0 + 1 * a.val = 512 * blk c d (s.val + 1) + 256 * d.toNat + a.val
    rw [e]; show 512 * blk c d (s.val + 1) + 256 * d.toNat + 1 * a.val = _; omega
  · show Body.xOff (W0 c) d s 1 + 1 * k.val = k.val
    rw [e]; show 0 + 1 * k.val = k.val; omega

theorem xRows0_apply (d : Bool) (c : Dev nD) (a : Fin 256) (k : Fin 512) :
    xRows0 X d c (ix2 a k) = X c (ix2 ⟨512 * blk c d 0 + 256 * d.toNat + a.val, row_lt c d _ _ a.isLt⟩ k) := by
  unfold xRows0
  congr 1
  funext i
  apply Fin.ext
  rw [Rect.emb_apply]
  have e := xOff0_eq c d
  fin_cases i
  · show Body.xOff0 (W0 c) d 0 + 1 * a.val = 512 * blk c d 0 + 256 * d.toNat + a.val
    rw [e]; show 512 * blk c d 0 + 256 * d.toNat + 1 * a.val = _; omega
  · show Body.xOff0 (W0 c) d 1 + 1 * k.val = k.val
    rw [e]; show 0 + 1 * k.val = k.val; omega

/-- The product of step `s`, at an entry. -/
theorem locV_apply (d : Bool) (s : Fin 15) (c : Dev nD) (a : Fin 256) (j : Fin 4096) :
    (locV X Y d s c (ix2 a j) : EReal) = part X Y c ⟨512 * blk c d (s.val + 1) + 256 * d.toNat + a.val, row_lt c d _ _ a.isLt⟩ j := by
  unfold locV k0_pay16
  simp only [shapeCast_self]
  refine (prod_apply _ _ a j).trans (Finset.sum_congr rfl fun k _ => ?_)
  rw [xRows_apply, wAll_apply]

/-- The first product, at an entry. -/
theorem acc0_apply (d : Bool) (c : Dev nD) (y : S1x256x4096.Idx) (a : Fin 256) (j : Fin 4096) (ha : (y 1).val = a.val) (hj : (y 2).val = j.val) :
    (acc0 X Y d c y : EReal) = part X Y c ⟨512 * blk c d 0 + 256 * d.toNat + a.val, row_lt c d _ _ a.isLt⟩ j := by
  unfold acc0 k0_pay1
  simp only [shapeCast_self]
  refine (shapeCast_addUnit_apply ![256, 4096] _ _ y).trans ?_
  have e : (fun b : Fin 2 => y b.succ) = (ix2 a j : S256x4096.Idx) := by
    funext b
    apply Fin.ext
    fin_cases b
    · exact ha
    · exact hj
  refine (congrArg _ e).trans ?_
  refine (prod_apply _ _ a j).trans (Finset.sum_congr rfl fun k _ => ?_)
  rw [xRows0_apply, wAll_apply]

/-! ## A quarter's running sum -/

/-- The row of the result an entry of a quarter is. -/
theorem qrow_lt (q : Fin 4) (a : Fin 64) : 64 * q.val + a.val < 256 := by omega
def qrow (d : Bool) (q : Fin 4) (b : ℕ) (a : Fin 64) : Fin 8192 := ⟨(512 * b + 256 * d.toNat + (64 * q.val + a.val)) % 8192, Nat.mod_lt _ (by decide)⟩

theorem qrow_mk (c : Dev nD) (d : Bool) (t : ℕ) (q : Fin 4) (a : Fin 64) :
    (⟨512 * blk c d t + 256 * d.toNat + (64 * q.val + a.val), row_lt c d _ _ (qrow_lt q a)⟩ : Fin 8192) = qrow d q (blk c d t) a :=
  Fin.ext (Nat.mod_eq_of_lt (row_lt c d _ _ (qrow_lt q a))).symm

theorem locQ_apply (d : Bool) (s : Fin 15) (q : Fin 4) (c : Dev nD) (a : Fin 64) (j : Fin 4096) :
    (locQ X Y d s q c (ix2 a j) : EReal) = part X Y c (qrow d q (blk c d (s.val + 1)) a) j := by
  rw [← qrow_mk]
  unfold locQ
  refine (congrArg (locV X Y d s c) ?_).trans (locV_apply X Y d s c ⟨64 * q.val + a.val, qrow_lt q a⟩ j)
  funext i
  apply Fin.ext
  rw [Rect.emb_apply]
  fin_cases i
  · show 64 * q.val + 1 * a.val = 64 * q.val + a.val; omega
  · show 0 + 1 * j.val = j.val; omega

theorem sq_cast (g : S64x4096.Idx → Elt Ideal .bf16) (h) : sqQ (shapeCast S1x64x4096 g h) = g := by
  funext x
  show g (Shape.reshapeEquiv _ (Shape.reshapeEquiv _ x)) = g x
  rw [Shape.reshapeEquiv_reshapeEquiv, Shape.reshapeEquiv_self]

theorem cast_unsq (g : S64x4096.Idx → Elt Ideal .bf16) (h) : shapeCast S64x4096 (unsqQ g) h = g := by
  funext x
  show g ((Shape.reshapeEquiv _).symm (Shape.reshapeEquiv _ x)) = g x
  rw [Equiv.symm_apply_apply]

theorem sent_zero (d : Bool) (q : Fin 4) (c : Dev nD) (a : Fin 64) (j : Fin 4096) :
    (sentV X Y d q 0 c (ix2 a j) : EReal) = part X Y c (qrow d q (blk c d 0) a) j := by
  rw [← qrow_mk]
  have e : (Shape.reshapeEquiv squeezes_S1x64x4096_S64x4096.numel_eq (ix2 a j : S64x4096.Idx) : S1x64x4096.Idx) = ix3 0 a j := by
    apply Shape.reshapeEquiv_eq_of_rowMajor
    show (Shape.rowMajorPi (Matrix.vecCons 1 ![64, 4096]) (Fin.cons ⟨0, Nat.one_pos⟩ (ix2 a j : S64x4096.Idx))).val = (Shape.rowMajorPi ![64, 4096] (ix2 a j : S64x4096.Idx)).val
    rw [Shape.rowMajorPi_succ_val]
    show 0 * _ + (Shape.rowMajorPi ![64, 4096] (ix2 a j : S64x4096.Idx)).val = _
    omega
  show (acc0 X Y d c ((Rect.unit (s := S1x256x4096) ![0, 64 * q.val, 0] S1x64x4096.size (inbQ1 q)).emb (Shape.reshapeEquiv squeezes_S1x64x4096_S64x4096.numel_eq (ix2 a j : S64x4096.Idx) : S1x64x4096.Idx)) : EReal) = _
  rw [e]
  refine acc0_apply X Y d c _ ⟨64 * q.val + a.val, qrow_lt q a⟩ j ?_ ?_
  · rw [Rect.emb_apply]; show 64 * q.val + 1 * a.val = 64 * q.val + a.val; omega
  · rw [Rect.emb_apply]; show 0 + 1 * j.val = j.val; omega

theorem sent_succ (d : Bool) (q : Fin 4) (s : ℕ) (c : Dev nD) (i : S64x4096.Idx) :
    (sentV X Y d q (s + 1) c i : EReal) = (sentV X Y d q s (pv d c) i : EReal) + (locQ X Y d (Fin.ofNat 15 s) q c i : EReal) := by
  show (sqQ (k0_pay10 (unsqQ (sentV X Y d q s (pv d c))) (locQ X Y d (Fin.ofNat 15 s) q c)) i : EReal) = _
  unfold k0_pay10
  rw [sq_cast, cast_unsq]
  rfl

theorem fin_apply (d : Bool) (q : Fin 4) (c : Dev nD) (i : S64x4096.Idx) :
    (finV X Y d q c i : EReal) = max ((sentV X Y d q 14 (pv d c) i : EReal) + (locQ X Y d 14 q c i : EReal)) 0 := by
  unfold finV k0_pay182
  rw [shapeCast_self, cast_unsq]
  show max _ (Ideal.ofBits .f32 0x00000000#32) = _
  rw [Ideal.ofBits_zero_f32]
  rfl

theorem blk_pv (c : Dev nD) (d : Bool) (t : Fin 16) : blk (pv d c) d t.val = blk c d (t.val + 1) := by revert c d t; decide +kernel

/-- What a send carries is the sum of the parts of the devices it has passed. -/
theorem sent_sum (d : Bool) (q : Fin 4) (s : ℕ) (hs : s < 15) (c : Dev nD) (a : Fin 64) (j : Fin 4096) :
    (sentV X Y d q s c (ix2 a j) : EReal) = ∑ k ∈ Finset.range (s + 1), part X Y ((pv d)^[k] c) (qrow d q (blk c d s) a) j := by
  induction s generalizing c with
  | zero => rw [sent_zero, Finset.sum_range_one]; rfl
  | succ s ih =>
    rw [sent_succ, ih (by omega) (pv d c), Finset.sum_range_succ' _ (s + 1), locQ_apply, blk_pv c d ⟨s, by omega⟩]
    have e : (Fin.ofNat 15 s).val = s := Nat.mod_eq_of_lt (by omega)
    rw [e]
    rfl

/-- Going round the ring meets every device once. -/
def round (d : Bool) (c : Dev nD) (k : Fin 16) : Dev nD := (pv d)^[k.val] c
theorem round_inj (d : Bool) (c : Dev nD) : Function.Injective (round d c) := by revert d c; decide +kernel

/-- A finished entry is the sum of all devices' parts, cut off below at zero. -/
theorem fin_sum (d : Bool) (q : Fin 4) (c : Dev nD) (a : Fin 64) (j : Fin 4096) :
    (finV X Y d q c (ix2 a j) : EReal) = max (∑ k : Dev nD, part X Y k (qrow d q (blk c d 15) a) j) 0 := by
  rw [fin_apply, sent_sum X Y d q 14 (by decide), locQ_apply, show blk (pv d c) d 14 = blk c d 15 from blk_pv c d 14]
  show max ((∑ k ∈ Finset.range 15, part X Y ((pv d)^[k] (pv d c)) (qrow d q (blk c d 15) a) j) + part X Y c (qrow d q (blk c d 15) a) j) 0 = _
  congr 1
  have h : ∑ k ∈ Finset.range 16, part X Y ((pv d)^[k] c) (qrow d q (blk c d 15) a) j
      = (∑ k ∈ Finset.range 15, part X Y ((pv d)^[k] (pv d c)) (qrow d q (blk c d 15) a) j) + part X Y c (qrow d q (blk c d 15) a) j :=
    Finset.sum_range_succ' _ 15
  rw [← h, Finset.sum_range]
  exact (Equiv.ofBijective (round d c) (Finite.injective_iff_bijective.mp (round_inj d c))).sum_comp
    (fun k : Dev nD => part X Y k (qrow d q (blk c d 15) a) j)

theorem blk_owner (d : Bool) (b : Fin 16) : blk (owner d b.val) d 15 = b.val := by revert d b; decide +kernel

/-- An entry of the result. -/
theorem full_sum (r : Fin 8192) (j : Fin 4096) :
    (fullV X Y (ix2 r j) : EReal) = max (∑ k : Dev nD, part X Y k r j) 0 := by
  have hb : r.val / 512 < 16 := by omega
  refine Eq.trans (congrArg (finV X Y _ _ _) ?_) ((fin_sum X Y (r.val / 256 % 2 == 1) ⟨r.val / 64 % 4, mod4 _⟩ (owner (r.val / 256 % 2 == 1) (r.val / 512))
    ⟨r.val % 64, Nat.mod_lt _ (by decide)⟩ j).trans ?_)
  · funext b
    fin_cases b <;> rfl
  · have e := blk_owner (r.val / 256 % 2 == 1) ⟨r.val / 512, hb⟩
    rw [show blk (owner (r.val / 256 % 2 == 1) (r.val / 512)) (r.val / 256 % 2 == 1) 15 = r.val / 512 from e]
    have hr : qrow (r.val / 256 % 2 == 1) ⟨r.val / 64 % 4, mod4 _⟩ (r.val / 512) ⟨r.val % 64, Nat.mod_lt _ (by decide)⟩ = r := by
      apply Fin.ext
      show (512 * (r.val / 512) + 256 * (r.val / 256 % 2 == 1).toNat + (64 * (r.val / 64 % 4) + r.val % 64)) % 8192 = r.val
      have := r.isLt
      rcases Nat.mod_two_eq_zero_or_one (r.val / 256) with h | h <;> rw [h] <;> simp <;> omega
    rw [hr]

end Cert.Ring
-- ==== Proof.Algebra.lean ====
/- The kernel's result is the reference's: a product cut along its contraction is the sum of the cuts' products. -/
module

public import proofs.«01_k».proof.Proof.Value

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

open Idealize.ShloMosaic.ValueIdx

attribute [local instance] Cert.KernelIdeal.Gen.facts Cert.ReferenceIdeal.Gen.facts

/-- The whole arrays, and the sixteen cuts of each. -/
abbrev SX : Shape := ⟨2, ![8192, 8192]⟩
abbrev SW : Shape := ⟨2, ![8192, 4096]⟩
variable (x : SX.Idx → EReal) (w : SW.Idx → EReal)
variable (X : Dev nD → S8192x512.Idx → Elt Ideal .bf16) (Y : Dev nD → S512x4096.Idx → Elt Ideal .bf16)

theorem split_lt (c : Fin 16) (k : Fin 512) : c.val * 512 + k.val < 8192 := by omega

/-- A sum over the whole contraction is the sum over the devices of the sums over their cuts. -/
theorem sum_split (f : Fin 8192 → EReal) : ∑ k : Fin 8192, f k = ∑ c : Fin 16, ∑ k : Fin 512, f ⟨c.val * 512 + k.val, split_lt c k⟩ := by
  rw [← Fintype.sum_prod_type']
  refine ((finProdFinEquiv (m := 16) (n := 512)).sum_comp f).symm.trans (Finset.sum_congr rfl fun p _ => congrArg f (Fin.ext ?_))
  show p.2.val + 512 * p.1.val = p.1.val * 512 + p.2.val
  omega

/-- The reference's term. -/
abbrev refTerm : SW.Idx → EReal :=
  maximumf (F := Ideal) (φ := .f32) (Host.dotGeneral (F := Ideal) (φ₁ := .f32) (φ₂ := .f32) Cert.ReferenceIdeal.dot_S8192x8192_S8192x4096_S8192x4096_1_0_0_1_n_n none x w)
    (broadcastInDim Cert.ReferenceIdeal.S8192x4096 ![] Cert.ReferenceIdeal.Gen.bcast_S_S8192x4096 (constant (F := Ideal) Cert.ReferenceIdeal.S_ .f32 0x00000000#32))

theorem ref_dims : Cert.ReferenceIdeal.dot_S8192x8192_S8192x4096_S8192x4096_1_0_0_1_n_n = DotDims.plain 8192 8192 4096 := rfl

/-- An entry of the reference. -/
theorem ref_apply (r : Fin 8192) (j : Fin 4096) :
    refTerm x w (ix2 r j) = max (∑ k : Fin 8192, x (ix2 r k) * w (ix2 k j)) 0 := by
  refine (maximumf_apply _ _ _).trans ?_
  refine congrArg₂ max ?_ Ideal.ofBits_zero_f32
  rw [ref_dims]
  exact Idealize.ShloMosaic.StackMember.dotGeneral_plain_apply none x w r j

/-- The kernel's result is the reference's term, where each device holds its cuts of the arguments. -/
theorem full_ref (hX : ∀ c : Dev nD, X c = Layout.block ⟨2, ![8192, 512]⟩ SX 1 16 c x) (hY : ∀ c : Dev nD, Y c = Layout.block ⟨2, ![512, 4096]⟩ SW 0 16 c w) :
    fullV X Y = refTerm x w := by
  funext i
  obtain ⟨r, j, rfl⟩ : ∃ (r : Fin 8192) (j : Fin 4096), i = ix2 r j := ⟨i 0, i 1, eq_ix2 i⟩
  refine (full_sum X Y r j).trans ((ref_apply x w r j).trans ?_).symm
  rw [sum_split]
  congr 1
  refine Finset.sum_congr rfl fun c _ => Finset.sum_congr rfl fun k _ => ?_
  rw [hX c, hY c]
  show _ = x (Layout.Tiles.idx _ c (ix2 r k)) * w (Layout.Tiles.idx _ c (ix2 k j))
  congr 2
  · funext b; apply Fin.ext; fin_cases b <;> rfl
  · funext b; apply Fin.ext; fin_cases b <;> rfl

/-- The kernel over the extended reals computes what the reference does, on every device. -/
theorem value : Cert.algebraic_KernelIdeal_ReferenceIdeal (hKernelIdeal := Cert.KernelIdeal.Gen.facts) (hReferenceIdeal := Cert.ReferenceIdeal.Gen.facts) := by
  intro m g m' g' _ hm
  have e := full_ref (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (Xm (F := Ideal) m) (Ym (F := Ideal) m) (fun c => (Xm_eq (F := Ideal) m c).trans (hm c).1) (fun c => (Ym_eq (F := Ideal) m c).trans (hm c).2)
  refine ⟨refTerm (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run (Cert.KernelIdeal.defs (F := Ideal)) _ _).mono
      (fun _ h c => ⟨((h.1 c).1).trans e, (h.1 c).2.1, (h.1 c).2.2⟩) (run_main (F := Ideal) m g)
  · exact (θ_run (Cert.ReferenceIdeal.defs (F := Ideal)) _ _).mono
      (fun _ h => ⟨(h 0).1, (h 0).2.1, (h 0).2.2⟩) (Cert.ReferenceIdeal.Value.run (F := Ideal) m' g')

end Cert.Ring
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- Every claim: the three runs, that the idealized kernel is the text of the kernel, and the value of its result. -/
theorem claim : Cert.Claim := ⟨Cert.Kernel.Gen.facts, Cert.KernelIdeal.Gen.facts, Cert.ReferenceIdeal.Gen.facts,
  Cert.Ring.frame_kernel, Cert.Ring.frame_ideal, Cert.Ring.frame_ref, trivial, Cert.Ring.value⟩

end Cert.Proof

end
